-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_queries [hPre_finite_queries : Cert.Pre_finite_queries.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_queries.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_queries [hPre_finite_queries : Cert.Pre_finite_queries.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_queries.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_queries [hKernel5Ideal : Cert.Kernel5Ideal.Facts] [hPre_finite_queries : Cert.Pre_finite_queries.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_queries m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_queries [hReference5Ideal : Cert.Reference5Ideal.Facts] [hPre_finite_queries : Cert.Pre_finite_queries.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_queries m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)) (v6 : (c : Dev Cert.Kernel3Ideal.nD) → Buf (Elt Ideal) ((c.tc : Thread Cert.Kernel3Ideal.nD Cert.Kernel3Ideal.τ).loc Cert.Kernel3Ideal.main_v7_6)) (v7 : (c : Dev Cert.Kernel3Ideal.nD) → Buf (Elt Ideal) ((c.tc : Thread Cert.Kernel3Ideal.nD Cert.Kernel3Ideal.τ).loc Cert.Kernel3Ideal.main_v7_7)) (v8 : (c : Dev Cert.Kernel3Ideal.nD) → Buf (Elt Ideal) ((c.tc : Thread Cert.Kernel3Ideal.nD Cert.Kernel3Ideal.τ).loc Cert.Kernel3Ideal.main_v7_8)) (v9 : (c : Dev Cert.Kernel3Ideal.nD) → Buf (Elt Ideal) ((c.tc : Thread Cert.Kernel3Ideal.nD Cert.Kernel3Ideal.τ).loc Cert.Kernel3Ideal.main_v7_9)) (v10 : (c : Dev Cert.Kernel3Ideal.nD) → Buf (Elt Ideal) ((c.tc : Thread Cert.Kernel3Ideal.nD Cert.Kernel3Ideal.τ).loc Cert.Kernel3Ideal.main_v7_10)) (v11 : (c : Dev Cert.Kernel3Ideal.nD) → Buf (Elt Ideal) ((c.tc : Thread Cert.Kernel3Ideal.nD Cert.Kernel3Ideal.τ).loc Cert.Kernel3Ideal.main_v7_11)) (v12 : (c : Dev Cert.Kernel3Ideal.nD) → Buf (Elt Ideal) ((c.tc : Thread Cert.Kernel3Ideal.nD Cert.Kernel3Ideal.τ).loc Cert.Kernel3Ideal.main_v7_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_v7_6) = v6 c
          ∧ r.2.mem ((c.tc : Thread Cert.Kernel3Ideal.nD Cert.Kernel3Ideal.τ).loc Cert.Kernel3Ideal.main_v7_7) = v7 c
          ∧ r.2.mem ((c.tc : Thread Cert.Kernel3Ideal.nD Cert.Kernel3Ideal.τ).loc Cert.Kernel3Ideal.main_v7_8) = v8 c
          ∧ r.2.mem ((c.tc : Thread Cert.Kernel3Ideal.nD Cert.Kernel3Ideal.τ).loc Cert.Kernel3Ideal.main_v7_9) = v9 c
          ∧ r.2.mem ((c.tc : Thread Cert.Kernel3Ideal.nD Cert.Kernel3Ideal.τ).loc Cert.Kernel3Ideal.main_v7_10) = v10 c
          ∧ r.2.mem ((c.tc : Thread Cert.Kernel3Ideal.nD Cert.Kernel3Ideal.τ).loc Cert.Kernel3Ideal.main_v7_11) = v11 c
          ∧ r.2.mem ((c.tc : Thread Cert.Kernel3Ideal.nD Cert.Kernel3Ideal.τ).loc Cert.Kernel3Ideal.main_v7_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_v43) = v4 c
          ∧ r.2.mem ((c.tc : Thread Cert.Reference3Ideal.nD Cert.Reference3Ideal.τ).loc Cert.Reference3Ideal.main_v45) = v5 c
          ∧ r.2.mem ((c.tc : Thread Cert.Reference3Ideal.nD Cert.Reference3Ideal.τ).loc Cert.Reference3Ideal.main_v47) = v6 c
          ∧ r.2.mem ((c.tc : Thread Cert.Reference3Ideal.nD Cert.Reference3Ideal.τ).loc Cert.Reference3Ideal.main_v49) = v7 c
          ∧ r.2.mem ((c.tc : Thread Cert.Reference3Ideal.nD Cert.Reference3Ideal.τ).loc Cert.Reference3Ideal.main_v50) = v8 c
          ∧ r.2.mem ((c.tc : Thread Cert.Reference3Ideal.nD Cert.Reference3Ideal.τ).loc Cert.Reference3Ideal.main_v51) = v9 c
          ∧ r.2.mem ((c.tc : Thread Cert.Reference3Ideal.nD Cert.Reference3Ideal.τ).loc Cert.Reference3Ideal.main_v52) = v10 c
          ∧ r.2.mem ((c.tc : Thread Cert.Reference3Ideal.nD Cert.Reference3Ideal.τ).loc Cert.Reference3Ideal.main_v53) = v11 c
          ∧ r.2.mem ((c.tc : Thread Cert.Reference3Ideal.nD Cert.Reference3Ideal.τ).loc Cert.Reference3Ideal.main_v54) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_finite_queries [hKernel5Ideal : Cert.Kernel5Ideal.Facts] [hReference5Ideal : Cert.Reference5Ideal.Facts] [hPre_finite_queries : Cert.Pre_finite_queries.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_queries m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_queries : Cert.Pre_finite_queries.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_queries (hKernel5Ideal := hKernel5Ideal) (hPre_finite_queries := hPre_finite_queries)
    ∧ quiescent_Reference5Ideal (hReference5Ideal := hReference5Ideal)
    ∧ quiescent_Reference5Ideal_pre_finite_queries (hReference5Ideal := hReference5Ideal) (hPre_finite_queries := hPre_finite_queries)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_queries (hKernel5Ideal := hKernel5Ideal) (hReference5Ideal := hReference5Ideal) (hPre_finite_queries := hPre_finite_queries)
    ∧ preserves_Kernel6_Kernel6Ideal
    ∧ algebraic_Kernel6Ideal_Reference6Ideal (hKernel6Ideal := hKernel6Ideal) (hReference6Ideal := hReference6Ideal)
-- ==== Pre_finite_queries.lean ====
abbrev S2x16384x512 : Shape := ⟨3, ![2, 16384, 512]⟩
abbrev S2x64x512 : Shape := ⟨3, ![2, 64, 512]⟩
abbrev S_ : Shape := ⟨0, ![]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S2x64x512 : S_.BroadcastsInDim S2x64x512 (![] : Fin 0 → Fin S2x64x512.rank)
  reducesTo_S2x64x512_S_d0_1_2 : S2x64x512.ReducesTo [0, 1, 2] S_

variable [Facts]

def fn {F : FTy → Type} [FloatOps F] (main_arg0 : FVec F S2x16384x512 .bf16) (main_arg1 : FVec F S2x16384x512 .bf16) (main_arg2 : FVec F S2x64x512 .f32) : IVec S_ 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_c : IVec S_ 1 := constantI S_ 1 1#1
  let main_v4 : IVec S_ 1 := (fun x v => Host.reduce IntOp.andi x v reducesTo_S2x16384x512_S_d0_1_2 h_S_) main_v3 main_c
  let main_v5 : FVec F S2x64x512 .f32 := Host.absf main_arg2
  let main_cst_0 : FVec F S_ .f32 := constant S_ .f32 0x7F800000#32
  let main_v6 : FVec F S2x64x512 .f32 := broadcastInDim S2x64x512 ![] bcast_S_S2x64x512 main_cst_0
  let main_v7 : IVec S2x64x512 1 := cmpf .olt main_v5 main_v6
  let main_c_1 : IVec S_ 1 := constantI S_ 1 1#1
  let main_v8 : IVec S_ 1 := (fun x v => Host.reduce IntOp.andi x v reducesTo_S2x64x512_S_d0_1_2 h_S_) main_v7 main_c_1
  let main_v9 : IVec S_ 1 := andi main_v4 main_v8
  main_v9
-- ==== Kernel.lean ====
abbrev S2x16384x512 : Shape := ⟨3, ![2, 16384, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S1x64x64 : Shape := ⟨3, ![1, 64, 64]⟩
abbrev S64x64 : Shape := ⟨2, ![64, 64]⟩
abbrev S_ : Shape := ⟨0, ![]⟩
abbrev S64x512 : Shape := ⟨2, ![64, 512]⟩
abbrev S512x512 : Shape := ⟨2, ![512, 512]⟩
abbrev S1x256x512 : Shape := ⟨3, ![1, 256, 512]⟩
abbrev S264x512 : Shape := ⟨2, ![264, 512]⟩
abbrev S8x512 : Shape := ⟨2, ![8, 512]⟩
abbrev S256x512 : Shape := ⟨2, ![256, 512]⟩

abbrev nBuf : Space → Nat
  | .hbm => 82
  | .vmem => 15
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S4x512, .f32⟩
  | .hbm, ⟨3, _⟩ => ⟨S512, .f32⟩
  | .hbm, ⟨4, _⟩ => ⟨S8x64x64, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S1x64x64, .f32⟩
  | .hbm, ⟨11, _⟩ => ⟨S64x64, .f32⟩
  | .hbm, ⟨12, _⟩ => ⟨S1x64x64, .f32⟩
  | .hbm, ⟨13, _⟩ => ⟨S64x64, .f32⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S1x64x64, .f32⟩
  | .hbm, ⟨19, _⟩ => ⟨S64x64, .f32⟩
  | .hbm, ⟨20, _⟩ => ⟨S1x64x64, .f32⟩
  | .hbm, ⟨21, _⟩ => ⟨S64x64, .f32⟩
  | .hbm, ⟨22, _⟩ => ⟨S1x64x64, .f32⟩
  | .hbm, ⟨23, _⟩ => ⟨S64x64, .f32⟩
  | .hbm, ⟨24, _⟩ => ⟨S1x64x64, .f32⟩
  | .hbm, ⟨25, _⟩ => ⟨S64x64, .f32⟩
  | .hbm, ⟨26, _⟩ => ⟨S_, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S_, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S_, .f32⟩
  | .hbm, ⟨35, _⟩ => ⟨S64x512, .f32⟩
  | .hbm, ⟨36, _⟩ => ⟨S_, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S_, .f32⟩
  | .hbm, ⟨41, _⟩ => ⟨S64x512, .f32⟩
  | .hbm, ⟨42, _⟩ => ⟨S512x512, .f32⟩
  | .hbm, ⟨43, _⟩ => ⟨S512x512, .bf16⟩
  | .hbm, ⟨44, _⟩ => ⟨S1x512, .f32⟩
  | .hbm, ⟨45, _⟩ => ⟨S1x64x64, .f32⟩
  | .hbm, ⟨46, _⟩ => ⟨S64x64, .f32⟩
  | .hbm, ⟨47, _⟩ => ⟨S1x64x64, .f32⟩
  | .hbm, ⟨48, _⟩ => ⟨S64x64, .f32⟩
  | .hbm, ⟨49, _⟩ => ⟨S1x64x64, .f32⟩
  | .hbm, ⟨50, _⟩ => ⟨S64x64, .f32⟩
  | .hbm, ⟨51, _⟩ => ⟨S1x64x64, .f32⟩
  | .hbm, ⟨52, _⟩ => ⟨S64x64, .f32⟩
  | .hbm, ⟨53, _⟩ => ⟨S1x64x64, .f32⟩
  | .hbm, ⟨54, _⟩ => ⟨S64x64, .f32⟩
  | .hbm, ⟨55, _⟩ => ⟨S1x64x64, .f32⟩
  | .hbm, ⟨56, _⟩ => ⟨S64x64, .f32⟩
  | .hbm, ⟨57, _⟩ => ⟨S1x64x64, .f32⟩
  | .hbm, ⟨58, _⟩ => ⟨S64x64, .f32⟩
  | .hbm, ⟨59, _⟩ => ⟨S1x64x64, .f32⟩
  | .hbm, ⟨60, _⟩ => ⟨S64x64, .f32⟩
  | .hbm, ⟨61, _⟩ => ⟨S_, .f32⟩
  | .hbm, ⟨62, _⟩ => ⟨S64x512, .f32⟩
  | .hbm, ⟨63, _⟩ => ⟨S_, .f32⟩
  | .hbm, ⟨64, _⟩ => ⟨S64x512, .f32⟩
  | .hbm, ⟨65, _⟩ => ⟨S_, .f32⟩
  | .hbm, ⟨66, _⟩ => ⟨S64x512, .f32⟩
  | .hbm, ⟨67, _⟩ => ⟨S_, .f32⟩
  | .hbm, ⟨68, _⟩ => ⟨S64x512, .f32⟩
  | .hbm, ⟨69, _⟩ => ⟨S_, .f32⟩
  | .hbm, ⟨70, _⟩ => ⟨S64x512, .f32⟩
  | .hbm, ⟨71, _⟩ => ⟨S_, .f32⟩
  | .hbm, ⟨72, _⟩ => ⟨S64x512, .f32⟩
  | .hbm, ⟨73, _⟩ => ⟨S_, .f32⟩
  | .hbm, ⟨74, _⟩ => ⟨S64x512, .f32⟩
  | .hbm, ⟨75, _⟩ => ⟨S_, .f32⟩
  | .hbm, ⟨76, _⟩ => ⟨S64x512, .f32⟩
  | .hbm, ⟨77, _⟩ => ⟨S512x512, .f32⟩
  | .hbm, ⟨78, _⟩ => ⟨S512x512, .bf16⟩
  | .hbm, ⟨79, _⟩ => ⟨S1x512, .f32⟩
  | .hbm, ⟨80, _⟩ => ⟨S1x512, .f32⟩
  | .hbm, ⟨81, _⟩ => ⟨S2x16384x512, .bf16⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x256x512, .bf16⟩
  | .local _ .vmem, ⟨12, _⟩ => ⟨S1x256x512, .bf16⟩
  | .local _ .vmem, ⟨13, _⟩ => ⟨S264x512, .f32⟩
  | .local _ .vmem, ⟨14, _⟩ => ⟨S1x512, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v8 : Ref sig .tc := ⟨.hbm, 27, rfl⟩
abbrev main_call0_cst_0 : Ref sig .tc := ⟨.hbm, 28, rfl⟩
abbrev main_call0_v9 : Ref sig .tc := ⟨.hbm, 29, rfl⟩
abbrev main_call0_cst_1 : Ref sig .tc := ⟨.hbm, 30, rfl⟩
abbrev main_call0_v10 : Ref sig .tc := ⟨.hbm, 31, rfl⟩
abbrev main_call0_cst_2 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_v13 : Ref sig .tc := ⟨.hbm, 37, rfl⟩
abbrev main_call0_cst_5 : Ref sig .tc := ⟨.hbm, 38, rfl⟩
abbrev main_call0_v14 : Ref sig .tc := ⟨.hbm, 39, rfl⟩
abbrev main_call0_cst_6 : Ref sig .tc := ⟨.hbm, 40, rfl⟩
abbrev main_call0_v15 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_cst : Ref sig .tc := ⟨.hbm, 61, rfl⟩
abbrev main_call1_v8 : Ref sig .tc := ⟨.hbm, 62, rfl⟩
abbrev main_call1_cst_0 : Ref sig .tc := ⟨.hbm, 63, rfl⟩
abbrev main_call1_v9 : Ref sig .tc := ⟨.hbm, 64, rfl⟩
abbrev main_call1_cst_1 : Ref sig .tc := ⟨.hbm, 65, rfl⟩
abbrev main_call1_v10 : Ref sig .tc := ⟨.hbm, 66, rfl⟩
abbrev main_call1_cst_2 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_v13 : Ref sig .tc := ⟨.hbm, 72, rfl⟩
abbrev main_call1_cst_5 : Ref sig .tc := ⟨.hbm, 73, rfl⟩
abbrev main_call1_v14 : Ref sig .tc := ⟨.hbm, 74, rfl⟩
abbrev main_call1_cst_6 : Ref sig .tc := ⟨.hbm, 75, rfl⟩
abbrev main_call1_v15 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x16384x512 : Shape := ⟨3, ![2, 16384, 512]⟩
abbrev S4x512 : Shape := ⟨2, ![4, 512]⟩
abbrev S512 : Shape := ⟨1, ![512]⟩
abbrev S8x64x64 : Shape := ⟨3, ![8, 64, 64]⟩
abbrev S_ : Shape := ⟨0, ![]⟩
abbrev S2x16387x512 : Shape := ⟨3, ![2, 16387, 512]⟩
abbrev S1x512 : Shape := ⟨2, ![1, 512]⟩
abbrev S1x1x512 : Shape := ⟨3, ![1, 1, 512]⟩
abbrev S2x16384x8x64 : Shape := ⟨4, ![2, 16384, 8, 64]⟩
abbrev S8x64x2x16384 : Shape := ⟨4, ![8, 64, 2, 16384]⟩
abbrev S2x512 : Shape := ⟨2, ![2, 512]⟩
abbrev S16384x2x512 : Shape := ⟨3, ![16384, 2, 512]⟩
abbrev S1x2x512 : Shape := ⟨3, ![1, 2, 512]⟩

abbrev nBuf : Space → Nat
  | .hbm => 151
  | .vmem => 0
  | .smem => 0
  | _ => 0

abbrev hbmTy0_0 (i : Nat) : BufTy := match i % 128 with
  | 0 => ⟨S2x16384x512, .f32⟩
  | 1 => ⟨S2x16384x512, .f32⟩
  | 2 => ⟨S4x512, .f32⟩
  | 3 => ⟨S512, .f32⟩
  | 4 => ⟨S8x64x64, .f32⟩
  | 5 => ⟨S512, .f32⟩
  | 6 => ⟨S8x64x64, .f32⟩
  | 7 => ⟨S512, .f32⟩
  | 8 => ⟨S512, .f32⟩
  | 9 => ⟨S_, .i32⟩
  | 10 => ⟨S_, .f32⟩
  | 11 => ⟨S2x16387x512, .f32⟩
  | 12 => ⟨S1x512, .f32⟩
  | 13 => ⟨S512, .f32⟩
  | 14 => ⟨S2x16384x512, .f32⟩
  | 15 => ⟨S1x1x512, .f32⟩
  | 16 => ⟨S2x16384x512, .f32⟩
  | 17 => ⟨S2x16384x512, .f32⟩
  | 18 => ⟨S1x1x512, .f32⟩
  | 19 => ⟨S2x16384x512, .f32⟩
  | 20 => ⟨S2x16384x512, .f32⟩
  | 21 => ⟨S1x512, .f32⟩
  | 22 => ⟨S512, .f32⟩
  | 23 => ⟨S2x16384x512, .f32⟩
  | 24 => ⟨S1x1x512, .f32⟩
  | 25 => ⟨S2x16384x512, .f32⟩
  | 26 => ⟨S2x16384x512, .f32⟩
  | 27 => ⟨S2x16384x512, .f32⟩
  | 28 => ⟨S1x512, .f32⟩
  | 29 => ⟨S512, .f32⟩
  | 30 => ⟨S2x16384x512, .f32⟩
  | 31 => ⟨S1x1x512, .f32⟩
  | 32 => ⟨S2x16384x512, .f32⟩
  | 33 => ⟨S2x16384x512, .f32⟩
  | 34 => ⟨S2x16384x512, .f32⟩
  | 35 => ⟨S1x512, .f32⟩
  | 36 => ⟨S512, .f32⟩
  | 37 => ⟨S2x16384x512, .f32⟩
  | 38 => ⟨S1x1x512, .f32⟩
  | 39 => ⟨S2x16384x512, .f32⟩
  | 40 => ⟨S2x16384x512, .f32⟩
  | 41 => ⟨S2x16384x512, .f32⟩
  | 42 => ⟨S2x16384x8x64, .f32⟩
  | 43 => ⟨S8x64x2x16384, .f32⟩
  | 44 => ⟨S2x16384x8x64, .f32⟩
  | 45 => ⟨S2x16384x512, .f32⟩
  | 46 => ⟨S1x1x512, .f32⟩
  | 47 => ⟨S2x16384x512, .f32⟩
  | 48 => ⟨S2x16384x512, .f32⟩
  | 49 => ⟨S2x16384x512, .f32⟩
  | 50 => ⟨S2x16384x512, .f32⟩
  | 51 => ⟨S_, .f32⟩
  | 52 => ⟨S2x16384x512, .f32⟩
  | 53 => ⟨S2x16384x512, .f32⟩
  | 54 => ⟨S_, .f32⟩
  | 55 => ⟨S2x16384x512, .f32⟩
  | 56 => ⟨S2x16384x512, .f32⟩
  | 57 => ⟨S8x64x2x16384, .f32⟩
  | 58 => ⟨S2x16384x8x64, .f32⟩
  | 59 => ⟨S2x16384x512, .f32⟩
  | 60 => ⟨S1x1x512, .f32⟩
  | 61 => ⟨S2x16384x512, .f32⟩
  | 62 => ⟨S2x16384x512, .f32⟩
  | 63 => ⟨S2x16384x512, .f32⟩
  | 64 => ⟨S2x16384x512, .f32⟩
  | 65 => ⟨S_, .f32⟩
  | 66 => ⟨S2x16384x512, .f32⟩
  | 67 => ⟨S2x16384x512, .f32⟩
  | 68 => ⟨S_, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S512, .f32⟩
  | 75 => ⟨S_, .f32⟩
  | 76 => ⟨S512, .f32⟩
  | 77 => ⟨S512, .f32⟩
  | 78 => ⟨S512, .f32⟩
  | 79 => ⟨S512, .f32⟩
  | 80 => ⟨S512, .i1⟩
  | 81 => ⟨S512, .f32⟩
  | 82 => ⟨S512, .f32⟩
  | 83 => ⟨S512, .f32⟩
  | 84 => ⟨S512, .f32⟩
  | 85 => ⟨S512, .f32⟩
  | 86 => ⟨S512, .f32⟩
  | 87 => ⟨S512, .f32⟩
  | 88 => ⟨S512, .f32⟩
  | 89 => ⟨S1x1x512, .f32⟩
  | 90 => ⟨S2x16384x512, .f32⟩
  | 91 => ⟨S2x16384x512, .f32⟩
  | 92 => ⟨S2x16384x512, .f32⟩
  | 93 => ⟨S_, .f32⟩
  | 94 => ⟨S2x16384x512, .f32⟩
  | 95 => ⟨S2x16384x512, .f32⟩
  | 96 => ⟨S2x16384x512, .f32⟩
  | 97 => ⟨S2x16384x512, .f32⟩
  | 98 => ⟨S2x16384x512, .f32⟩
  | 99 => ⟨S2x16384x512, .f32⟩
  | 100 => ⟨S2x16384x512, .f32⟩
  | 101 => ⟨S_, .f32⟩
  | 102 => ⟨S2x512, .f32⟩
  | 103 => ⟨S16384x2x512, .f32⟩
  | 104 => ⟨S16384x2x512, .f32⟩
  | 105 => ⟨S_, .f32⟩
  | 106 => ⟨S16384x2x512, .f32⟩
  | 107 => ⟨S_, .i32⟩
  | 108 => ⟨S16384x2x512, .f32⟩
  | 109 => ⟨S16384x2x512, .f32⟩
  | 110 => ⟨S_, .i32⟩
  | 111 => ⟨S2x512, .f32⟩
  | 112 => ⟨S16384x2x512, .f32⟩
  | 113 => ⟨S_, .i32⟩
  | 114 => ⟨S_, .i1⟩
  | 115 => ⟨S_, .i32⟩
  | 116 => ⟨S_, .i32⟩
  | 117 => ⟨S1x2x512, .f32⟩
  | 118 => ⟨S2x512, .f32⟩
  | 119 => ⟨S_, .i32⟩
  | 120 => ⟨S_, .i32⟩
  | 121 => ⟨S1x2x512, .f32⟩
  | 122 => ⟨S2x512, .f32⟩
  | 123 => ⟨S2x512, .f32⟩
  | 124 => ⟨S2x512, .f32⟩
  | 125 => ⟨S1x2x512, .f32⟩
  | 126 => ⟨S_, .i32⟩
  | 127 => ⟨S_, .i32⟩
  | _ => ⟨S2x16384x512, .f32⟩

abbrev hbmTy0_1 (i : Nat) : BufTy := match i % 128 with
  | 0 => ⟨S16384x2x512, .f32⟩
  | 1 => ⟨S_, .i32⟩
  | 2 => ⟨S_, .i32⟩
  | 3 => ⟨S2x16384x512, .f32⟩
  | 4 => ⟨S2x16384x512, .f32⟩
  | 5 => ⟨S2x16384x512, .f32⟩
  | 6 => ⟨S_, .f32⟩
  | 7 => ⟨S2x16384x512, .f32⟩
  | 8 => ⟨S2x16384x512, .f32⟩
  | 9 => ⟨S2x16384x512, .f32⟩
  | 10 => ⟨S_, .f32⟩
  | 11 => ⟨S2x16384x512, .f32⟩
  | 12 => ⟨S2x16384x512, .f32⟩
  | 13 => ⟨S2x16384x512, .f32⟩
  | 14 => ⟨S_, .f32⟩
  | 15 => ⟨S2x16384x512, .f32⟩
  | 16 => ⟨S2x16384x512, .f32⟩
  | 17 => ⟨S_, .f32⟩
  | 18 => ⟨S2x16384x512, .f32⟩
  | 19 => ⟨S2x16384x512, .f32⟩
  | 20 => ⟨S2x16384x512, .f32⟩
  | 21 => ⟨S2x16384x512, .f32⟩
  | 22 => ⟨S2x16384x512, .bf16⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev main_cst_2 : Ref sig .tc := ⟨.hbm, 68, rfl⟩
abbrev main_v54 : Ref sig .tc := ⟨.hbm, 69, rfl⟩
abbrev main_v55 : Ref sig .tc := ⟨.hbm, 70, rfl⟩
abbrev main_cst_3 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_4 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_6 : Ref sig .tc := ⟨.hbm, 105, rfl⟩
abbrev main_v74 : Ref sig .tc := ⟨.hbm, 106, rfl⟩
abbrev main_c_7 : Ref sig .tc := ⟨.hbm, 107, rfl⟩
abbrev main_v75_0 : Ref sig .tc := ⟨.hbm, 108, rfl⟩
abbrev main_v75_1 : Ref sig .tc := ⟨.hbm, 109, rfl⟩
abbrev main_v75_2 : Ref sig .tc := ⟨.hbm, 110, rfl⟩
abbrev main_v75_3 : Ref sig .tc := ⟨.hbm, 111, rfl⟩
abbrev main_v75_4 : Ref sig .tc := ⟨.hbm, 112, rfl⟩
abbrev main_while0c_c_16 : Ref sig .tc := ⟨.hbm, 113, rfl⟩
abbrev main_while0c_v92 : Ref sig .tc := ⟨.hbm, 114, rfl⟩
abbrev main_while0b_call2_c : Ref sig .tc := ⟨.hbm, 115, rfl⟩
abbrev main_while0b_call2_c_0 : Ref sig .tc := ⟨.hbm, 116, rfl⟩
abbrev main_while0b_call2_v0 : Ref sig .tc := ⟨.hbm, 117, rfl⟩
abbrev main_while0b_v92 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v93 : Ref sig .tc := ⟨.hbm, 122, rfl⟩
abbrev main_while0b_v94 : Ref sig .tc := ⟨.hbm, 123, rfl⟩
abbrev main_while0b_v95 : Ref sig .tc := ⟨.hbm, 124, rfl⟩
abbrev main_while0b_call4_v0 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_v96 : Ref sig .tc := ⟨.hbm, 128, rfl⟩
abbrev main_while0b_c_16 : Ref sig .tc := ⟨.hbm, 129, rfl⟩
abbrev main_while0b_v97 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_cst_8 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_cst_9 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_10 : Ref sig .tc := ⟨.hbm, 142, rfl⟩
abbrev main_v85 : Ref sig .tc := ⟨.hbm, 143, rfl⟩
abbrev main_v86 : Ref sig .tc := ⟨.hbm, 144, rfl⟩
abbrev main_cst_11 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩

abbrev nD : Nat := 1
abbrev τ : Topo := Topo.v7x

variable {F : FTy → Type} [FloatOps F]

abbrev main_while0_count : Scf.Loop 32 := ⟨0#32, 16384#32, 1#32⟩
-- ==== Kernel2.lean ====
abbrev S2x16384x1024 : Shape := ⟨3, ![2, 16384, 1024]⟩
abbrev S2x16384x512 : Shape := ⟨3, ![2, 16384, 512]⟩
abbrev S2x16384x3072 : Shape := ⟨3, ![2, 16384, 3072]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S32768x3072 : Shape := ⟨2, ![32768, 3072]⟩
abbrev S1x1024 : Shape := ⟨2, ![1, 1024]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩

abbrev nBuf : Space → Nat
  | .hbm => 27
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S32768x1024, .f32⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x3072, .f32⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x16384x1024 : Shape := ⟨3, ![2, 16384, 1024]⟩
abbrev S2x16384x512 : Shape := ⟨3, ![2, 16384, 512]⟩
abbrev S2x16384x3072 : Shape := ⟨3, ![2, 16384, 3072]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x16384x3x1024 : Shape := ⟨4, ![2, 16384, 3, 1024]⟩
abbrev S2x16384x1x1024 : Shape := ⟨4, ![2, 16384, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S2x16384x512, .f32⟩
  | .hbm, ⟨14, _⟩ => ⟨S2x16384x512, .f32⟩
  | .hbm, ⟨15, _⟩ => ⟨S2x16384x512, .f32⟩
  | .hbm, ⟨16, _⟩ => ⟨S2x16384x3072, .f32⟩
  | .hbm, ⟨17, _⟩ => ⟨S2x16384x3072, .f32⟩
  | .hbm, ⟨18, _⟩ => ⟨S_, .f32⟩
  | .hbm, ⟨19, _⟩ => ⟨S2x16384x3072, .f32⟩
  | .hbm, ⟨20, _⟩ => ⟨S2x16384x3072, .f32⟩
  | .hbm, ⟨21, _⟩ => ⟨S_, .f32⟩
  | .hbm, ⟨22, _⟩ => ⟨S2x16384x3072, .f32⟩
  | .hbm, ⟨23, _⟩ => ⟨S2x16384x3072, .f32⟩
  | .hbm, ⟨24, _⟩ => ⟨S2x16384x3x1024, .f32⟩
  | .hbm, ⟨25, _⟩ => ⟨S2x16384x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S2x16384x4096, .f32⟩
  | .hbm, ⟨58, _⟩ => ⟨S_, .f32⟩
  | .hbm, ⟨59, _⟩ => ⟨S2x16384x4096, .f32⟩
  | .hbm, ⟨60, _⟩ => ⟨S2x16384x4096, .f32⟩
  | .hbm, ⟨61, _⟩ => ⟨S2x16384x4096, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S2x16384x1, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | .hbm, ⟨80, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x7752 : Shape := ⟨2, ![1024, 7752]⟩
abbrev S1024x3656 : Shape := ⟨2, ![1024, 3656]⟩
abbrev S_ : Shape := ⟨0, ![]⟩
abbrev S1024x56 : Shape := ⟨2, ![1024, 56]⟩
abbrev S1024x4096 : Shape := ⟨2, ![1024, 4096]⟩
abbrev S1024x7808 : Shape := ⟨2, ![1024, 7808]⟩
abbrev S32768x1024 : Shape := ⟨2, ![32768, 1024]⟩
abbrev S1x1024 : Shape := ⟨2, ![1, 1024]⟩
abbrev S32768x512 : Shape := ⟨2, ![32768, 512]⟩
abbrev S32768x64 : Shape := ⟨2, ![32768, 64]⟩
abbrev S32768x8 : Shape := ⟨2, ![32768, 8]⟩
abbrev S32768x3072 : Shape := ⟨2, ![32768, 3072]⟩
abbrev S128x1x512 : Shape := ⟨3, ![128, 1, 512]⟩
abbrev S256x1024 : Shape := ⟨2, ![256, 1024]⟩
abbrev S256x512 : Shape := ⟨2, ![256, 512]⟩
abbrev S256x64 : Shape := ⟨2, ![256, 64]⟩
abbrev S256x8 : Shape := ⟨2, ![256, 8]⟩
abbrev S256x3072 : Shape := ⟨2, ![256, 3072]⟩
abbrev S1x1x512 : Shape := ⟨3, ![1, 1, 512]⟩
abbrev S256 : Shape := ⟨1, ![256]⟩
abbrev S256x1 : Shape := ⟨2, ![256, 1]⟩
abbrev S1024x512 : Shape := ⟨2, ![1024, 512]⟩
abbrev S512 : Shape := ⟨1, ![512]⟩
abbrev S1x512 : Shape := ⟨2, ![1, 512]⟩
abbrev S1024x128 : Shape := ⟨2, ![1024, 128]⟩
abbrev S256x128 : Shape := ⟨2, ![256, 128]⟩
abbrev S1024x1024 : Shape := ⟨2, ![1024, 1024]⟩

abbrev nBuf : Space → Nat
  | .hbm => 24
  | .vmem => 30
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x7752, .f32⟩
  | .hbm, ⟨3, _⟩ => ⟨S1024x3656, .f32⟩
  | .hbm, ⟨4, _⟩ => ⟨S_, .f32⟩
  | .hbm, ⟨5, _⟩ => ⟨S1024x56, .f32⟩
  | .hbm, ⟨6, _⟩ => ⟨S1024x4096, .f32⟩
  | .hbm, ⟨7, _⟩ => ⟨S1024x7808, .f32⟩
  | .hbm, ⟨8, _⟩ => ⟨S1024x7808, .bf16⟩
  | .hbm, ⟨9, _⟩ => ⟨S32768x1024, .f32⟩
  | .hbm, ⟨10, _⟩ => ⟨S1x1024, .f32⟩
  | .hbm, ⟨11, _⟩ => ⟨S32768x512, .bf16⟩
  | .hbm, ⟨12, _⟩ => ⟨S32768x512, .bf16⟩
  | .hbm, ⟨13, _⟩ => ⟨S32768x512, .bf16⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x512, .bf16⟩
  | .hbm, ⟨18, _⟩ => ⟨S32768x64, .bf16⟩
  | .hbm, ⟨19, _⟩ => ⟨S32768x8, .f32⟩
  | .hbm, ⟨20, _⟩ => ⟨S32768x512, .f32⟩
  | .hbm, ⟨21, _⟩ => ⟨S32768x512, .f32⟩
  | .hbm, ⟨22, _⟩ => ⟨S32768x3072, .f32⟩
  | .hbm, ⟨23, _⟩ => ⟨S128x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7808, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x64, .bf16⟩
  | .local _ .vmem, ⟨19, _⟩ => ⟨S256x64, .bf16⟩
  | .local _ .vmem, ⟨20, _⟩ => ⟨S256x8, .f32⟩
  | .local _ .vmem, ⟨21, _⟩ => ⟨S256x8, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x3072, .f32⟩
  | .local _ .vmem, ⟨27, _⟩ => ⟨S256x3072, .f32⟩
  | .local _ .vmem, ⟨28, _⟩ => ⟨S1x1x512, .f32⟩
  | .local _ .vmem, ⟨29, _⟩ => ⟨S1x1x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev main_v7_6 : Ref sig .tc := ⟨.hbm, 17, rfl⟩
abbrev main_v7_7 : Ref sig .tc := ⟨.hbm, 18, rfl⟩
abbrev main_v7_8 : Ref sig .tc := ⟨.hbm, 19, rfl⟩
abbrev main_v7_9 : Ref sig .tc := ⟨.hbm, 20, rfl⟩
abbrev main_v7_10 : Ref sig .tc := ⟨.hbm, 21, rfl⟩
abbrev main_v7_11 : Ref sig .tc := ⟨.hbm, 22, rfl⟩
abbrev main_v7_12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7808 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x16384x1024 : Shape := ⟨3, ![2, 16384, 1024]⟩
abbrev S1024 : Shape := ⟨1, ![1024]⟩
abbrev S1024x7752 : Shape := ⟨2, ![1024, 7752]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x7752 : Shape := ⟨3, ![2, 16384, 7752]⟩
abbrev S2x16384x512 : Shape := ⟨3, ![2, 16384, 512]⟩
abbrev S2x16384x64 : Shape := ⟨3, ![2, 16384, 64]⟩
abbrev S2x16384x8 : Shape := ⟨3, ![2, 16384, 8]⟩
abbrev S2x16384x3072 : Shape := ⟨3, ![2, 16384, 3072]⟩
abbrev S2x64x256x512 : Shape := ⟨4, ![2, 64, 256, 512]⟩
abbrev S2x64x512 : Shape := ⟨3, ![2, 64, 512]⟩
abbrev S32768x512 : Shape := ⟨2, ![32768, 512]⟩
abbrev S32768x64 : Shape := ⟨2, ![32768, 64]⟩
abbrev S32768x8 : Shape := ⟨2, ![32768, 8]⟩
abbrev S32768x3072 : Shape := ⟨2, ![32768, 3072]⟩
abbrev S128x1x512 : Shape := ⟨3, ![128, 1, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x7752, .f32⟩
  | .hbm, ⟨3, _⟩ => ⟨S2x16384x1024, .f32⟩
  | .hbm, ⟨4, _⟩ => ⟨S_, .f32⟩
  | .hbm, ⟨5, _⟩ => ⟨S2x16384, .f32⟩
  | .hbm, ⟨6, _⟩ => ⟨S2x16384x1, .f32⟩
  | .hbm, ⟨7, _⟩ => ⟨S_, .f32⟩
  | .hbm, ⟨8, _⟩ => ⟨S2x16384x1, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S2x16384x1, .f32⟩
  | .hbm, ⟨14, _⟩ => ⟨S2x16384x1024, .f32⟩
  | .hbm, ⟨15, _⟩ => ⟨S2x16384x1024, .f32⟩
  | .hbm, ⟨16, _⟩ => ⟨S1x1x1024, .f32⟩
  | .hbm, ⟨17, _⟩ => ⟨S2x16384x1024, .f32⟩
  | .hbm, ⟨18, _⟩ => ⟨S2x16384x1024, .f32⟩
  | .hbm, ⟨19, _⟩ => ⟨S2x16384x7752, .f32⟩
  | .hbm, ⟨20, _⟩ => ⟨S2x16384x512, .f32⟩
  | .hbm, ⟨21, _⟩ => ⟨S2x16384x512, .f32⟩
  | .hbm, ⟨22, _⟩ => ⟨S2x16384x512, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .hbm, ⟨27, _⟩ => ⟨S2x16384x64, .f32⟩
  | .hbm, ⟨28, _⟩ => ⟨S2x16384x8, .f32⟩
  | .hbm, ⟨29, _⟩ => ⟨S2x16384x512, .f32⟩
  | .hbm, ⟨30, _⟩ => ⟨S2x16384x512, .f32⟩
  | .hbm, ⟨31, _⟩ => ⟨S2x16384x3072, .f32⟩
  | .hbm, ⟨32, _⟩ => ⟨S2x64x256x512, .f32⟩
  | .hbm, ⟨33, _⟩ => ⟨S_, .f32⟩
  | .hbm, ⟨34, _⟩ => ⟨S2x64x512, .f32⟩
  | .hbm, ⟨35, _⟩ => ⟨S_, .f32⟩
  | .hbm, ⟨36, _⟩ => ⟨S2x64x512, .f32⟩
  | .hbm, ⟨37, _⟩ => ⟨S2x64x512, .f32⟩
  | .hbm, ⟨38, _⟩ => ⟨S_, .f32⟩
  | .hbm, ⟨39, _⟩ => ⟨S2x16384x512, .f32⟩
  | .hbm, ⟨40, _⟩ => ⟨S2x16384x512, .f32⟩
  | .hbm, ⟨41, _⟩ => ⟨S32768x512, .f32⟩
  | .hbm, ⟨42, _⟩ => ⟨S32768x512, .bf16⟩
  | .hbm, ⟨43, _⟩ => ⟨S32768x512, .f32⟩
  | .hbm, ⟨44, _⟩ => ⟨S32768x512, .bf16⟩
  | .hbm, ⟨45, _⟩ => ⟨S32768x512, .f32⟩
  | .hbm, ⟨46, _⟩ => ⟨S32768x512, .bf16⟩
  | .hbm, ⟨47, _⟩ => ⟨S_, .f32⟩
  | .hbm, ⟨48, _⟩ => ⟨S2x16384x512, .f32⟩
  | .hbm, ⟨49, _⟩ => ⟨S2x16384x512, .f32⟩
  | .hbm, ⟨50, _⟩ => ⟨S32768x512, .f32⟩
  | .hbm, ⟨51, _⟩ => ⟨S32768x512, .bf16⟩
  | .hbm, ⟨52, _⟩ => ⟨S32768x512, .f32⟩
  | .hbm, ⟨53, _⟩ => ⟨S32768x512, .bf16⟩
  | .hbm, ⟨54, _⟩ => ⟨S32768x512, .f32⟩
  | .hbm, ⟨55, _⟩ => ⟨S32768x512, .bf16⟩
  | .hbm, ⟨56, _⟩ => ⟨S32768x512, .f32⟩
  | .hbm, ⟨57, _⟩ => ⟨S32768x512, .bf16⟩
  | .hbm, ⟨58, _⟩ => ⟨S32768x64, .f32⟩
  | .hbm, ⟨59, _⟩ => ⟨S32768x64, .bf16⟩
  | .hbm, ⟨60, _⟩ => ⟨S32768x8, .f32⟩
  | .hbm, ⟨61, _⟩ => ⟨S32768x512, .f32⟩
  | .hbm, ⟨62, _⟩ => ⟨S32768x512, .f32⟩
  | .hbm, ⟨63, _⟩ => ⟨S32768x3072, .f32⟩
  | .hbm, ⟨64, _⟩ => ⟨S128x1x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x16384x512 : Shape := ⟨3, ![2, 16384, 512]⟩
abbrev S2x16384x3072 : Shape := ⟨3, ![2, 16384, 3072]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S32768x3072 : Shape := ⟨2, ![32768, 3072]⟩
abbrev S1x1024 : Shape := ⟨2, ![1, 1024]⟩
abbrev S256x1024 : Shape := ⟨2, ![256, 1024]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩

abbrev nBuf : Space → Nat
  | .hbm => 27
  | .vmem => 20
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S32768x1024, .f32⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x3072, .f32⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S1x1024, .f32⟩
  | .hbm, ⟨26, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x3072, .f32⟩
  | .local _ .vmem, ⟨9, _⟩ => ⟨S256x3072, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x4096, .bf16⟩
  | .local _ .vmem, ⟨16, _⟩ => ⟨S4096x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S2x16384x1024 : Shape := ⟨3, ![2, 16384, 1024]⟩
abbrev S2x16384x512 : Shape := ⟨3, ![2, 16384, 512]⟩
abbrev S2x16384x3072 : Shape := ⟨3, ![2, 16384, 3072]⟩
abbrev S512x1024 : Shape := ⟨2, ![512, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x16384x3x1024 : Shape := ⟨4, ![2, 16384, 3, 1024]⟩
abbrev S2x16384x1x1024 : Shape := ⟨4, ![2, 16384, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4096 : Shape := ⟨3, ![2, 16384, 4096]⟩
abbrev S32768x1024 : Shape := ⟨2, ![32768, 1024]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x16384x512, .bf16⟩
  | .hbm, ⟨4, _⟩ => ⟨S2x16384x3072, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1024, .f32⟩
  | .hbm, ⟨13, _⟩ => ⟨S2x16384x512, .f32⟩
  | .hbm, ⟨14, _⟩ => ⟨S2x16384x512, .f32⟩
  | .hbm, ⟨15, _⟩ => ⟨S2x16384x512, .f32⟩
  | .hbm, ⟨16, _⟩ => ⟨S2x16384x3072, .f32⟩
  | .hbm, ⟨17, _⟩ => ⟨S2x16384x3072, .f32⟩
  | .hbm, ⟨18, _⟩ => ⟨S_, .f32⟩
  | .hbm, ⟨19, _⟩ => ⟨S2x16384x3072, .f32⟩
  | .hbm, ⟨20, _⟩ => ⟨S2x16384x3072, .f32⟩
  | .hbm, ⟨21, _⟩ => ⟨S_, .f32⟩
  | .hbm, ⟨22, _⟩ => ⟨S2x16384x3072, .f32⟩
  | .hbm, ⟨23, _⟩ => ⟨S2x16384x3072, .f32⟩
  | .hbm, ⟨24, _⟩ => ⟨S2x16384x3x1024, .f32⟩
  | .hbm, ⟨25, _⟩ => ⟨S2x16384x1x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S2x16384x1024, .f32⟩
  | .hbm, ⟨41, _⟩ => ⟨S2x16384x1024, .f32⟩
  | .hbm, ⟨42, _⟩ => ⟨S_, .f32⟩
  | .hbm, ⟨43, _⟩ => ⟨S2x16384, .f32⟩
  | .hbm, ⟨44, _⟩ => ⟨S2x16384x1, .f32⟩
  | .hbm, ⟨45, _⟩ => ⟨S_, .f32⟩
  | .hbm, ⟨46, _⟩ => ⟨S2x16384x1, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S2x16384x1, .f32⟩
  | .hbm, ⟨52, _⟩ => ⟨S2x16384x1024, .f32⟩
  | .hbm, ⟨53, _⟩ => ⟨S2x16384x1024, .f32⟩
  | .hbm, ⟨54, _⟩ => ⟨S1x1x1024, .f32⟩
  | .hbm, ⟨55, _⟩ => ⟨S2x16384x1024, .f32⟩
  | .hbm, ⟨56, _⟩ => ⟨S2x16384x1024, .f32⟩
  | .hbm, ⟨57, _⟩ => ⟨S2x16384x4096, .f32⟩
  | .hbm, ⟨58, _⟩ => ⟨S_, .f32⟩
  | .hbm, ⟨59, _⟩ => ⟨S2x16384x4096, .f32⟩
  | .hbm, ⟨60, _⟩ => ⟨S2x16384x4096, .f32⟩
  | .hbm, ⟨61, _⟩ => ⟨S2x16384x4096, .f32⟩
  | .hbm, ⟨62, _⟩ => ⟨S2x16384x1024, .f32⟩
  | .hbm, ⟨63, _⟩ => ⟨S2x16384x1024, .f32⟩
  | .hbm, ⟨64, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_cst : Ref sig .tc := ⟨.hbm, 58, rfl⟩
abbrev main_call0_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Kernel5.lean ====
abbrev S2x16384x512 : Shape := ⟨3, ![2, 16384, 512]⟩
abbrev S2x64x512 : Shape := ⟨3, ![2, 64, 512]⟩
abbrev S_ : Shape := ⟨0, ![]⟩
abbrev S2x16384x1024 : Shape := ⟨3, ![2, 16384, 1024]⟩
abbrev S1x256x512 : Shape := ⟨3, ![1, 256, 512]⟩
abbrev S1x64x512 : Shape := ⟨3, ![1, 64, 512]⟩
abbrev S1x256x1024 : Shape := ⟨3, ![1, 256, 1024]⟩
abbrev S256x512 : Shape := ⟨2, ![256, 512]⟩
abbrev S64x512 : Shape := ⟨2, ![64, 512]⟩
abbrev S256x64 : Shape := ⟨2, ![256, 64]⟩
abbrev S64x64 : Shape := ⟨2, ![64, 64]⟩
abbrev S256 : Shape := ⟨1, ![256]⟩
abbrev S256x1 : Shape := ⟨2, ![256, 1]⟩
abbrev S1x256x64 : Shape := ⟨3, ![1, 256, 64]⟩

abbrev nBuf : Space → Nat
  | .hbm => 8
  | .vmem => 10
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x64x512, .f32⟩
  | .hbm, ⟨3, _⟩ => ⟨S_, .i32⟩
  | .hbm, ⟨4, _⟩ => ⟨S_, .f32⟩
  | .hbm, ⟨5, _⟩ => ⟨S2x64x512, .f32⟩
  | .hbm, ⟨6, _⟩ => ⟨S2x16384x1024, .bf16⟩
  | .hbm, ⟨7, _⟩ => ⟨S2x16384x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x64x512, .f32⟩
  | .local _ .vmem, ⟨5, _⟩ => ⟨S1x64x512, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S2x16384x512 : Shape := ⟨3, ![2, 16384, 512]⟩
abbrev S2x64x512 : Shape := ⟨3, ![2, 64, 512]⟩
abbrev S2x16384x8x64 : Shape := ⟨4, ![2, 16384, 8, 64]⟩
abbrev S2x64x8x64 : Shape := ⟨4, ![2, 64, 8, 64]⟩
abbrev S64 : Shape := ⟨1, ![64]⟩
abbrev S16384 : Shape := ⟨1, ![16384]⟩
abbrev S_ : Shape := ⟨0, ![]⟩
abbrev S1x16384x1x1 : Shape := ⟨4, ![1, 16384, 1, 1]⟩
abbrev S2x8x64x16384 : Shape := ⟨4, ![2, 8, 64, 16384]⟩
abbrev S1x1x1x64 : Shape := ⟨4, ![1, 1, 1, 64]⟩
abbrev S1x16384x1x64 : Shape := ⟨4, ![1, 16384, 1, 64]⟩
abbrev S2x16384x8x3 : Shape := ⟨4, ![2, 16384, 8, 3]⟩
abbrev S2x16384x8x1 : Shape := ⟨4, ![2, 16384, 8, 1]⟩
abbrev S2x16384x8x128 : Shape := ⟨4, ![2, 16384, 8, 128]⟩
abbrev S2x16384x1024 : Shape := ⟨3, ![2, 16384, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x64x512, .f32⟩
  | .hbm, ⟨3, _⟩ => ⟨S2x16384x512, .f32⟩
  | .hbm, ⟨4, _⟩ => ⟨S2x16384x8x64, .f32⟩
  | .hbm, ⟨5, _⟩ => ⟨S2x16384x512, .f32⟩
  | .hbm, ⟨6, _⟩ => ⟨S2x16384x8x64, .f32⟩
  | .hbm, ⟨7, _⟩ => ⟨S2x64x8x64, .f32⟩
  | .hbm, ⟨8, _⟩ => ⟨S64, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S1x16384x1x1, .i32⟩
  | .hbm, ⟨14, _⟩ => ⟨S_, .f32⟩
  | .hbm, ⟨15, _⟩ => ⟨S2x16384x8x64, .f32⟩
  | .hbm, ⟨16, _⟩ => ⟨S2x16384x8x64, .f32⟩
  | .hbm, ⟨17, _⟩ => ⟨S2x8x64x16384, .f32⟩
  | .hbm, ⟨18, _⟩ => ⟨S2x16384x8x64, .f32⟩
  | .hbm, ⟨19, _⟩ => ⟨S1x1x1x64, .i32⟩
  | .hbm, ⟨20, _⟩ => ⟨S1x16384x1x64, .i32⟩
  | .hbm, ⟨21, _⟩ => ⟨S1x16384x1x64, .i32⟩
  | .hbm, ⟨22, _⟩ => ⟨S1x16384x1x64, .i1⟩
  | .hbm, ⟨23, _⟩ => ⟨S_, .f32⟩
  | .hbm, ⟨24, _⟩ => ⟨S_, .f32⟩
  | .hbm, ⟨25, _⟩ => ⟨S2x16384x8x64, .i1⟩
  | .hbm, ⟨26, _⟩ => ⟨S2x16384x8x64, .f32⟩
  | .hbm, ⟨27, _⟩ => ⟨S2x16384x8x64, .f32⟩
  | .hbm, ⟨28, _⟩ => ⟨S2x16384x8x3, .f32⟩
  | .hbm, ⟨29, _⟩ => ⟨S2x16384x8x3, .i32⟩
  | .hbm, ⟨30, _⟩ => ⟨S1x1x1x64, .i32⟩
  | .hbm, ⟨31, _⟩ => ⟨S1x16384x1x64, .i32⟩
  | .hbm, ⟨32, _⟩ => ⟨S1x16384x1x64, .i32⟩
  | .hbm, ⟨33, _⟩ => ⟨S1x16384x1x64, .i1⟩
  | .hbm, ⟨34, _⟩ => ⟨S2x16384x8x1, .i32⟩
  | .hbm, ⟨35, _⟩ => ⟨S1x1x1x64, .i32⟩
  | .hbm, ⟨36, _⟩ => ⟨S2x16384x8x64, .i32⟩
  | .hbm, ⟨37, _⟩ => ⟨S2x16384x8x64, .i32⟩
  | .hbm, ⟨38, _⟩ => ⟨S2x16384x8x64, .i1⟩
  | .hbm, ⟨39, _⟩ => ⟨S2x16384x8x1, .i32⟩
  | .hbm, ⟨40, _⟩ => ⟨S2x16384x8x1, .i1⟩
  | .hbm, ⟨41, _⟩ => ⟨S2x16384x8x64, .i1⟩
  | .hbm, ⟨42, _⟩ => ⟨S2x16384x8x64, .i1⟩
  | .hbm, ⟨43, _⟩ => ⟨S2x16384x8x64, .i1⟩
  | .hbm, ⟨44, _⟩ => ⟨S2x16384x8x64, .i1⟩
  | .hbm, ⟨45, _⟩ => ⟨S2x16384x8x1, .i32⟩
  | .hbm, ⟨46, _⟩ => ⟨S1x1x1x64, .i32⟩
  | .hbm, ⟨47, _⟩ => ⟨S2x16384x8x64, .i32⟩
  | .hbm, ⟨48, _⟩ => ⟨S2x16384x8x64, .i32⟩
  | .hbm, ⟨49, _⟩ => ⟨S2x16384x8x64, .i1⟩
  | .hbm, ⟨50, _⟩ => ⟨S2x16384x8x1, .i32⟩
  | .hbm, ⟨51, _⟩ => ⟨S2x16384x8x1, .i1⟩
  | .hbm, ⟨52, _⟩ => ⟨S2x16384x8x64, .i1⟩
  | .hbm, ⟨53, _⟩ => ⟨S2x16384x8x64, .i1⟩
  | .hbm, ⟨54, _⟩ => ⟨S2x16384x8x64, .i1⟩
  | .hbm, ⟨55, _⟩ => ⟨S2x16384x8x1, .i32⟩
  | .hbm, ⟨56, _⟩ => ⟨S1x1x1x64, .i32⟩
  | .hbm, ⟨57, _⟩ => ⟨S2x16384x8x64, .i32⟩
  | .hbm, ⟨58, _⟩ => ⟨S2x16384x8x64, .i32⟩
  | .hbm, ⟨59, _⟩ => ⟨S2x16384x8x64, .i1⟩
  | .hbm, ⟨60, _⟩ => ⟨S2x16384x8x1, .i32⟩
  | .hbm, ⟨61, _⟩ => ⟨S2x16384x8x1, .i1⟩
  | .hbm, ⟨62, _⟩ => ⟨S2x16384x8x64, .i1⟩
  | .hbm, ⟨63, _⟩ => ⟨S2x16384x8x64, .i1⟩
  | .hbm, ⟨64, _⟩ => ⟨S2x16384x8x64, .i1⟩
  | .hbm, ⟨65, _⟩ => ⟨S1x1x1x64, .i32⟩
  | .hbm, ⟨66, _⟩ => ⟨S1x16384x1x64, .i32⟩
  | .hbm, ⟨67, _⟩ => ⟨S1x16384x1x64, .i32⟩
  | .hbm, ⟨68, _⟩ => ⟨S1x16384x1x64, .i1⟩
  | .hbm, ⟨69, _⟩ => ⟨S_, .f32⟩
  | .hbm, ⟨70, _⟩ => ⟨S_, .f32⟩
  | .hbm, ⟨71, _⟩ => ⟨S1x16384x1x64, .f32⟩
  | .hbm, ⟨72, _⟩ => ⟨S1x16384x1x64, .f32⟩
  | .hbm, ⟨73, _⟩ => ⟨S1x16384x1x64, .f32⟩
  | .hbm, ⟨74, _⟩ => ⟨S_, .f32⟩
  | .hbm, ⟨75, _⟩ => ⟨S_, .f32⟩
  | .hbm, ⟨76, _⟩ => ⟨S2x16384x8x64, .f32⟩
  | .hbm, ⟨77, _⟩ => ⟨S2x16384x8x64, .f32⟩
  | .hbm, ⟨78, _⟩ => ⟨S2x16384x8x64, .f32⟩
  | .hbm, ⟨79, _⟩ => ⟨S2x16384x8x64, .f32⟩
  | .hbm, ⟨80, _⟩ => ⟨S2x16384x8x128, .f32⟩
  | .hbm, ⟨81, _⟩ => ⟨S2x16384x1024, .f32⟩
  | .hbm, ⟨82, _⟩ => ⟨S2x16384x1024, .bf16⟩
  | .hbm, ⟨83, _⟩ => ⟨S2x16384x8x64, .f32⟩
  | .hbm, ⟨84, _⟩ => ⟨S2x16384x8x64, .f32⟩
  | .hbm, ⟨85, _⟩ => ⟨S2x16384x8x128, .f32⟩
  | .hbm, ⟨86, _⟩ => ⟨S2x16384x1024, .f32⟩
  | .hbm, ⟨87, _⟩ => ⟨S2x16384x1024, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_values : Ref sig .tc := ⟨.hbm, 28, rfl⟩
abbrev main_indices : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_1 : Ref sig .tc := ⟨.hbm, 69, rfl⟩
abbrev main_cst_2 : Ref sig .tc := ⟨.hbm, 70, rfl⟩
abbrev main_call1_v0 : Ref sig .tc := ⟨.hbm, 71, rfl⟩
abbrev main_call1_v1 : Ref sig .tc := ⟨.hbm, 72, rfl⟩
abbrev main_v58 : Ref sig .tc := ⟨.hbm, 73, rfl⟩
abbrev main_cst_3 : Ref sig .tc := ⟨.hbm, 74, rfl⟩
abbrev main_cst_4 : Ref sig .tc := ⟨.hbm, 75, rfl⟩
abbrev main_call2_v0 : Ref sig .tc := ⟨.hbm, 76, rfl⟩
abbrev main_call2_v1 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== Kernel6.lean ====
abbrev S32x16 : Shape := ⟨2, ![32, 16]⟩
abbrev S3x16x256x512 : Shape := ⟨4, ![3, 16, 256, 512]⟩
abbrev S1x1x256x512 : Shape := ⟨4, ![1, 1, 256, 512]⟩
abbrev S256x512 : Shape := ⟨2, ![256, 512]⟩
abbrev S1x1 : Shape := ⟨2, ![1, 1]⟩

abbrev nBuf : Space → Nat
  | .hbm => 2
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S3x16x256x512, .f32⟩
  | .local _ .vmem, ⟨0, _⟩ => ⟨S1x1x256x512, .f32⟩
  | .local _ .vmem, ⟨1, _⟩ => ⟨S1x1x256x512, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![3, 16], ![false, false]⟩

def k0_off1 (i : grid0.Coords) : Fin 2 → Nat :=
  let c0 : Index := 0#32
  let arg1 : BitVec 32 := BitVec.ofNat 32 (i 1).val
  let v30 : Index := Scalar.indexCast arg1
  ![0, v30.toNat]
def k0_off2 (i : grid0.Coords) : Fin 2 → Nat :=
  let c1 : Index := 1#32
  let arg1 : BitVec 32 := BitVec.ofNat 32 (i 1).val
  let v36 : Index := Scalar.indexCast arg1
  ![1, v36.toNat]
def k0_off3 (i : grid0.Coords) : Fin 2 → Nat :=
  let c2 : Index := 2#32
  let arg1 : BitVec 32 := BitVec.ofNat 32 (i 1).val
  let v42 : Index := Scalar.indexCast arg1
  ![2, v42.toNat]
def k0_off4 (i : grid0.Coords) : Fin 2 → Nat :=
  let c3 : Index := 3#32
  let arg1 : BitVec 32 := BitVec.ofNat 32 (i 1).val
  let v48 : Index := Scalar.indexCast arg1
  ![3, v48.toNat]
def k0_off5 (i : grid0.Coords) : Fin 2 → Nat :=
  let c4 : Index := 4#32
  let arg1 : BitVec 32 := BitVec.ofNat 32 (i 1).val
  let v54 : Index := Scalar.indexCast arg1
  ![4, v54.toNat]
def k0_off6 (i : grid0.Coords) : Fin 2 → Nat :=
  let c5 : Index := 5#32
  let arg1 : BitVec 32 := BitVec.ofNat 32 (i 1).val
  let v60 : Index := Scalar.indexCast arg1
  ![5, v60.toNat]
def k0_off7 (i : grid0.Coords) : Fin 2 → Nat :=
  let c6 : Index := 6#32
  let arg1 : BitVec 32 := BitVec.ofNat 32 (i 1).val
  let v66 : Index := Scalar.indexCast arg1
  ![6, v66.toNat]
def k0_off8 (i : grid0.Coords) : Fin 2 → Nat :=
  let c7 : Index := 7#32
  let arg1 : BitVec 32 := BitVec.ofNat 32 (i 1).val
  let v72 : Index := Scalar.indexCast arg1
  ![7, v72.toNat]
def k0_off9 (i : grid0.Coords) : Fin 2 → Nat :=
  let c8 : Index := 8#32
  let arg1 : BitVec 32 := BitVec.ofNat 32 (i 1).val
  let v78 : Index := Scalar.indexCast arg1
  ![8, v78.toNat]
def k0_off10 (i : grid0.Coords) : Fin 2 → Nat :=
  let c9 : Index := 9#32
  let arg1 : BitVec 32 := BitVec.ofNat 32 (i 1).val
  let v84 : Index := Scalar.indexCast arg1
  ![9, v84.toNat]
def k0_off11 (i : grid0.Coords) : Fin 2 → Nat :=
  let c10 : Index := 10#32
  let arg1 : BitVec 32 := BitVec.ofNat 32 (i 1).val
  let v90 : Index := Scalar.indexCast arg1
  ![10, v90.toNat]
def k0_off12 (i : grid0.Coords) : Fin 2 → Nat :=
  let c11 : Index := 11#32
  let arg1 : BitVec 32 := BitVec.ofNat 32 (i 1).val
  let v96 : Index := Scalar.indexCast arg1
  ![11, v96.toNat]
def k0_off13 (i : grid0.Coords) : Fin 2 → Nat :=
  let c12 : Index := 12#32
  let arg1 : BitVec 32 := BitVec.ofNat 32 (i 1).val
  let v102 : Index := Scalar.indexCast arg1
  ![12, v102.toNat]
def k0_off14 (i : grid0.Coords) : Fin 2 → Nat :=
  let c13 : Index := 13#32
  let arg1 : BitVec 32 := BitVec.ofNat 32 (i 1).val
  let v108 : Index := Scalar.indexCast arg1
  ![13, v108.toNat]
def k0_off15 (i : grid0.Coords) : Fin 2 → Nat :=
  let c14 : Index := 14#32
  let arg1 : BitVec 32 := BitVec.ofNat 32 (i 1).val
  let v114 : Index := Scalar.indexCast arg1
  ![14, v114.toNat]
def k0_off16 (i : grid0.Coords) : Fin 2 → Nat :=
  let c15 : Index := 15#32
  let arg1 : BitVec 32 := BitVec.ofNat 32 (i 1).val
  let v120 : Index := Scalar.indexCast arg1
  ![15, v120.toNat]
def k0_off17 (i : grid0.Coords) : Fin 2 → Nat :=
  let c16 : Index := 16#32
  let arg1 : BitVec 32 := BitVec.ofNat 32 (i 1).val
  let v126 : Index := Scalar.indexCast arg1
  ![16, v126.toNat]
def k0_off18 (i : grid0.Coords) : Fin 2 → Nat :=
  let c17 : Index := 17#32
  let arg1 : BitVec 32 := BitVec.ofNat 32 (i 1).val
  let v132 : Index := Scalar.indexCast arg1
  ![17, v132.toNat]
def k0_off19 (i : grid0.Coords) : Fin 2 → Nat :=
  let c18 : Index := 18#32
  let arg1 : BitVec 32 := BitVec.ofNat 32 (i 1).val
  let v138 : Index := Scalar.indexCast arg1
  ![18, v138.toNat]
def k0_off20 (i : grid0.Coords) : Fin 2 → Nat :=
  let c19 : Index := 19#32
  let arg1 : BitVec 32 := BitVec.ofNat 32 (i 1).val
  let v144 : Index := Scalar.indexCast arg1
  ![19, v144.toNat]
def k0_off21 (i : grid0.Coords) : Fin 2 → Nat :=
  let c20 : Index := 20#32
  let arg1 : BitVec 32 := BitVec.ofNat 32 (i 1).val
  let v150 : Index := Scalar.indexCast arg1
  ![20, v150.toNat]
def k0_off22 (i : grid0.Coords) : Fin 2 → Nat :=
  let c21 : Index := 21#32
  let arg1 : BitVec 32 := BitVec.ofNat 32 (i 1).val
  let v156 : Index := Scalar.indexCast arg1
  ![21, v156.toNat]
def k0_off23 (i : grid0.Coords) : Fin 2 → Nat :=
  let c22 : Index := 22#32
  let arg1 : BitVec 32 := BitVec.ofNat 32 (i 1).val
  let v162 : Index := Scalar.indexCast arg1
  ![22, v162.toNat]
def k0_off24 (i : grid0.Coords) : Fin 2 → Nat :=
  let c23 : Index := 23#32
  let arg1 : BitVec 32 := BitVec.ofNat 32 (i 1).val
  let v168 : Index := Scalar.indexCast arg1
  ![23, v168.toNat]
def k0_off25 (i : grid0.Coords) : Fin 2 → Nat :=
  let c24 : Index := 24#32
  let arg1 : BitVec 32 := BitVec.ofNat 32 (i 1).val
  let v174 : Index := Scalar.indexCast arg1
  ![24, v174.toNat]
def k0_off26 (i : grid0.Coords) : Fin 2 → Nat :=
  let c25 : Index := 25#32
  let arg1 : BitVec 32 := BitVec.ofNat 32 (i 1).val
  let v180 : Index := Scalar.indexCast arg1
  ![25, v180.toNat]
def k0_off27 (i : grid0.Coords) : Fin 2 → Nat :=
  let c26 : Index := 26#32
  let arg1 : BitVec 32 := BitVec.ofNat 32 (i 1).val
  let v186 : Index := Scalar.indexCast arg1
  ![26, v186.toNat]
def k0_off28 (i : grid0.Coords) : Fin 2 → Nat :=
  let c27 : Index := 27#32
  let arg1 : BitVec 32 := BitVec.ofNat 32 (i 1).val
  let v192 : Index := Scalar.indexCast arg1
  ![27, v192.toNat]
def k0_off29 (i : grid0.Coords) : Fin 2 → Nat :=
  let c28 : Index := 28#32
  let arg1 : BitVec 32 := BitVec.ofNat 32 (i 1).val
  let v198 : Index := Scalar.indexCast arg1
  ![28, v198.toNat]
def k0_off30 (i : grid0.Coords) : Fin 2 → Nat :=
  let c29 : Index := 29#32
  let arg1 : BitVec 32 := BitVec.ofNat 32 (i 1).val
  let v204 : Index := Scalar.indexCast arg1
  ![29, v204.toNat]
def k0_off31 (i : grid0.Coords) : Fin 2 → Nat :=
  let c30 : Index := 30#32
  let arg1 : BitVec 32 := BitVec.ofNat 32 (i 1).val
  let v210 : Index := Scalar.indexCast arg1
  ![30, v210.toNat]
def k0_off32 (i : grid0.Coords) : Fin 2 → Nat :=
  let c31 : Index := 31#32
  let arg1 : BitVec 32 := BitVec.ofNat 32 (i 1).val
  let v216 : Index := Scalar.indexCast arg1
  ![31, v216.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference6Ideal.lean ====
abbrev S32x16 : Shape := ⟨2, ![32, 16]⟩
abbrev S256 : Shape := ⟨1, ![256]⟩
abbrev S1x256x1 : Shape := ⟨3, ![1, 256, 1]⟩
abbrev S3 : Shape := ⟨1, ![3]⟩
abbrev S3x1x1 : Shape := ⟨3, ![3, 1, 1]⟩
abbrev S_ : Shape := ⟨0, ![]⟩
abbrev S512 : Shape := ⟨1, ![512]⟩
abbrev S1x1x512 : Shape := ⟨3, ![1, 1, 512]⟩
abbrev S3x1x512 : Shape := ⟨3, ![3, 1, 512]⟩
abbrev S3x256x512 : Shape := ⟨3, ![3, 256, 512]⟩
abbrev S3x256x512x1 : Shape := ⟨4, ![3, 256, 512, 1]⟩
abbrev S3x256x512x16 : Shape := ⟨4, ![3, 256, 512, 16]⟩
abbrev S3x16x256x512 : Shape := ⟨4, ![3, 16, 256, 512]⟩
abbrev S3x1x256x512 : Shape := ⟨4, ![3, 1, 256, 512]⟩
abbrev S1x16 : Shape := ⟨2, ![1, 16]⟩
abbrev S16 : Shape := ⟨1, ![16]⟩
abbrev S1x16x1x1 : Shape := ⟨4, ![1, 16, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S256, .i32⟩
  | .hbm, ⟨2, _⟩ => ⟨S1x256x1, .i32⟩
  | .hbm, ⟨3, _⟩ => ⟨S3, .i32⟩
  | .hbm, ⟨4, _⟩ => ⟨S3x1x1, .i32⟩
  | .hbm, ⟨5, _⟩ => ⟨S_, .i32⟩
  | .hbm, ⟨6, _⟩ => ⟨S3x1x1, .i32⟩
  | .hbm, ⟨7, _⟩ => ⟨S3x1x1, .i32⟩
  | .hbm, ⟨8, _⟩ => ⟨S_, .i32⟩
  | .hbm, ⟨9, _⟩ => ⟨S3x1x1, .i32⟩
  | .hbm, ⟨10, _⟩ => ⟨S3x1x1, .i32⟩
  | .hbm, ⟨11, _⟩ => ⟨S512, .i32⟩
  | .hbm, ⟨12, _⟩ => ⟨S1x1x512, .i32⟩
  | .hbm, ⟨13, _⟩ => ⟨S3x1x512, .i32⟩
  | .hbm, ⟨14, _⟩ => ⟨S3x1x512, .i32⟩
  | .hbm, ⟨15, _⟩ => ⟨S3x1x512, .i32⟩
  | .hbm, ⟨16, _⟩ => ⟨S3x256x512, .i32⟩
  | .hbm, ⟨17, _⟩ => ⟨S3x256x512, .i32⟩
  | .hbm, ⟨18, _⟩ => ⟨S3x256x512, .i32⟩
  | .hbm, ⟨19, _⟩ => ⟨S_, .i32⟩
  | .hbm, ⟨20, _⟩ => ⟨S3x256x512, .i32⟩
  | .hbm, ⟨21, _⟩ => ⟨S3x256x512, .i32⟩
  | .hbm, ⟨22, _⟩ => ⟨S_, .i32⟩
  | .hbm, ⟨23, _⟩ => ⟨S3x256x512, .i32⟩
  | .hbm, ⟨24, _⟩ => ⟨S3x256x512, .i32⟩
  | .hbm, ⟨25, _⟩ => ⟨S3x256x512, .f32⟩
  | .hbm, ⟨26, _⟩ => ⟨S_, .f32⟩
  | .hbm, ⟨27, _⟩ => ⟨S3x256x512, .f32⟩
  | .hbm, ⟨28, _⟩ => ⟨S3x256x512, .f32⟩
  | .hbm, ⟨29, _⟩ => ⟨S3x256x512, .f32⟩
  | .hbm, ⟨30, _⟩ => ⟨S_, .f32⟩
  | .hbm, ⟨31, _⟩ => ⟨S3x256x512, .f32⟩
  | .hbm, ⟨32, _⟩ => ⟨S3x256x512, .f32⟩
  | .hbm, ⟨33, _⟩ => ⟨S_, .f32⟩
  | .hbm, ⟨34, _⟩ => ⟨S3x256x512, .f32⟩
  | .hbm, ⟨35, _⟩ => ⟨S3x256x512, .f32⟩
  | .hbm, ⟨36, _⟩ => ⟨S3x256x512, .i32⟩
  | .hbm, ⟨37, _⟩ => ⟨S_, .i32⟩
  | .hbm, ⟨38, _⟩ => ⟨S3x256x512, .i32⟩
  | .hbm, ⟨39, _⟩ => ⟨S3x256x512, .i32⟩
  | .hbm, ⟨40, _⟩ => ⟨S_, .i32⟩
  | .hbm, ⟨41, _⟩ => ⟨S3x256x512, .i32⟩
  | .hbm, ⟨42, _⟩ => ⟨S3x256x512, .i32⟩
  | .hbm, ⟨43, _⟩ => ⟨S_, .i32⟩
  | .hbm, ⟨44, _⟩ => ⟨S3x256x512, .i32⟩
  | .hbm, ⟨45, _⟩ => ⟨S3x256x512, .i1⟩
  | .hbm, ⟨46, _⟩ => ⟨S3x256x512, .i32⟩
  | .hbm, ⟨47, _⟩ => ⟨S_, .i32⟩
  | .hbm, ⟨48, _⟩ => ⟨S3x256x512, .i32⟩
  | .hbm, ⟨49, _⟩ => ⟨S3x256x512, .i1⟩
  | .hbm, ⟨50, _⟩ => ⟨S_, .i32⟩
  | .hbm, ⟨51, _⟩ => ⟨S3x256x512, .i32⟩
  | .hbm, ⟨52, _⟩ => ⟨S3x256x512, .i32⟩
  | .hbm, ⟨53, _⟩ => ⟨S3x256x512, .i32⟩
  | .hbm, ⟨54, _⟩ => ⟨S3x256x512x1, .i32⟩
  | .hbm, ⟨55, _⟩ => ⟨S3x256x512x16, .f32⟩
  | .hbm, ⟨56, _⟩ => ⟨S3x16x256x512, .f32⟩
  | .hbm, ⟨57, _⟩ => ⟨S_, .i32⟩
  | .hbm, ⟨58, _⟩ => ⟨S3x256x512, .i32⟩
  | .hbm, ⟨59, _⟩ => ⟨S3x256x512, .i1⟩
  | .hbm, ⟨60, _⟩ => ⟨S3x1x256x512, .i1⟩
  | .hbm, ⟨61, _⟩ => ⟨S1x16, .f32⟩
  | .hbm, ⟨62, _⟩ => ⟨S16, .f32⟩
  | .hbm, ⟨63, _⟩ => ⟨S1x16x1x1, .f32⟩
  | .hbm, ⟨64, _⟩ => ⟨S3x16x256x512, .f32⟩
  | .hbm, ⟨65, _⟩ => ⟨S3x16x256x512, .f32⟩
  | .hbm, ⟨66, _⟩ => ⟨S_, .f32⟩
  | .hbm, ⟨67, _⟩ => ⟨S_, .f32⟩
  | .hbm, ⟨68, _⟩ => ⟨S3x16x256x512, .i1⟩
  | .hbm, ⟨69, _⟩ => ⟨S3x16x256x512, .f32⟩
  | .hbm, ⟨70, _⟩ => ⟨S3x16x256x512, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_c_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_c_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_c_9 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_11 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.RnnScan.lean ====
/-
  The scan of the recurrent branch on plain sequences of extended reals: the doubling passes of the kernel compute the
  recurrence `h ← u + a · h`, for coefficients in `[0, ∞)`. Then the scalar facts of the gates: the decay lies in
  `[0, 1]`, and the two ways to write the input's scale agree.
-/
module

public import Idealize.ShloMosaic.Lib.Pipeline.ValueKit
public import Idealize.ShloMosaic.Lib.Pointwise

@[expose] public section

noncomputable section

namespace Cert.Rnn

open Idealize.ShloMosaic

/-- The last `w` steps of the recurrence that end at position `p`, started from nothing. -/
def reach (a u : ℕ → EReal) : ℕ → ℕ → EReal
  | 0, _ => 0
  | _ + 1, 0 => u 0
  | w + 1, p + 1 => u (p + 1) + a (p + 1) * reach a u w p

/-- The product of the last `w` coefficients that end at position `p`. -/
def decay (a : ℕ → EReal) : ℕ → ℕ → EReal
  | 0, _ => 1
  | _ + 1, 0 => a 0
  | w + 1, p + 1 => a (p + 1) * decay a w p

/-- The state after position `p`, from the state `h` before position 0. -/
def state (a u : ℕ → EReal) (h : EReal) : ℕ → EReal
  | 0 => u 0 + a 0 * h
  | p + 1 => u (p + 1) + a (p + 1) * state a u h p

theorem reach_one (a u : ℕ → EReal) (p : ℕ) : reach a u 1 p = u p := by
  cases p <;> simp [reach]

theorem decay_one (a : ℕ → EReal) (p : ℕ) : decay a 1 p = a p := by
  cases p <;> simp [decay]

/-- A window of `w + v` steps is the window of its last `w` steps, and behind it the one of the `v` steps before. -/
theorem reach_add (a u : ℕ → EReal) (ha : ∀ p, 0 ≤ a p) (ha' : ∀ p, a p ≠ ⊤) (v : ℕ) : ∀ w p : ℕ,
    reach a u (w + v) p = reach a u w p + decay a w p * (if w ≤ p then reach a u v (p - w) else 0)
  | 0, p => by simp [reach, decay]
  | w + 1, 0 => by simp [show w + 1 + v = (w + v) + 1 by omega, reach]
  | w + 1, p + 1 => by
    rw [show w + 1 + v = (w + v) + 1 by omega]
    simp only [reach, decay, Nat.add_sub_add_right, Nat.add_le_add_iff_right]
    rw [reach_add a u ha ha' v w p, EReal.left_distrib_of_nonneg_of_ne_top (ha _) (ha' _), mul_assoc, add_assoc]

theorem decay_add (a : ℕ → EReal) (v : ℕ) : ∀ w p : ℕ,
    decay a (w + v) p = decay a w p * (if w ≤ p then decay a v (p - w) else 1)
  | 0, p => by simp [decay]
  | w + 1, 0 => by simp [show w + 1 + v = (w + v) + 1 by omega, decay]
  | w + 1, p + 1 => by
    rw [show w + 1 + v = (w + v) + 1 by omega]
    simp only [decay, Nat.add_sub_add_right, Nat.add_le_add_iff_right]
    rw [decay_add a v w p, mul_assoc]

/-- A window that holds every position up to `p` gives, with the carried state behind it, the recurrence's state. -/
theorem reach_state (a u : ℕ → EReal) (ha : ∀ p, 0 ≤ a p) (ha' : ∀ p, a p ≠ ⊤) (h : EReal) : ∀ p w : ℕ, p < w →
    reach a u w p + decay a w p * h = state a u h p
  | 0, w + 1, _ => by simp [reach, decay, state]
  | p + 1, w + 1, hw => by
    simp only [reach, decay, state]
    rw [← reach_state a u ha ha' h p w (by omega), EReal.left_distrib_of_nonneg_of_ne_top (ha _) (ha' _), mul_assoc, add_assoc]

/-- The state before position `n` of the whole sequence, from zero. -/
def before (a u : ℕ → EReal) : ℕ → EReal
  | 0 => 0
  | n + 1 => u n + a n * before a u n

/-- The recurrence over a tile that starts at `k` continues the one over the whole sequence. -/
theorem state_tile (a u : ℕ → EReal) (k : ℕ) : ∀ p : ℕ,
    state (fun q => a (k + q)) (fun q => u (k + q)) (before a u k) p = before a u (k + p + 1)
  | 0 => rfl
  | p + 1 => by rw [state, state_tile a u k p]; rfl

/-- One doubling pass over the values of a tile. -/
def passU (d : ℕ) (A U : Fin 256 → EReal) (p : Fin 256) : EReal :=
  U p + A p * (if d ≤ p.val then U ⟨p.val - d, by omega⟩ else 0)

/-- One doubling pass over the coefficients of a tile. -/
def passA (d : ℕ) (A : Fin 256 → EReal) (p : Fin 256) : EReal :=
  A p * (if d ≤ p.val then A ⟨p.val - d, by omega⟩ else 1)

theorem passU_reach (a u : ℕ → EReal) (ha : ∀ p, 0 ≤ a p) (ha' : ∀ p, a p ≠ ⊤) (d : ℕ) :
    passU d (fun p => decay a d p.val) (fun p => reach a u d p.val) = fun p => reach a u (d + d) p.val :=
  funext fun p => (reach_add a u ha ha' d d p.val).symm

theorem passA_decay (a : ℕ → EReal) (d : ℕ) :
    passA d (fun p => decay a d p.val) = fun p => decay a (d + d) p.val :=
  funext fun p => (decay_add a d d p.val).symm

/-! The gates' scalars. -/

/-- The softplus, in the form that does not overflow. -/
def softplus (x : EReal) : EReal := max x 0 + Ideal.log1p (Ideal.exp (0 - FloatOps.absf (F := Ideal) (φ := .f32) x))

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

theorem exp_le_one {x : EReal} (h : x ≤ 0) : Ideal.exp x ≤ 1 := by
  induction x with
  | bot => rw [Ideal.exp_bot]; exact zero_le_one
  | top => simp at h
  | coe r => rw [Ideal.exp_coe]; exact_mod_cast Real.exp_le_one_iff.mpr (by exact_mod_cast h)

theorem exp_ne_top {x : EReal} (h : x ≤ 0) : Ideal.exp x ≠ ⊤ :=
  ne_top_of_le_ne_top (EReal.coe_ne_top 1) (exp_le_one h)

theorem log1p_nonneg {x : EReal} (h : 0 ≤ x) : 0 ≤ Ideal.log1p x := by
  unfold Ideal.log1p
  induction x with
  | bot => simp at h
  | top => rw [EReal.add_top_of_ne_bot (show (1 : EReal) ≠ ⊥ from EReal.coe_ne_bot 1), Ideal.log_top]; exact le_top
  | coe r =>
    have hr : (0 : ℝ) ≤ r := by exact_mod_cast h
    have e : (1 : EReal) + (r : EReal) = ((1 + r : ℝ) : EReal) := by push_cast; rfl
    rw [e, Ideal.log_coe, if_neg (by linarith)]
    exact_mod_cast Real.log_nonneg (by linarith)

theorem softplus_nonneg (x : EReal) : 0 ≤ softplus x :=
  add_nonneg (le_max_right _ _) (log1p_nonneg (exp_nonneg _))

theorem logistic_nonneg (x : EReal) : 0 ≤ Ideal.logistic x := by
  induction x with
  | bot => rw [Ideal.logistic_bot]
  | top => rw [Ideal.logistic_top]; exact zero_le_one
  | coe r => rw [Ideal.logistic_coe]; exact_mod_cast inv_nonneg.mpr (by positivity)

/-- A gate: the logistic of a row's product with a weight column, plus the bias. -/
def gate (row : Fin 512 → EReal) (W : Fin 512 → Fin 512 → EReal) (b : Fin 512 → EReal) (j : Fin 512) : EReal :=
  Ideal.logistic (∑ k, row k * W k j + b j)

/-- The logarithm of the decay. -/
def logDecay (row : Fin 512 → EReal) (W : Fin 512 → Fin 512 → EReal) (b lam : Fin 512 → EReal) (j : Fin 512) : EReal :=
  Ideal.ofBits .f32 0xC1000000#32 * gate row W b j * softplus (0 - lam j)

/-- The decay of a token in a channel. -/
def coeff (row : Fin 512 → EReal) (W : Fin 512 → Fin 512 → EReal) (b lam : Fin 512 → EReal) (j : Fin 512) : EReal :=
  Ideal.exp (logDecay row W b lam j)

/-- What a token adds to the state in a channel: its gated row, scaled so that the state keeps its size. -/
def drive (row : Fin 512 → EReal) (W : Fin 512 → Fin 512 → EReal) (b lam : Fin 512 → EReal) (Wi : Fin 512 → Fin 512 → EReal)
    (bi : Fin 512 → EReal) (j : Fin 512) : EReal :=
  Ideal.sqrt (-(Ideal.exp (2 * logDecay row W b lam j) - 1)) * (gate row Wi bi j * row j)

/-- The logarithm of the decay is not positive. -/
theorem log_decay_nonpos (c r s : EReal) (hc : c ≤ 0) (hr : 0 ≤ r) (hs : 0 ≤ s) : c * r * s ≤ 0 := by
  have h : c * r ≤ 0 := by
    have := mul_nonneg (EReal.neg_nonneg.mpr hc) hr
    rw [EReal.neg_mul] at this; exact EReal.neg_nonneg.mp this
  have := mul_nonneg (EReal.neg_nonneg.mpr h) hs
  rw [EReal.neg_mul] at this; exact EReal.neg_nonneg.mp this

/-- The input's scale, by the hyperbolic tangent, is `1 - e^{2 L}` for `L ≤ 0`. -/
theorem scale_eq (L : EReal) (h : L ≤ 0) :
    (0 - Ideal.tanh L) * (Ideal.exp L * Ideal.exp L + 1) = -(Ideal.exp (2 * L) - 1) := by
  induction L with
  | top => simp at h
  | bot =>
    rw [show (2 : EReal) * ⊥ = ⊥ from EReal.coe_mul_bot_of_pos (by norm_num : (0 : ℝ) < 2)]
    rw [Ideal.tanh_bot, Ideal.exp_bot]; simp
  | coe r =>
    have e : (2 : EReal) * (r : EReal) = ((2 * r : ℝ) : EReal) := by push_cast; rfl
    rw [e, Ideal.tanh_coe, Ideal.exp_coe, Ideal.exp_coe]
    have : (0 - Real.tanh r) * (Real.exp r * Real.exp r + 1) = -(Real.exp (2 * r) - 1) := by
      rw [Real.tanh_eq_sinh_div_cosh, Real.sinh_eq, Real.cosh_eq, two_mul, Real.exp_add, Real.exp_neg]
      have hp := Real.exp_pos r
      field_simp
      ring
    exact_mod_cast this

theorem ofBits_neg8 : Ideal.ofBits .f32 0xC1000000#32 = ((-8 : ℝ) : EReal) := by
  simp [Ideal.ofBits, Ideal.ieee]
  rw [← EReal.coe_mul]; norm_num

theorem logDecay_nonpos (row : Fin 512 → EReal) (W : Fin 512 → Fin 512 → EReal) (b lam : Fin 512 → EReal) (j : Fin 512) :
    logDecay row W b lam j ≤ 0 :=
  log_decay_nonpos _ _ _ (by rw [ofBits_neg8]; exact_mod_cast (by norm_num : (-8 : ℝ) ≤ 0)) (logistic_nonneg _) (softplus_nonneg _)

theorem coeff_nonneg (row : Fin 512 → EReal) (W : Fin 512 → Fin 512 → EReal) (b lam : Fin 512 → EReal) (j : Fin 512) :
    0 ≤ coeff row W b lam j := exp_nonneg _

theorem coeff_ne_top (row : Fin 512 → EReal) (W : Fin 512 → Fin 512 → EReal) (b lam : Fin 512 → EReal) (j : Fin 512) :
    coeff row W b lam j ≠ ⊤ := exp_ne_top (logDecay_nonpos row W b lam j)

/-- The kernel's form of `drive`. -/
theorem drive_tanh (row : Fin 512 → EReal) (W : Fin 512 → Fin 512 → EReal) (b lam : Fin 512 → EReal) (Wi : Fin 512 → Fin 512 → EReal)
    (bi : Fin 512 → EReal) (j : Fin 512) :
    Ideal.sqrt ((0 - Ideal.tanh (logDecay row W b lam j)) * (coeff row W b lam j * coeff row W b lam j + 1))
      * (gate row Wi bi j * row j) = drive row W b lam Wi bi j := by
  unfold drive coeff
  rw [scale_eq _ (logDecay_nonpos row W b lam j)]

end Cert.Rnn
-- ==== Proof.RnnKernel.lean ====
/-
  The recurrent call's kernel at one grid point: what it stores, entry by entry, over the blocks it loads and the
  state that the point before left.
-/
module

public import proofs.«01_k».proof.Defs
public import proofs.«01_k».proof.Proof.RnnScan
public import proofs.«01_k».proof.Proof.Gen.KernelIdeal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Rnn

open Idealize.ShloMosaic Idealize.ShloMosaic.TcCoe Idealize.SL.Sem
open Cert.KernelIdeal Cert.KernelIdeal.Gen

/-- A tile of 256 tokens by 512 channels. -/
abbrev Tile := FVec Ideal S256x512 .f32

/-- Column `j` of a tile. -/
def col (X : Tile) (j : Fin 512) : Fin 256 → EReal := fun p => X (ix2 p j)

/-- A pass over the columns of a tile of values. -/
def liftU (d : ℕ) (A U : Tile) : Tile := fun i => passU d (col A (i 1)) (col U (i 1)) (i 0)

/-- A pass over the columns of a tile of coefficients. -/
def liftA (d : ℕ) (A : Tile) : Tile := fun i => passA d (col A (i 1)) (i 0)

/-- The mask of a pass: the rows from `d` on. -/
theorem mask_apply (d : BitVec 32) (hd : d.toNat < 256) (p : Fin 256) (j : Fin 512) :
    (cmpi .sge (iota .tc S256x512 32 [0] iota_S256x512_d0_w32) (broadcast S256x512 d) : IVec S256x512 1) (ix2 p j)
      = if d.toNat ≤ p.val then 1#1 else 0#1 := by
  pointwise
  have h1 : (BitVec.ofNat 32 p.val).toNat = p.val := by rw [BitVec.toNat_ofNat]; omega
  have h2 : d.sle (BitVec.ofNat 32 p.val) = decide (d.toNat ≤ p.val) := by
    rw [BitVec.sle_eq_decide, BitVec.toInt_eq_toNat_of_lt (by omega), BitVec.toInt_eq_toNat_of_lt (by omega), h1]
    simp
  simp only [IntOp.cmpi, h2]
  by_cases h : d.toNat ≤ p.val <;> simp [h]

theorem rotate_apply (d : BitVec 32) (hd : d.toNat < 256) (X : Tile) (p : Fin 256) (j : Fin 512) (h : d.toNat ≤ p.val) :
    dynamicRotate 0 d none X rotates_S256x512_d0 (ix2 p j) = X (ix2 ⟨p.val - d.toNat, by omega⟩ j) := by
  refine dynamicRotate_apply _ _ _ _ _ _ fun b => ?_
  match b with
  | ⟨0, _⟩ =>
    show p.val - d.toNat = (p.val + 256 - d.toNat % 256) % 256
    rw [Nat.mod_eq_of_lt hd, show p.val + 256 - d.toNat = p.val - d.toNat + 256 by omega, Nat.add_mod_right, Nat.mod_eq_of_lt (by omega)]
  | ⟨1, _⟩ => rfl

theorem step_U (d : BitVec 32) (hd : d.toNat < 256) (A U : Tile) :
    addf U (mulf A (select (cmpi .sge (iota .tc S256x512 32 [0] iota_S256x512_d0_w32) (broadcast S256x512 d))
      (dynamicRotate 0 d none U rotates_S256x512_d0) (broadcast S256x512 (Scalar.ofBits .f32 0x00000000#32)))) = liftU d.toNat A U := by
  funext i
  idx_vars i
  show U _ + A _ * (if _ = 1#1 then _ else _) = passU d.toNat (col A i1) (col U i1) i0
  rw [mask_apply d hd i0 i1]
  unfold passU col
  by_cases h : d.toNat ≤ i0.val
  · rw [if_pos h, if_pos rfl, if_pos h, rotate_apply d hd U i0 i1 h]
  · rw [if_neg h, if_neg (by decide), if_neg h]
    pointwise

theorem step_A (d : BitVec 32) (hd : d.toNat < 256) (A : Tile) :
    mulf A (select (cmpi .sge (iota .tc S256x512 32 [0] iota_S256x512_d0_w32) (broadcast S256x512 d))
      (dynamicRotate 0 d none A rotates_S256x512_d0) (broadcast S256x512 (Scalar.ofBits .f32 0x3F800000#32))) = liftA d.toNat A := by
  funext i
  idx_vars i
  show A _ * (if _ = 1#1 then _ else _) = passA d.toNat (col A i1) i0
  rw [mask_apply d hd i0 i1]
  unfold passA col
  by_cases h : d.toNat ≤ i0.val
  · rw [if_pos h, if_pos rfl, if_pos h, rotate_apply d hd A i0 i1 h]
  · rw [if_neg h, if_neg (by decide), if_neg h]
    pointwise

/-! The rows of the tile of convolved tokens, and what the gates make of them. -/

/-- Row `p` of a tile. -/
def rowOf (C : Tile) (p : Fin 256) : Fin 512 → EReal := fun k => C (ix2 p k)

/-- A weight matrix by its entries. -/
def mat (w : Vec Ideal S512x512 .bf16) : Fin 512 → Fin 512 → EReal := fun k j => w (ix2 k j)

/-- A one-row array by its entries. -/
def vec (b : Vec Ideal S1x512 .f32) : Fin 512 → EReal := fun j => b (ix2 0 j)

theorem pay8_apply (C : Tile) (w : Vec Ideal S512x512 .bf16) (b : Vec Ideal S1x512 .f32) (p : Fin 256) (j : Fin 512) :
    k0_pay8 C w b (ix2 p j) = gate (rowOf C p) (mat w) (vec b) j := by
  pointwise [k0_pay8, k0_pay7, gate, rowOf, mat, vec]

theorem pay9_apply (C : Tile) (w : Vec Ideal S512x512 .bf16) (b l : Vec Ideal S1x512 .f32) (p : Fin 256) (j : Fin 512) :
    k0_pay9 C w b l (ix2 p j) = logDecay (rowOf C p) (mat w) (vec b) (vec l) j := by
  pointwise [k0_pay9, k0_pay7, logDecay, gate, softplus, rowOf, mat, vec]

theorem pay10_apply (C : Tile) (w : Vec Ideal S512x512 .bf16) (b l : Vec Ideal S1x512 .f32) (p : Fin 256) (j : Fin 512) :
    k0_pay10 C w b l (ix2 p j) = coeff (rowOf C p) (mat w) (vec b) (vec l) j := by
  rw [coeff, ← pay9_apply]; rfl

theorem pay11_apply (C : Tile) (w : Vec Ideal S512x512 .bf16) (b l : Vec Ideal S1x512 .f32) (p : Fin 256) (j : Fin 512) :
    k0_pay11 C w b l (ix2 p j) = Ideal.tanh (logDecay (rowOf C p) (mat w) (vec b) (vec l) j) := by
  rw [← pay9_apply]; rfl

/-- The values that the first pass takes. -/
def seed (C G A T : Tile) : Tile :=
  mulf (sqrt (mulf (subf (broadcast S256x512 (Scalar.ofBits .f32 0x00000000#32)) T) (addf (mulf A A) (broadcast S256x512 (Scalar.ofBits .f32 0x3F800000#32))))) (mulf G C)

theorem seed_apply (C : Tile) (wr : Vec Ideal S512x512 .bf16) (br lam : Vec Ideal S1x512 .f32) (wi : Vec Ideal S512x512 .bf16) (bi : Vec Ideal S1x512 .f32)
    (p : Fin 256) (j : Fin 512) :
    seed C (k0_pay8 C wi bi) (k0_pay10 C wr br lam) (k0_pay11 C wr br lam) (ix2 p j)
      = drive (rowOf C p) (mat wr) (vec br) (vec lam) (mat wi) (vec bi) j := by
  rw [← drive_tanh]
  pointwise [seed, pay8_apply, pay10_apply, pay11_apply]
  rfl

/-- The tile's iota. -/
abbrev rows : IVec S256x512 32 := iota .tc S256x512 32 [0] iota_S256x512_d0_w32

theorem pay13_eq (A : Tile) : k0_pay13 A = liftA 1 A := step_A 1#32 (by decide) A
theorem pay15_eq (A : Tile) : k0_pay15 A = liftA 2 (liftA 1 A) := by rw [← pay13_eq]; exact step_A 2#32 (by decide) _
theorem pay18_eq (A : Tile) : k0_pay18 A = liftA 4 (liftA 2 (liftA 1 A)) := by rw [← pay15_eq]; exact step_A 4#32 (by decide) _
theorem pay20_eq (A : Tile) : k0_pay20 rows A = liftA 8 A := step_A 8#32 (by decide) A
theorem pay22_eq (A : Tile) : k0_pay22 rows A = liftA 16 (liftA 8 A) := by rw [← pay20_eq]; exact step_A 16#32 (by decide) _
theorem pay24_eq (A : Tile) : k0_pay24 rows A = liftA 32 (liftA 16 (liftA 8 A)) := by rw [← pay22_eq]; exact step_A 32#32 (by decide) _

theorem pay17_eq (C G A T : Tile) :
    k0_pay17 C G A T = liftU 4 (liftA 2 (liftA 1 A)) (liftU 2 (liftA 1 A) (liftU 1 A (seed C G A T))) := by
  have h1 := step_U 1#32 (by decide) A (seed C G A T)
  have h2 := step_U 2#32 (by decide) (k0_pay13 A) (liftU 1 A (seed C G A T))
  have h4 := step_U 4#32 (by decide) (k0_pay15 A) (liftU 2 (k0_pay13 A) (liftU 1 A (seed C G A T)))
  rw [← pay15_eq, ← pay13_eq]
  refine Eq.trans ?_ h4
  rw [show (4#32 : BitVec 32).toNat = 4 from rfl] at h4
  rw [show liftU 2 (k0_pay13 A) (liftU 1 A (seed C G A T)) = _ from h2.symm]
  rw [show liftU 1 A (seed C G A T) = _ from h1.symm]
  rfl

theorem pay26_eq (U A : Tile) :
    k0_pay26 rows U A = liftU 64 (liftA 32 (liftA 16 (liftA 8 A))) (liftU 32 (liftA 16 (liftA 8 A)) (liftU 16 (liftA 8 A) (liftU 8 A U))) := by
  have h1 := step_U 8#32 (by decide) A U
  have h2 := step_U 16#32 (by decide) (k0_pay20 rows A) (liftU 8 A U)
  have h3 := step_U 32#32 (by decide) (k0_pay22 rows A) (liftU 16 (k0_pay20 rows A) (liftU 8 A U))
  have h4 := step_U 64#32 (by decide) (k0_pay24 rows A) (liftU 32 (k0_pay22 rows A) (liftU 16 (k0_pay20 rows A) (liftU 8 A U)))
  rw [← pay24_eq, ← pay22_eq, ← pay20_eq]
  refine Eq.trans ?_ h4
  rw [show liftU 32 (k0_pay22 rows A) (liftU 16 (k0_pay20 rows A) (liftU 8 A U)) = _ from h3.symm]
  rw [show liftU 16 (k0_pay20 rows A) (liftU 8 A U) = _ from h2.symm]
  rw [show liftU 8 A U = _ from h1.symm]
  rfl

theorem pay28_eq (A U : Tile) (h : Vec Ideal S1x512 .f32) :
    k0_pay28 rows A (k0_pay25 rows) U (dynamicRotate 0 64#32 none A rotates_S256x512_d0) h
      = addf (liftU 128 (liftA 64 A) U) (mulf (liftA 128 (liftA 64 A)) (broadcastTo S256x512 h broadcasts_S1x512_S256x512)) := by
  have h1 := step_A 64#32 (by decide) A
  have h2 := step_A 128#32 (by decide) (liftA 64 A)
  have h3 := step_U 128#32 (by decide) (liftA 64 A) U
  rw [show liftA 128 (liftA 64 A) = _ from h2.symm, show liftU 128 (liftA 64 A) U = _ from h3.symm, show liftA 64 A = _ from h1.symm]
  rfl

/-- The states of a tile, as the kernel computes them from the convolved tokens and the carried state. -/
def states (C : Tile) (wr : Vec Ideal S512x512 .bf16) (br : Vec Ideal S1x512 .f32) (wi : Vec Ideal S512x512 .bf16) (bi lam h : Vec Ideal S1x512 .f32) : Tile :=
  k0_pay28 rows (k0_pay24 rows (k0_pay18 (k0_pay10 C wr br lam))) (k0_pay25 rows)
    (k0_pay26 rows (k0_pay17 C (k0_pay8 C wi bi) (k0_pay10 C wr br lam) (k0_pay11 C wr br lam)) (k0_pay18 (k0_pay10 C wr br lam)))
    (k0_pay27 rows (k0_pay18 (k0_pay10 C wr br lam))) h

theorem col_liftU (d : ℕ) (A U : Tile) (j : Fin 512) : col (liftU d A U) j = passU d (col A j) (col U j) := rfl
theorem col_liftA (d : ℕ) (A : Tile) (j : Fin 512) : col (liftA d A) j = passA d (col A j) := rfl

/-- In a channel they are the recurrence's states. -/
theorem states_apply (C : Tile) (wr : Vec Ideal S512x512 .bf16) (br : Vec Ideal S1x512 .f32) (wi : Vec Ideal S512x512 .bf16) (bi lam h : Vec Ideal S1x512 .f32)
    (j : Fin 512) (a u : ℕ → EReal) (ha : ∀ p, 0 ≤ a p) (ha' : ∀ p, a p ≠ ⊤)
    (hA : ∀ p : Fin 256, coeff (rowOf C p) (mat wr) (vec br) (vec lam) j = a p.val)
    (hU : ∀ p : Fin 256, drive (rowOf C p) (mat wr) (vec br) (vec lam) (mat wi) (vec bi) j = u p.val) (p : Fin 256) :
    states C wr br wi bi lam h (ix2 p j) = state a u (vec h j) p.val := by
  have eA : col (k0_pay10 C wr br lam) j = fun p => decay a 1 p.val := by
    funext q; rw [decay_one, ← hA q]; exact pay10_apply C wr br lam q j
  have eU : col (seed C (k0_pay8 C wi bi) (k0_pay10 C wr br lam) (k0_pay11 C wr br lam)) j = fun p => reach a u 1 p.val := by
    funext q; rw [reach_one, ← hU q]; exact seed_apply C wr br lam wi bi q j
  rw [← reach_state a u ha ha' _ p.val 256 p.isLt]
  unfold states
  rw [show k0_pay27 rows (k0_pay18 (k0_pay10 C wr br lam)) = dynamicRotate 0 64#32 none (k0_pay24 rows (k0_pay18 (k0_pay10 C wr br lam))) rotates_S256x512_d0 from rfl]
  rw [pay28_eq, pay26_eq, pay24_eq, pay18_eq, pay17_eq]
  generalize k0_pay10 C wr br lam = A at eA eU ⊢
  generalize seed _ _ _ _ = U at eU ⊢
  have hb : broadcastTo S256x512 h broadcasts_S1x512_S256x512 (ix2 p j) = vec h j := by pointwise [vec]
  show passU 128 (col _ j) (col _ j) p + passA 128 (col _ j) p * _ = _
  rw [hb]
  simp only [col_liftU, col_liftA, eA, eU, passU_reach a u ha ha', passA_decay a, Nat.reduceAdd]

end Cert.Rnn
-- ==== Proof.RnnPoint.lean ====
/-
  The recurrent call's kernel at one grid point: what it stores in its output block, in the token buffer and in the
  carried state, over the blocks it loads and what the point before left.
-/
module

public import proofs.«01_k».proof.Proof.RnnKernel
public import Idealize.ShloMosaic.Lib.WritesUnit

@[expose] public section

set_option maxRecDepth 16384

noncomputable section

namespace Cert.Rnn

open Idealize.ShloMosaic Idealize.ShloMosaic.TcCoe Idealize.SL.Sem
open Cert.KernelIdeal Cert.KernelIdeal.Gen

/-- Row `q` of the token buffer after the tile's tokens are stored: eight rows carried from the tile before, then the tile. -/
def heldAt (carry : Vec Ideal S264x512 .f32) (x0 : Vec Ideal S1x256x512 .f32) (q : Fin 264) (j : Fin 512) : EReal :=
  if h : 8 ≤ q.val then x0 (ix3 0 ⟨q.val - 8, by omega⟩ j) else carry (ix2 q j)

/-- The token buffer after the tile's tokens are stored. -/
def held (carry : Vec Ideal S264x512 .f32) (x0 : Vec Ideal S1x256x512 .f32) : Vec Ideal S264x512 .f32 :=
  fun i => heldAt carry x0 (i 0) (i 1)

theorem held_apply (carry : Vec Ideal S264x512 .f32) (x0 : Vec Ideal S1x256x512 .f32) (q : Fin 264) (j : Fin 512) :
    held carry x0 (ix2 q j) = heldAt carry x0 q j := rfl

/-- The buffer that a sequence starts with. -/
def blank : Vec Ideal S264x512 .f32 := fun _ => (0 : EReal)

/-- The state that a sequence starts with. -/
def rest : Vec Ideal S1x512 .f32 := fun _ => (0 : EReal)

theorem pay4_apply (x0 : Vec Ideal S1x256x512 .f32) (p : Fin 256) (j : Fin 512) : k0_pay4 x0 (ix2 p j) = x0 (ix3 0 p j) := by
  pointwise [k0_pay4]

theorem read_held (arg12 : Memref sig .tc .vmem S264x512 .f32) (harg12 : arg12.IsWhole) (xs0 : Vec Ideal S264x512 .f32) (x0 : Vec Ideal S1x256x512 .f32) :
    View.read (Elt Ideal) arg12.view (arg12.view.writes (Elt Ideal) (harg12.unread xs0)
      [⟨Rect.unit ![8, 0] ![256, 512] inb_S264x512_S256x512_8_0, k0_pay4 x0⟩]) = held xs0 x0 := by
  funext y
  idx_vars y
  rw [held_apply]
  unfold heldAt
  by_cases h : 8 ≤ y0.val
  · rw [dif_pos h, ← pay4_apply x0]
    exact View.read_writes_cons_unit_of_mem arg12.view (harg12.unread xs0) inb_S264x512_S256x512_8_0 (k0_pay4 x0) [] (ix2 y0 y1)
      (ix2 (⟨y0.val - 8, by omega⟩ : Fin 256) y1) rfl fun a => by
        match a with
        | ⟨0, _⟩ => show y0.val = 8 + (y0.val - 8); omega
        | ⟨1, _⟩ => show y1.val = 0 + y1.val; omega
  · rw [dif_neg h]
    refine (View.read_writes_cons_unit_of_not_mem arg12.view (harg12.unread xs0) inb_S264x512_S256x512_8_0 (k0_pay4 x0) [] (ix2 y0 y1)
      rfl 0 (Or.inl (by show y0.val < 8; omega))).trans ?_
    exact congrFun (harg12.read_unread xs0) _

/-- An index under the newest store of a list reads that store's payload. -/
theorem canon_mem {Val : EltTy → Type} [∀ e, Nonempty (Val e)] {e : EltTy} {s : Shape} {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ _ _ _

/-- An index that the newest store does not reach reads what the earlier stores left. -/
theorem canon_not_mem {Val : EltTy → Type} [∀ e, Nonempty (Val e)] {e : EltTy} {s : Shape} {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ _ ?_
  rw [Rect.mem_set_unit]
  intro hall
  have := hall a
  omega

theorem canon_held (x0 : Vec Ideal S1x256x512 .f32) :
    View.canon [⟨Rect.unit ![8, 0] ![256, 512] inb_S264x512_S256x512_8_0, k0_pay4 x0⟩,
      ⟨Rect.unit ![0, 0] ![8, 512] inb_S264x512_S8x512_0_0, (k0_pay2 : FVec Ideal S8x512 .f32)⟩] = held blank x0 := by
  funext y
  idx_vars y
  rw [held_apply]
  unfold heldAt
  by_cases h : 8 ≤ y0.val
  · rw [dif_pos h, ← pay4_apply x0]
    exact canon_mem (Val := Elt Ideal) (e := .f32) inb_S264x512_S256x512_8_0 (k0_pay4 x0) _ (ix2 y0 y1) (ix2 (⟨y0.val - 8, by omega⟩ : Fin 256) y1) fun a => by
        match a with
        | ⟨0, _⟩ => show y0.val = 8 + (y0.val - 8); omega
        | ⟨1, _⟩ => show y1.val = 0 + y1.val; omega
  · rw [dif_neg h]
    refine (canon_not_mem (Val := Elt Ideal) (e := .f32) inb_S264x512_S256x512_8_0 (k0_pay4 x0) _ (ix2 y0 y1) 0 (Or.inl (by show y0.val < 8; omega))).trans ?_
    refine (canon_mem (Val := Elt Ideal) (e := .f32) inb_S264x512_S8x512_0_0 (k0_pay2 : FVec Ideal S8x512 .f32) _ (ix2 y0 y1)
      (ix2 (⟨y0.val, by omega⟩ : Fin 8) y1) fun a => by
        match a with
        | ⟨0, _⟩ => show y0.val = 0 + y0.val; omega
        | ⟨1, _⟩ => show y1.val = 0 + y1.val; omega).trans ?_
    unfold blank k0_pay2
    pointwise []

/-- A load of the buffer a sequence starts with, after the two stores. -/
theorem load_held (arg12 : Memref sig .tc .vmem S264x512 .f32) (x0 : Vec Ideal S1x256x512 .f32) (r : Rect S264x512) :
    arg12.view.readCov [⟨Rect.unit ![8, 0] ![256, 512] inb_S264x512_S256x512_8_0, k0_pay4 x0⟩,
      ⟨Rect.unit ![0, 0] ![8, 512] inb_S264x512_S8x512_0_0, (k0_pay2 : FVec Ideal S8x512 .f32)⟩] r.toLoadRect = View.ld (held blank x0) r := by
  rw [← canon_held x0]
  refine View.readCov_eq_canon_ld _ _ _ fun y => ?_
  idx_vars y
  by_cases h : 8 ≤ y0.val
  · refine ⟨_, List.mem_cons_self, ?_⟩
    rw [Rect.mem_set_unit]
    intro a
    match a with
    | ⟨0, _⟩ => exact ⟨h, show y0.val < 8 + 256 by omega⟩
    | ⟨1, _⟩ => exact ⟨Nat.zero_le _, show y1.val < 0 + 512 by omega⟩
  · refine ⟨_, List.mem_cons_of_mem _ List.mem_cons_self, ?_⟩
    rw [Rect.mem_set_unit]
    intro a
    match a with
    | ⟨0, _⟩ => exact ⟨Nat.zero_le _, show y0.val < 0 + 8 by omega⟩
    | ⟨1, _⟩ => exact ⟨Nat.zero_le _, show y1.val < 0 + 512 by omega⟩

theorem pay3_eq : (k0_pay3 : FVec Ideal S1x512 .f32) = rest := by
  funext y
  idx_vars y
  unfold rest k0_pay3
  pointwise []

/-- The convolved tokens, from the token buffer. -/
def conv (x2 : Vec Ideal S4x512 .f32) (x3 : Vec Ideal S1x512 .f32) (buf : Vec Ideal S264x512 .f32) (x0 : Vec Ideal S1x256x512 .f32) : Tile :=
  k0_pay5 x3 (View.ld x2 (Rect.unit ![0, 0] ![1, 512] inb_S4x512_S1x512_0_0)) (View.ld buf (Rect.unit ![5, 0] ![256, 512] inb_S264x512_S256x512_5_0))
    (View.ld x2 (Rect.unit ![1, 0] ![1, 512] inb_S4x512_S1x512_1_0)) (View.ld buf (Rect.unit ![6, 0] ![256, 512] inb_S264x512_S256x512_6_0))
    (View.ld x2 (Rect.unit ![2, 0] ![1, 512] inb_S4x512_S1x512_2_0)) (View.ld buf (Rect.unit ![7, 0] ![256, 512] inb_S264x512_S256x512_7_0))
    (View.ld x2 (Rect.unit ![3, 0] ![1, 512] inb_S4x512_S1x512_3_0)) (k0_pay4 x0)

theorem conv_apply (x2 : Vec Ideal S4x512 .f32) (x3 : Vec Ideal S1x512 .f32) (buf : Vec Ideal S264x512 .f32) (x0 : Vec Ideal S1x256x512 .f32) (p : Fin 256) (j : Fin 512) :
    conv x2 x3 buf x0 (ix2 p j) = x3 (ix2 0 j) + x2 (ix2 0 j) * buf (ix2 ⟨5 + p.val, by omega⟩ j) + x2 (ix2 1 j) * buf (ix2 ⟨6 + p.val, by omega⟩ j)
      + x2 (ix2 2 j) * buf (ix2 ⟨7 + p.val, by omega⟩ j) + x2 (ix2 3 j) * x0 (ix3 0 p j) := by
  pointwise [conv, k0_pay5, k0_pay4]

/-- The gelu in the tanh form. -/
def gelu (y : EReal) : EReal :=
  Ideal.ofBits .f32 0x3F000000#32 * y * (1 + Ideal.tanh (Ideal.ofBits .f32 0x3F4C422A#32 * (y + Ideal.ofBits .f32 0x3D372713#32 * (y * y * y))))

/-- What a point stores in its output block. -/
def stored (S : Tile) (x1 : Vec Ideal S1x256x512 .f32) (p : Fin 256) (j : Fin 512) : EReal := S (ix2 p j) * gelu (x1 (ix3 0 p j))

/-- The last eight rows of the buffer's tile are the tile's last eight tokens. -/
theorem tail_apply (w : Vec Ideal S264x512 .f32) (x0 : Vec Ideal S1x256x512 .f32)
    (hw : ∀ (q : Fin 8) (j : Fin 512), w (ix2 ⟨256 + q.val, by omega⟩ j) = x0 (ix3 0 ⟨248 + q.val, by omega⟩ j)) (L : List (View.Piece (Elt Ideal) S264x512 .f32))
    (q : Fin 8) (j : Fin 512) :
    View.canon ((⟨Rect.unit ![0, 0] ![8, 512] inb_S264x512_S8x512_0_0,
      k0_pay6 (View.ld w (Rect.unit ![256, 0] ![8, 512] inb_S264x512_S8x512_256_0))⟩ : View.Piece (Elt Ideal) S264x512 .f32) :: L) (ix2 ⟨q.val, by omega⟩ j)
      = x0 (ix3 0 ⟨248 + q.val, by omega⟩ j) := by
  refine (canon_mem (Val := Elt Ideal) (e := .f32) inb_S264x512_S8x512_0_0 (k0_pay6 (View.ld w (Rect.unit ![256, 0] ![8, 512] inb_S264x512_S8x512_256_0))) L
    (ix2 (⟨q.val, by omega⟩ : Fin 264) j) (ix2 q j) fun a => by
      match a with
      | ⟨0, _⟩ => show q.val = 0 + q.val; omega
      | ⟨1, _⟩ => show j.val = 0 + j.val; omega).trans ?_
  rw [← hw]
  unfold k0_pay6
  pointwise []

theorem tail_held (carry : Vec Ideal S264x512 .f32) (x0 : Vec Ideal S1x256x512 .f32) (q : Fin 8) (j : Fin 512) :
    held carry x0 (ix2 ⟨256 + q.val, by omega⟩ j) = x0 (ix3 0 ⟨248 + q.val, by omega⟩ j) := by
  rw [held_apply]
  unfold heldAt
  rw [dif_pos (show 8 ≤ 256 + q.val by omega)]
  exact congrArg (fun r : Fin 256 => x0 (ix3 0 r j)) (Fin.ext (show 256 + q.val - 8 = 248 + q.val by omega))

/-- A load of rows that the tile's store covers. -/
theorem load_tail (arg12 : Memref sig .tc .vmem S264x512 .f32) (x0 : Vec Ideal S1x256x512 .f32) :
    arg12.view.readCov [(⟨Rect.unit ![8, 0] ![256, 512] inb_S264x512_S256x512_8_0, k0_pay4 x0⟩ : View.Piece (Elt Ideal) S264x512 .f32)]
      (Rect.unit ![256, 0] ![8, 512] inb_S264x512_S8x512_256_0).toLoadRect
    = View.ld (View.canon [(⟨Rect.unit ![8, 0] ![256, 512] inb_S264x512_S256x512_8_0, k0_pay4 x0⟩ : View.Piece (Elt Ideal) S264x512 .f32)])
      (Rect.unit ![256, 0] ![8, 512] inb_S264x512_S8x512_256_0) := by
  refine View.readCov_eq_canon _ _ _ fun y => ?_
  refine ⟨_, List.mem_cons_self, ?_⟩
  rw [Rect.mem_set_unit]
  intro a
  have h0 : (y 0).val < 8 := (y 0).isLt
  have h1 : (y 1).val < 512 := (y 1).isLt
  match a with
  | ⟨0, _⟩ => exact ⟨show 8 ≤ 256 + 1 * (y 0).val by omega, show 256 + 1 * (y 0).val < 8 + 256 by omega⟩
  | ⟨1, _⟩ => exact ⟨Nat.zero_le _, show 0 + 1 * (y 1).val < 0 + 512 by omega⟩

theorem tail_canon (x0 : Vec Ideal S1x256x512 .f32) (q : Fin 8) (j : Fin 512) :
    View.canon [(⟨Rect.unit ![8, 0] ![256, 512] inb_S264x512_S256x512_8_0, k0_pay4 x0⟩ : View.Piece (Elt Ideal) S264x512 .f32)] (ix2 ⟨256 + q.val, by omega⟩ j)
      = x0 (ix3 0 ⟨248 + q.val, by omega⟩ j) := by
  rw [← pay4_apply x0]
  exact canon_mem (Val := Elt Ideal) (e := .f32) inb_S264x512_S256x512_8_0 (k0_pay4 x0) _ (ix2 (⟨256 + q.val, by omega⟩ : Fin 264) j)
    (ix2 (⟨248 + q.val, by omega⟩ : Fin 256) j) fun a => by
      match a with
      | ⟨0, _⟩ => show 256 + q.val = 8 + (248 + q.val); omega
      | ⟨1, _⟩ => show j.val = 0 + j.val; omega

theorem out_apply (r : IVec S256x512 32) (v145 v152 v153 : Tile) (v147 : IVec S256x512 1) (h : Vec Ideal S1x512 .f32)
    (x1 : Vec Ideal S1x256x512 .f32) (p : Fin 256) (j : Fin 512) :
    k0_pay1 (k0_pay30 r v145 v147 v152 v153 h x1) (ix3 0 p j) = stored (k0_pay28 r v145 v147 v152 v153 h) x1 p j := by
  unfold k0_pay1 k0_pay30 stored gelu
  generalize k0_pay28 r v145 v147 v152 v153 h = S
  pointwise []

theorem state_apply (r : IVec S256x512 32) (v145 v152 v153 : Tile) (v147 : IVec S256x512 1) (h : Vec Ideal S1x512 .f32) (j : Fin 512) :
    k0_pay29 r v145 v147 v152 v153 h (ix2 0 j) = k0_pay28 r v145 v147 v152 v153 h (ix2 255 j) := by
  unfold k0_pay29
  generalize k0_pay28 r v145 v147 v152 v153 h = S
  pointwise []

section Cases
variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x512 .bf16) (harg8 : arg8.IsWhole) (arg9 : Memref sig .tc .vmem S1x512 .f32) (harg9 : arg9.IsWhole) (arg10 : Memref sig .tc .vmem S1x512 .f32) (harg10 : arg10.IsWhole) (arg11 : Memref sig .tc .vmem S1x256x512 .bf16) (harg11 : arg11.IsWhole) (arg12 : Memref sig .tc .vmem S264x512 .f32) (harg12 : arg12.IsWhole) (arg13 : Memref sig .tc .vmem S1x512 .f32) (harg13 : arg13.IsWhole)
    (x0 x1 : Vec Ideal S1x256x512 .f32) (x2 : Vec Ideal S4x512 .f32) (x3 : Vec Ideal S1x512 .f32) (x4 : Vec Ideal S512x512 .bf16) (x5 : Vec Ideal S1x512 .f32) (x6 : Vec Ideal S512x512 .bf16) (x7 x8 : Vec Ideal S1x512 .f32) (xs0 : Vec Ideal S264x512 .f32) (xs1 : Vec Ideal S1x512 .f32)

theorem out_B (hc0 : ¬cond0_0 i) (p : Fin 256) (j : Fin 512) :
    out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix3 0 p j) = stored (states (conv x2 x3 (held xs0 x0) x0) x4 x5 x6 x7 x8 xs1) x1 p j := by
  frame_out
  simp only [read_held arg12 harg12, View.readCov_cons_toLoadRect]
  exact out_apply _ _ _ _ _ _ _ p j

theorem state_B (hc0 : ¬cond0_0 i) (j : Fin 512) :
    sout0_B_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 0 j) = (states (conv x2 x3 (held xs0 x0) x0) x4 x5 x6 x7 x8 xs1) (ix2 255 j) := by
  frame_out
  simp only [read_held arg12 harg12, View.readCov_cons_toLoadRect]
  exact state_apply _ _ _ _ _ _ j

theorem carry_B (hc0 : ¬cond0_0 i) (q : Fin 8) (j : Fin 512) :
    sout0_B_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 xs1 (ix2 ⟨q.val, by omega⟩ j) = x0 (ix3 0 ⟨248 + q.val, by omega⟩ j) := by
  frame_out
  rw [load_tail]
  exact tail_apply _ x0 (tail_canon x0) _ q j

theorem out_A (hc0 : cond0_0 i) (p : Fin 256) (j : Fin 512) :
    out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix3 0 p j) = stored (states (conv x2 x3 (held blank x0) x0) x4 x5 x6 x7 x8 rest) x1 p j := by
  frame_out
  simp only [load_held, View.readCov_cons_toLoadRect, pay3_eq]
  exact out_apply _ _ _ _ _ _ _ p j

theorem state_A (hc0 : cond0_0 i) (j : Fin 512) :
    sout0_A_1 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 0 j) = (states (conv x2 x3 (held blank x0) x0) x4 x5 x6 x7 x8 rest) (ix2 255 j) := by
  frame_out
  simp only [load_held, View.readCov_cons_toLoadRect, pay3_eq]
  exact state_apply _ _ _ _ _ _ j

theorem carry_A (hc0 : cond0_0 i) (q : Fin 8) (j : Fin 512) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 (ix2 ⟨q.val, by omega⟩ j) = x0 (ix3 0 ⟨248 + q.val, by omega⟩ j) := by
  frame_out
  rw [load_held]
  exact tail_apply _ x0 (tail_held blank x0) _ q j

end Cases
end Cert.Rnn
-- ==== Proof.RnnBlocks.lean ====
/-
  The recurrent call: the arrays that its kernel stages, and their blocks, entry by entry of the arguments.
-/
module

public import proofs.«01_k».proof.Proof.RnnPoint
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Rnn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The entry of the block-diagonal matrix of eight blocks. -/
def diag (W : S8x64x64.Idx → EReal) (k j : Fin 512) : EReal :=
  if k.val / 64 = j.val / 64 then W (ix3 ⟨k.val / 64, by omega⟩ ⟨k.val % 64, by omega⟩ ⟨j.val % 64, by omega⟩) else 0

/-- A row of a block padded to the matrix's width is a row of the matrix. -/
theorem pad_block (W : S8x64x64.Idx → EReal) (n : Fin 8) (lo hi : ℕ) (hlo : lo = 64 * n.val)
    (h : S64x64.Pads ![0, lo] ![0, hi] ![0, 0] S64x512) (q : Fin 64) (k j : Fin 512) (hk : k.val = 64 * n.val + q.val) :
    pad S64x512 ![0, lo] ![0, hi] ![0, 0] (fun i : S64x64.Idx => W (ix3 n (i 0) (i 1))) (constant (F := Ideal) S_ .f32 0x00000000#32) h h_S_ (ix2 q j)
      = diag W k j := by
  unfold diag
  have e1 : k.val / 64 = n.val := by omega
  by_cases hj : k.val / 64 = j.val / 64
  · rw [if_pos hj]
    refine (pad_apply_of_inside _ _ _ _ _ h h_S_ (ix2 q j) (ix2 q ⟨j.val % 64, by omega⟩) fun a => by
      match a with
      | ⟨0, _⟩ => show q.val = 0 + q.val * 1; omega
      | ⟨1, _⟩ => show j.val = lo + (j.val % 64) * 1; omega).trans ?_
    show W (ix3 n q ⟨j.val % 64, by omega⟩) = _
    have h0 : n = ⟨k.val / 64, by omega⟩ := Fin.ext e1.symm
    have h1 : q = ⟨k.val % 64, by omega⟩ := Fin.ext (show q.val = k.val % 64 by omega)
    exact congrArg₂ (fun a b => W (ix3 a b ⟨j.val % 64, by omega⟩)) h0 h1
  · rw [if_neg hj]
    refine (pad_apply_of_not_inside _ _ _ _ _ h h_S_ (ix2 q j) 1 (fun hc => hj ?_)).trans ?_
    · have h1 : lo ≤ j.val := hc.1
      have h2 : (j.val - lo) / 1 < 64 := hc.2.2
      omega
    · exact Ideal.ofBits_zero_f32

theorem V_v18 (k : Fin 512) (j : Fin 512) : (V m c main_v18 : S512x512.Idx → EReal) (ix2 k j)
    = diag (m ((c : Thread nD τ).loc main_arg4)) k j := by
  unfold V
  after_reads_at
  by_cases h0 : k.val < 64
  · rw [dif_pos h0]
    after_reads_at
    exact pad_block (m ((c : Thread nD τ).loc main_arg4)) 0 0 448 rfl pads_S64x64_S64x512_000_04480 ⟨k.val, h0⟩ k j (by show k.val = 64 * 0 + (k.val); omega)
  rw [dif_neg h0]
  by_cases h1 : k.val - 64 < 64
  · rw [dif_pos h1]
    after_reads_at
    exact pad_block (m ((c : Thread nD τ).loc main_arg4)) 1 64 384 rfl pads_S64x64_S64x512_000_643840 ⟨k.val - 64, h1⟩ k j (by show k.val = 64 * 1 + (k.val - 64); omega)
  rw [dif_neg h1]
  by_cases h2 : k.val - 64 - 64 < 64
  · rw [dif_pos h2]
    after_reads_at
    exact pad_block (m ((c : Thread nD τ).loc main_arg4)) 2 128 320 rfl pads_S64x64_S64x512_000_1283200 ⟨k.val - 64 - 64, h2⟩ k j (by show k.val = 64 * 2 + (k.val - 64 - 64); omega)
  rw [dif_neg h2]
  by_cases h3 : k.val - 64 - 64 - 64 < 64
  · rw [dif_pos h3]
    after_reads_at
    exact pad_block (m ((c : Thread nD τ).loc main_arg4)) 3 192 256 rfl pads_S64x64_S64x512_000_1922560 ⟨k.val - 64 - 64 - 64, h3⟩ k j (by show k.val = 64 * 3 + (k.val - 64 - 64 - 64); omega)
  rw [dif_neg h3]
  by_cases h4 : k.val - 64 - 64 - 64 - 64 < 64
  · rw [dif_pos h4]
    after_reads_at
    exact pad_block (m ((c : Thread nD τ).loc main_arg4)) 4 256 192 rfl pads_S64x64_S64x512_000_2561920 ⟨k.val - 64 - 64 - 64 - 64, h4⟩ k j (by show k.val = 64 * 4 + (k.val - 64 - 64 - 64 - 64); omega)
  rw [dif_neg h4]
  by_cases h5 : k.val - 64 - 64 - 64 - 64 - 64 < 64
  · rw [dif_pos h5]
    after_reads_at
    exact pad_block (m ((c : Thread nD τ).loc main_arg4)) 5 320 128 rfl pads_S64x64_S64x512_000_3201280 ⟨k.val - 64 - 64 - 64 - 64 - 64, h5⟩ k j (by show k.val = 64 * 5 + (k.val - 64 - 64 - 64 - 64 - 64); omega)
  rw [dif_neg h5]
  by_cases h6 : k.val - 64 - 64 - 64 - 64 - 64 - 64 < 64
  · rw [dif_pos h6]
    after_reads_at
    exact pad_block (m ((c : Thread nD τ).loc main_arg4)) 6 384 64 rfl pads_S64x64_S64x512_000_384640 ⟨k.val - 64 - 64 - 64 - 64 - 64 - 64, h6⟩ k j (by show k.val = 64 * 6 + (k.val - 64 - 64 - 64 - 64 - 64 - 64); omega)
  rw [dif_neg h6]
  after_reads_at
  exact pad_block (m ((c : Thread nD τ).loc main_arg4)) 7 448 0 rfl pads_S64x64_S64x512_000_44800 ⟨k.val - 64 - 64 - 64 - 64 - 64 - 64 - 64, by omega⟩ k j (by show k.val = 64 * 7 + (k.val - 64 - 64 - 64 - 64 - 64 - 64 - 64); omega)

theorem V_v37 (k : Fin 512) (j : Fin 512) : (V m c main_v37 : S512x512.Idx → EReal) (ix2 k j)
    = diag (m ((c : Thread nD τ).loc main_arg6)) k j := by
  unfold V
  after_reads_at
  by_cases h0 : k.val < 64
  · rw [dif_pos h0]
    after_reads_at
    exact pad_block (m ((c : Thread nD τ).loc main_arg6)) 0 0 448 rfl pads_S64x64_S64x512_000_04480 ⟨k.val, h0⟩ k j (by show k.val = 64 * 0 + (k.val); omega)
  rw [dif_neg h0]
  by_cases h1 : k.val - 64 < 64
  · rw [dif_pos h1]
    after_reads_at
    exact pad_block (m ((c : Thread nD τ).loc main_arg6)) 1 64 384 rfl pads_S64x64_S64x512_000_643840 ⟨k.val - 64, h1⟩ k j (by show k.val = 64 * 1 + (k.val - 64); omega)
  rw [dif_neg h1]
  by_cases h2 : k.val - 64 - 64 < 64
  · rw [dif_pos h2]
    after_reads_at
    exact pad_block (m ((c : Thread nD τ).loc main_arg6)) 2 128 320 rfl pads_S64x64_S64x512_000_1283200 ⟨k.val - 64 - 64, h2⟩ k j (by show k.val = 64 * 2 + (k.val - 64 - 64); omega)
  rw [dif_neg h2]
  by_cases h3 : k.val - 64 - 64 - 64 < 64
  · rw [dif_pos h3]
    after_reads_at
    exact pad_block (m ((c : Thread nD τ).loc main_arg6)) 3 192 256 rfl pads_S64x64_S64x512_000_1922560 ⟨k.val - 64 - 64 - 64, h3⟩ k j (by show k.val = 64 * 3 + (k.val - 64 - 64 - 64); omega)
  rw [dif_neg h3]
  by_cases h4 : k.val - 64 - 64 - 64 - 64 < 64
  · rw [dif_pos h4]
    after_reads_at
    exact pad_block (m ((c : Thread nD τ).loc main_arg6)) 4 256 192 rfl pads_S64x64_S64x512_000_2561920 ⟨k.val - 64 - 64 - 64 - 64, h4⟩ k j (by show k.val = 64 * 4 + (k.val - 64 - 64 - 64 - 64); omega)
  rw [dif_neg h4]
  by_cases h5 : k.val - 64 - 64 - 64 - 64 - 64 < 64
  · rw [dif_pos h5]
    after_reads_at
    exact pad_block (m ((c : Thread nD τ).loc main_arg6)) 5 320 128 rfl pads_S64x64_S64x512_000_3201280 ⟨k.val - 64 - 64 - 64 - 64 - 64, h5⟩ k j (by show k.val = 64 * 5 + (k.val - 64 - 64 - 64 - 64 - 64); omega)
  rw [dif_neg h5]
  by_cases h6 : k.val - 64 - 64 - 64 - 64 - 64 - 64 < 64
  · rw [dif_pos h6]
    after_reads_at
    exact pad_block (m ((c : Thread nD τ).loc main_arg6)) 6 384 64 rfl pads_S64x64_S64x512_000_384640 ⟨k.val - 64 - 64 - 64 - 64 - 64 - 64, h6⟩ k j (by show k.val = 64 * 6 + (k.val - 64 - 64 - 64 - 64 - 64 - 64); omega)
  rw [dif_neg h6]
  after_reads_at
  exact pad_block (m ((c : Thread nD τ).loc main_arg6)) 7 448 0 rfl pads_S64x64_S64x512_000_44800 ⟨k.val - 64 - 64 - 64 - 64 - 64 - 64 - 64, by omega⟩ k j (by show k.val = 64 * 7 + (k.val - 64 - 64 - 64 - 64 - 64 - 64 - 64); omega)

theorem V_v0 (j : Fin 512) : (V m c main_v0 : S1x512.Idx → EReal) (ix2 0 j) = (m ((c : Thread nD τ).loc main_arg3) : S512.Idx → EReal) (ix1 j) := by
  unfold V
  after_reads_at

theorem V_v19 (j : Fin 512) : (V m c main_v19 : S1x512.Idx → EReal) (ix2 0 j) = (m ((c : Thread nD τ).loc main_arg5) : S512.Idx → EReal) (ix1 j) := by
  unfold V
  after_reads_at

theorem V_v38 (j : Fin 512) : (V m c main_v38 : S1x512.Idx → EReal) (ix2 0 j) = (m ((c : Thread nD τ).loc main_arg7) : S512.Idx → EReal) (ix1 j) := by
  unfold V
  after_reads_at

theorem V_v39 (j : Fin 512) : (V m c main_v39 : S1x512.Idx → EReal) (ix2 0 j) = (m ((c : Thread nD τ).loc main_arg8) : S512.Idx → EReal) (ix1 j) := by
  unfold V
  after_reads_at

theorem V_arg0 (b : Fin 2) (t : Fin 16384) (j : Fin 512) : (V m c main_arg0 : S2x16384x512.Idx → EReal) (ix3 b t j)
    = (m ((c : Thread nD τ).loc main_arg0) : S2x16384x512.Idx → EReal) (ix3 b t j) := by
  unfold V
  after_reads_at

theorem V_arg1 (b : Fin 2) (t : Fin 16384) (j : Fin 512) : (V m c main_arg1 : S2x16384x512.Idx → EReal) (ix3 b t j)
    = (m ((c : Thread nD τ).loc main_arg1) : S2x16384x512.Idx → EReal) (ix3 b t j) := by
  unfold V
  after_reads_at

theorem V_arg2 (k : Fin 4) (j : Fin 512) : (V m c main_arg2 : S4x512.Idx → EReal) (ix2 k j)
    = (m ((c : Thread nD τ).loc main_arg2) : S4x512.Idx → EReal) (ix2 k j) := by
  unfold V
  after_reads_at

theorem blk0 (t : Fin grid0.N) (p : Fin 256) (j : Fin 512) (h : t.val < 128) :
    (iblk m c 0 t : S1x256x512.Idx → EReal) (ix3 0 p j)
      = (m ((c : Thread nD τ).loc main_arg0) : S2x16384x512.Idx → EReal)
          (ix3 ⟨t.val / 64, by omega⟩ ⟨t.val % 64 * 256 + p.val, by omega⟩ j) := by
  have e := (by decide +kernel : ∀ t : Fin grid0.N, win0_0.index t = ![t.val / 64, t.val % 64, 0]) t
  rw [← V_arg0 m c]
  blk_ext [iblk, e]

theorem blk1 (t : Fin grid0.N) (p : Fin 256) (j : Fin 512) (h : t.val < 128) :
    (iblk m c 1 t : S1x256x512.Idx → EReal) (ix3 0 p j)
      = (m ((c : Thread nD τ).loc main_arg1) : S2x16384x512.Idx → EReal)
          (ix3 ⟨t.val / 64, by omega⟩ ⟨t.val % 64 * 256 + p.val, by omega⟩ j) := by
  have e := (by decide +kernel : ∀ t : Fin grid0.N, win0_1.index t = ![t.val / 64, t.val % 64, 0]) t
  rw [← V_arg1 m c]
  blk_ext [iblk, e]

theorem blk2 (t : Fin grid0.N) (k : Fin 4) (j : Fin 512) :
    (iblk m c 2 t : S4x512.Idx → EReal) (ix2 k j) = (m ((c : Thread nD τ).loc main_arg2) : S4x512.Idx → EReal) (ix2 k j) := by
  have e := (by decide +kernel : ∀ t : Fin grid0.N, win0_2.index t = ![0, 0]) t
  rw [← V_arg2 m c k j]
  blk_ext [iblk, e]

theorem blk3 (t : Fin grid0.N) (j : Fin 512) :
    (iblk m c 3 t : S1x512.Idx → EReal) (ix2 0 j) = (m ((c : Thread nD τ).loc main_arg3) : S512.Idx → EReal) (ix1 j) := by
  have e := (by decide +kernel : ∀ t : Fin grid0.N, win0_3.index t = ![0, 0]) t
  rw [← V_v0 m c j]
  blk_ext [iblk, e]

theorem blk5 (t : Fin grid0.N) (j : Fin 512) :
    (iblk m c 5 t : S1x512.Idx → EReal) (ix2 0 j) = (m ((c : Thread nD τ).loc main_arg5) : S512.Idx → EReal) (ix1 j) := by
  have e := (by decide +kernel : ∀ t : Fin grid0.N, win0_5.index t = ![0, 0]) t
  rw [← V_v19 m c j]
  blk_ext [iblk, e]

theorem blk7 (t : Fin grid0.N) (j : Fin 512) :
    (iblk m c 7 t : S1x512.Idx → EReal) (ix2 0 j) = (m ((c : Thread nD τ).loc main_arg7) : S512.Idx → EReal) (ix1 j) := by
  have e := (by decide +kernel : ∀ t : Fin grid0.N, win0_7.index t = ![0, 0]) t
  rw [← V_v38 m c j]
  blk_ext [iblk, e]

theorem blk8 (t : Fin grid0.N) (j : Fin 512) :
    (iblk m c 8 t : S1x512.Idx → EReal) (ix2 0 j) = (m ((c : Thread nD τ).loc main_arg8) : S512.Idx → EReal) (ix1 j) := by
  have e := (by decide +kernel : ∀ t : Fin grid0.N, win0_8.index t = ![0, 0]) t
  rw [← V_v39 m c j]
  blk_ext [iblk, e]

theorem blk4 (t : Fin grid0.N) (k j : Fin 512) :
    (iblk m c 4 t : S512x512.Idx → EReal) (ix2 k j) = diag (m ((c : Thread nD τ).loc main_arg4)) k j := by
  have e := (by decide +kernel : ∀ t : Fin grid0.N, win0_4.index t = ![0, 0]) t
  rw [← V_v18 m c k j]
  blk_ext [iblk, e]

theorem blk6 (t : Fin grid0.N) (k j : Fin 512) :
    (iblk m c 6 t : S512x512.Idx → EReal) (ix2 k j) = diag (m ((c : Thread nD τ).loc main_arg6)) k j := by
  have e := (by decide +kernel : ∀ t : Fin grid0.N, win0_6.index t = ![0, 0]) t
  rw [← V_v37 m c k j]
  blk_ext [iblk, e]

end Cert.Rnn
-- ==== Proof.RnnValue.lean ====
/-
  The recurrent call: what its nine arguments determine, token by token and channel by channel, and that its result array
  holds it after the run. The sequence is walked tile by tile: what a tile finds in the token buffer and in the carried
  state is what the tokens before it determine.
-/
module

public import proofs.«01_k».proof.Proof.RnnBlocks

@[expose] public section

set_option maxRecDepth 16384

noncomputable section

namespace Cert.Rnn

open Idealize.ShloMosaic Idealize.ShloMosaic.TcCoe Idealize.SL.Sem
open Cert.KernelIdeal Cert.KernelIdeal.Gen

/-- The layer's nine arguments. -/
structure Args where
  /-- the tokens -/
  x : S2x16384x512.Idx → EReal
  /-- the gelu branch -/
  y : S2x16384x512.Idx → EReal
  /-- the convolution's taps -/
  cw : S4x512.Idx → EReal
  /-- its bias -/
  cb : S512.Idx → EReal
  /-- the recurrence gate's weights -/
  wr : S8x64x64.Idx → EReal
  /-- its bias -/
  br : S512.Idx → EReal
  /-- the input gate's weights -/
  wi : S8x64x64.Idx → EReal
  /-- its bias -/
  bi : S512.Idx → EReal
  /-- the decay's parameter -/
  lam : S512.Idx → EReal

namespace Args
variable (L : Args) (b : Fin 2)

/-- Token `t` of sequence `b` behind three zero tokens. -/
def padded (t : ℕ) (j : Fin 512) : EReal :=
  if h : 3 ≤ t ∧ t - 3 < 16384 then L.x (ix3 b ⟨t - 3, h.2⟩ j) else 0

/-- The convolved token `t`. -/
def row (t : ℕ) (j : Fin 512) : EReal :=
  L.cb (ix1 j) + L.cw (ix2 0 j) * L.padded b t j + L.cw (ix2 1 j) * L.padded b (t + 1) j + L.cw (ix2 2 j) * L.padded b (t + 2) j
    + L.cw (ix2 3 j) * L.padded b (t + 3) j

/-- The decay of token `t` in channel `j`. -/
def decayAt (j : Fin 512) (t : ℕ) : EReal := coeff (L.row b t) (diag L.wr) (fun j => L.br (ix1 j)) (fun j => L.lam (ix1 j)) j

/-- What token `t` adds in channel `j`. -/
def driveAt (j : Fin 512) (t : ℕ) : EReal :=
  drive (L.row b t) (diag L.wr) (fun j => L.br (ix1 j)) (fun j => L.lam (ix1 j)) (diag L.wi) (fun j => L.bi (ix1 j)) j

/-- The state before token `t` in channel `j`. -/
def stateAt (j : Fin 512) (t : ℕ) : EReal := before (L.decayAt b j) (L.driveAt b j) t

/-- The layer's result. -/
def out (t : Fin 16384) (j : Fin 512) : EReal := L.stateAt b j (t.val + 1) * gelu (L.y (ix3 b t j))

end Args

section Tile
variable (L : Args) (b : Fin 2) (k : ℕ) (x0 : Vec Ideal S1x256x512 .f32) (x2 : Vec Ideal S4x512 .f32) (x3 : Vec Ideal S1x512 .f32)
  (x4 : Vec Ideal S512x512 .bf16) (x5 : Vec Ideal S1x512 .f32) (x6 : Vec Ideal S512x512 .bf16) (x7 x8 : Vec Ideal S1x512 .f32)
  (buf : Vec Ideal S264x512 .f32) (st : Vec Ideal S1x512 .f32)

theorem held_padded (h0 : ∀ (p : Fin 256) (j : Fin 512), x0 (ix3 0 p j) = L.padded b (256 * k + p.val + 3) j)
    (hb : ∀ (r : Fin 3) (j : Fin 512), buf (ix2 ⟨5 + r.val, by omega⟩ j) = L.padded b (256 * k + r.val) j) (s : ℕ) (hs : 5 + s < 264) (j : Fin 512) :
    held buf x0 (ix2 ⟨5 + s, hs⟩ j) = L.padded b (256 * k + s) j := by
  rw [held_apply]
  unfold heldAt
  by_cases h : 8 ≤ 5 + s
  · rw [dif_pos h, h0]
    exact congrArg (fun n => L.padded b n j) (show 256 * k + (5 + s - 8) + 3 = 256 * k + s by omega)
  · rw [dif_neg h]
    exact hb ⟨s, by omega⟩ j

theorem conv_row (h0 : ∀ (p : Fin 256) (j : Fin 512), x0 (ix3 0 p j) = L.padded b (256 * k + p.val + 3) j)
    (hb : ∀ (r : Fin 3) (j : Fin 512), buf (ix2 ⟨5 + r.val, by omega⟩ j) = L.padded b (256 * k + r.val) j)
    (h2 : ∀ (n : Fin 4) (j : Fin 512), x2 (ix2 n j) = L.cw (ix2 n j)) (h3 : ∀ j : Fin 512, x3 (ix2 0 j) = L.cb (ix1 j)) (p : Fin 256) :
    rowOf (conv x2 x3 (held buf x0) x0) p = L.row b (256 * k + p.val) := by
  funext j
  have e5 := held_padded L b k x0 buf h0 hb p.val (by omega) j
  have e6 := held_padded L b k x0 buf h0 hb (p.val + 1) (by omega) j
  have e7 := held_padded L b k x0 buf h0 hb (p.val + 2) (by omega) j
  unfold rowOf Args.row
  rw [conv_apply, h2, h2, h2, h2, h3, h0, e5]
  simp only [show 6 + p.val = 5 + (p.val + 1) by omega, show 7 + p.val = 5 + (p.val + 2) by omega, e6, e7, Nat.add_assoc]

theorem tile_states (h0 : ∀ (p : Fin 256) (j : Fin 512), x0 (ix3 0 p j) = L.padded b (256 * k + p.val + 3) j)
    (hb : ∀ (r : Fin 3) (j : Fin 512), buf (ix2 ⟨5 + r.val, by omega⟩ j) = L.padded b (256 * k + r.val) j)
    (h2 : ∀ (n : Fin 4) (j : Fin 512), x2 (ix2 n j) = L.cw (ix2 n j)) (h3 : ∀ j : Fin 512, x3 (ix2 0 j) = L.cb (ix1 j))
    (h4 : ∀ k j : Fin 512, x4 (ix2 k j) = diag L.wr k j) (h5 : ∀ j : Fin 512, x5 (ix2 0 j) = L.br (ix1 j))
    (h6 : ∀ k j : Fin 512, x6 (ix2 k j) = diag L.wi k j) (h7 : ∀ j : Fin 512, x7 (ix2 0 j) = L.bi (ix1 j))
    (h8 : ∀ j : Fin 512, x8 (ix2 0 j) = L.lam (ix1 j)) (hs : ∀ j : Fin 512, st (ix2 0 j) = L.stateAt b j (256 * k)) (p : Fin 256) (j : Fin 512) :
    states (conv x2 x3 (held buf x0) x0) x4 x5 x6 x7 x8 st (ix2 p j) = L.stateAt b j (256 * k + p.val + 1) := by
  have e4 : mat x4 = diag L.wr := funext fun k => funext fun j => h4 k j
  have e6 : mat x6 = diag L.wi := funext fun k => funext fun j => h6 k j
  have e5 : vec x5 = fun j => L.br (ix1 j) := funext h5
  have e7 : vec x7 = fun j => L.bi (ix1 j) := funext h7
  have e8 : vec x8 = fun j => L.lam (ix1 j) := funext h8
  have er := conv_row L b k x0 x2 x3 buf h0 hb h2 h3
  rw [states_apply _ x4 x5 x6 x7 x8 st j (fun q => L.decayAt b j (256 * k + q)) (fun q => L.driveAt b j (256 * k + q))
    (fun q => coeff_nonneg _ _ _ _ _) (fun q => coeff_ne_top _ _ _ _ _)
    (fun q => by rw [er q, e4, e5, e8]; rfl) (fun q => by rw [er q, e4, e5, e6, e7, e8]; rfl) p,
    show vec st j = L.stateAt b j (256 * k) from hs j]
  exact state_tile _ _ _ _

end Tile

section Run
variable (m : (ℓ : Loc nD τ sig) → Buf (Elt Ideal) ℓ) (c : Dev nD)

/-- The arguments that a memory holds. -/
def args : Args where
  x := m ((c : Thread nD τ).loc main_arg0)
  y := m ((c : Thread nD τ).loc main_arg1)
  cw := m ((c : Thread nD τ).loc main_arg2)
  cb := m ((c : Thread nD τ).loc main_arg3)
  wr := m ((c : Thread nD τ).loc main_arg4)
  br := m ((c : Thread nD τ).loc main_arg5)
  wi := m ((c : Thread nD τ).loc main_arg6)
  bi := m ((c : Thread nD τ).loc main_arg7)
  lam := m ((c : Thread nD τ).loc main_arg8)

/-- What a point leaves: its block of the result, its last eight tokens in the buffer, and the state after its tile. -/
def Leaves (r : Vec Ideal S1x256x512 .bf16 × Vec Ideal S264x512 .f32 × Vec Ideal S1x512 .f32) (b : Fin 2) (k : ℕ) (hk : k < 64) : Prop :=
  (∀ (p : Fin 256) (j : Fin 512), r.1 (ix3 0 p j) = (args m c).out b ⟨256 * k + p.val, by omega⟩ j)
    ∧ (∀ (q : Fin 8) (j : Fin 512), r.2.1 (ix2 ⟨q.val, by omega⟩ j) = (args m c).padded b (256 * k + 251 + q.val) j)
    ∧ ∀ j : Fin 512, r.2.2 (ix2 0 j) = (args m c).stateAt b j (256 * k + 256)

theorem blk_token (t : Fin cfg0.N) (b : Fin 2) (k : ℕ) (hk : k < 64) (ht : t.val = 64 * b.val + k) (p : Fin 256) (j : Fin 512) :
    (iblk m c 0 t : S1x256x512.Idx → EReal) (ix3 0 p j) = (args m c).padded b (256 * k + p.val + 3) j := by
  have hN := lt_of_lt_of_eq t.isLt (show cfg0.N = 128 from N_0)
  refine (blk0 m c t p j hN).trans ?_
  unfold Args.padded
  rw [dif_pos ⟨by omega, by omega⟩]
  show m ((c : Thread nD τ).loc main_arg0) _ = m ((c : Thread nD τ).loc main_arg0) _
  exact congrArg₂ (fun (b : Fin 2) (r : Fin 16384) => (m ((c : Thread nD τ).loc main_arg0) : S2x16384x512.Idx → EReal) (ix3 b r j))
    (Fin.ext (show t.val / 64 = b.val by omega)) (Fin.ext (show t.val % 64 * 256 + p.val = 256 * k + p.val + 3 - 3 by omega))

theorem blk_gate (t : Fin cfg0.N) (b : Fin 2) (k : ℕ) (hk : k < 64) (ht : t.val = 64 * b.val + k) (p : Fin 256) (j : Fin 512) :
    (iblk m c 1 t : S1x256x512.Idx → EReal) (ix3 0 p j) = (args m c).y (ix3 b ⟨256 * k + p.val, by omega⟩ j) := by
  have hN := lt_of_lt_of_eq t.isLt (show cfg0.N = 128 from N_0)
  refine (blk1 m c t p j hN).trans ?_
  exact congrArg₂ (fun (b : Fin 2) (r : Fin 16384) => (m ((c : Thread nD τ).loc main_arg1) : S2x16384x512.Idx → EReal) (ix3 b r j))
    (Fin.ext (show t.val / 64 = b.val by omega)) (Fin.ext (show t.val % 64 * 256 + p.val = 256 * k + p.val by omega))

/-- The states of a point's tile, over what the point finds. -/
theorem point_states (t : Fin cfg0.N) (b : Fin 2) (k : ℕ) (hk : k < 64) (ht : t.val = 64 * b.val + k)
    (buf : Vec Ideal S264x512 .f32) (st : Vec Ideal S1x512 .f32)
    (hb : ∀ (r : Fin 3) (j : Fin 512), buf (ix2 ⟨5 + r.val, by omega⟩ j) = (args m c).padded b (256 * k + r.val) j)
    (hs : ∀ j : Fin 512, st (ix2 0 j) = (args m c).stateAt b j (256 * k)) (p : Fin 256) (j : Fin 512) :
    states (conv (iblk m c 2 t) (iblk m c 3 t) (held buf (iblk m c 0 t)) (iblk m c 0 t)) (iblk m c 4 t) (iblk m c 5 t) (iblk m c 6 t)
      (iblk m c 7 t) (iblk m c 8 t) st (ix2 p j) = (args m c).stateAt b j (256 * k + p.val + 1) :=
  tile_states (args m c) b k _ _ _ _ _ _ _ _ buf st (blk_token m c t b k hk ht) hb (blk2 m c t) (blk3 m c t) (blk4 m c t) (blk5 m c t)
    (blk6 m c t) (blk7 m c t) (blk8 m c t) hs p j

theorem leaves_first (t : Fin cfg0.N) (b : Fin 2) (ht : t.val = 64 * b.val)
    (acc : Vec Ideal S1x256x512 .bf16 × Vec Ideal S264x512 .f32 × Vec Ideal S1x512 .f32) :
    Leaves m c (Value.stAt0 m c t.val t.isLt acc) b 0 (by decide) := by
  have hS := point_states m c t b 0 (by decide) ht blank rest (fun r j => by
    unfold blank Args.padded
    rw [dif_neg (by omega)]) (fun j => rfl)
  have hz : t.val % 64 = 0 := by omega
  rw [Value.stAt0_A m c t acc hz]
  dsimp only [Leaves]
  refine ⟨fun p j => ?_, fun q j => ?_, fun j => ?_⟩
  · refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)  ((hcond0_0 t).mpr hz) p j).trans ?_
    unfold stored Args.out
    rw [hS p j, blk_gate m c t b 0 (by decide) ht p j]
  · refine (carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)  ((hcond0_0 t).mpr hz) q j).trans ?_
    rw [blk_token m c t b 0 (by decide) ht]
    exact congrArg (fun n => (args m c).padded b n j) (show 256 * 0 + (248 + q.val) + 3 = 256 * 0 + 251 + q.val by omega)
  · exact (state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t)  ((hcond0_0 t).mpr hz) j).trans (hS 255 j)

theorem leaves_next (t : Fin cfg0.N) (b : Fin 2) (k : ℕ) (hk : k + 1 < 64) (ht : t.val = 64 * b.val + (k + 1))
    (acc : Vec Ideal S1x256x512 .bf16 × Vec Ideal S264x512 .f32 × Vec Ideal S1x512 .f32) (h : Leaves m c acc b k (by omega)) :
    Leaves m c (Value.stAt0 m c t.val t.isLt acc) b (k + 1) hk := by
  have hS := point_states m c t b (k + 1) hk ht acc.2.1 acc.2.2 (fun r j => by
    refine (h.2.1 ⟨5 + r.val, by omega⟩ j).trans ?_
    exact congrArg (fun n => (args m c).padded b n j) (show 256 * k + 251 + (5 + r.val) = 256 * (k + 1) + r.val by omega)) (fun j => h.2.2 j)
  have hz : ¬t.val % 64 = 0 := by omega
  rw [Value.stAt0_B m c t acc hz]
  dsimp only [Leaves]
  refine ⟨fun p j => ?_, fun q j => ?_, fun j => ?_⟩
  · refine (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) acc.2.1 acc.2.2 (fun h => hz ((hcond0_0 t).mp h)) p j).trans ?_
    unfold stored Args.out
    rw [hS p j, blk_gate m c t b (k + 1) hk ht p j]
  · refine (carry_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) acc.2.1 acc.2.2 (fun h => hz ((hcond0_0 t).mp h)) q j).trans ?_
    rw [blk_token m c t b (k + 1) hk ht]
    exact congrArg (fun n => (args m c).padded b n j) (show 256 * (k + 1) + (248 + q.val) + 3 = 256 * (k + 1) + 251 + q.val by omega)
  · exact (state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) acc.2.1 acc.2.2 (fun h => hz ((hcond0_0 t).mp h)) j).trans (hS 255 j)

theorem leaves (b : Fin 2) : ∀ (k : ℕ) (hk : k < 64) (hn : 64 * b.val + k < cfg0.N), Leaves m c (outsAt0 m c (64 * b.val + k) hn) b k hk
  | 0, hk, hn => by
    have e : ∀ (n : ℕ) (hn : n < cfg0.N), n = 64 * b.val → Leaves m c (outsAt0 m c n hn) b 0 hk
      | 0, hn, h => by rw [Value.outsAt0_zero]; exact leaves_first m c ⟨0, hn⟩ b h _
      | n + 1, hn, h => by rw [Value.outsAt0_succ]; exact leaves_first m c ⟨n + 1, hn⟩ b h _
    exact e _ hn rfl
  | k + 1, hk, hn => by
    have ih := leaves b k (by omega) (by omega)
    exact leaves_next m c ⟨64 * b.val + (k + 1), hn⟩ b k hk rfl _ ih

/-- The array that the run leaves is the layer's result. -/
theorem result (b : Fin 2) (t : Fin 16384) (j : Fin 512) :
    (Cert.KernelIdeal.Value.G9 m c : S2x16384x512.Idx → EReal) (ix3 b t j) = (args m c).out b t j := by
  have hp : Value.pt9Of (ix3 b t j) = 64 * b.val + t.val / 256 := by
    show 64 * (b.val / 1 - 0) + 1 * (t.val / 256 - 0) + 1 * (j.val / 512 - 0) = _
    omega
  have hl : Value.loc9Of (ix3 b t j) = ix3 0 (⟨t.val % 256, by omega⟩ : Fin 256) j := by
    funext a
    match a with
    | ⟨0, _⟩ => exact Fin.ext (show b.val % 1 = 0 by omega)
    | ⟨1, _⟩ => rfl
    | ⟨2, _⟩ => exact Fin.ext (show j.val % 512 = j.val by omega)
  have hn : 64 * b.val + t.val / 256 < cfg0.N := lt_of_lt_of_eq (by omega) N_0.symm
  unfold Value.G9
  rw [dif_pos (hp ▸ hn), ← Value.outsAt0_sweep m c _ (hp ▸ hn), hl]
  have e : ∀ (n : ℕ) (h : n < cfg0.N), n = 64 * b.val + t.val / 256 → (outsAt0 m c n h).1 (ix3 0 ⟨t.val % 256, by omega⟩ j) = (args m c).out b t j := by
    rintro n h rfl
    refine ((leaves m c b (t.val / 256) (by omega) hn).1 ⟨t.val % 256, by omega⟩ j).trans ?_
    exact congrArg (fun r : Fin 16384 => (args m c).out b r j) (Fin.ext (show 256 * (t.val / 256) + t.val % 256 = t.val by omega))
  exact e _ _ hp

end Run

end Cert.Rnn
-- ==== Proof.RnnRef.lean ====
/-
  The recurrent call's reference: what its operations before the loop leave, what one trip of its loop makes of the carried
  arrays, and the result, all token by token and channel by channel.
-/
module

public import proofs.«01_k».proof.Proof.RnnValue
public import proofs.«01_k».proof.Proof.Gen.ReferenceIdeal.Run
public import Idealize.ShloMosaic.Lib.DynamicIndex

@[expose] public section

set_option maxRecDepth 16384

noncomputable section

namespace Cert.Rnn

open Idealize.ShloMosaic Idealize.ShloMosaic.TcCoe Idealize.SL.Sem
open Idealize.ShloMosaic.StableHlo
open Cert.ReferenceIdeal Cert.ReferenceIdeal.Gen Cert.ReferenceIdeal.Value

/-- One tap of the convolution. -/
def rTap0 (p : FVec Ideal S2x16387x512 .f32) (cw : FVec Ideal S4x512 .f32) : FVec Ideal S2x16384x512 .f32 :=
  mulf (broadcastInDim S2x16384x512 ![0, 1, 2] bcast_S1x1x512_S2x16384x512_0_1_2 (broadcastInDim S1x1x512 ![2] bcast_S512_S1x1x512_2
    (shapeCast S512 (extractStridedSlice S1x512 ![0, 0] cw slices_S4x512_S1x512_0_0) shapeCasts_S1x512_S512)))
    (extractStridedSlice S2x16384x512 ![0, 0, 0] p slices_S2x16387x512_S2x16384x512_0_0_0)
/-- The next tap. -/
def rTap1 (p : FVec Ideal S2x16387x512 .f32) (cw : FVec Ideal S4x512 .f32) : FVec Ideal S2x16384x512 .f32 :=
  mulf (broadcastInDim S2x16384x512 ![0, 1, 2] bcast_S1x1x512_S2x16384x512_0_1_2 (broadcastInDim S1x1x512 ![2] bcast_S512_S1x1x512_2
    (shapeCast S512 (extractStridedSlice S1x512 ![1, 0] cw slices_S4x512_S1x512_1_0) shapeCasts_S1x512_S512)))
    (extractStridedSlice S2x16384x512 ![0, 1, 0] p slices_S2x16387x512_S2x16384x512_0_1_0)
/-- The next tap. -/
def rTap2 (p : FVec Ideal S2x16387x512 .f32) (cw : FVec Ideal S4x512 .f32) : FVec Ideal S2x16384x512 .f32 :=
  mulf (broadcastInDim S2x16384x512 ![0, 1, 2] bcast_S1x1x512_S2x16384x512_0_1_2 (broadcastInDim S1x1x512 ![2] bcast_S512_S1x1x512_2
    (shapeCast S512 (extractStridedSlice S1x512 ![2, 0] cw slices_S4x512_S1x512_2_0) shapeCasts_S1x512_S512)))
    (extractStridedSlice S2x16384x512 ![0, 2, 0] p slices_S2x16387x512_S2x16384x512_0_2_0)
/-- The last tap. -/
def rTap3 (p : FVec Ideal S2x16387x512 .f32) (cw : FVec Ideal S4x512 .f32) : FVec Ideal S2x16384x512 .f32 :=
  mulf (broadcastInDim S2x16384x512 ![0, 1, 2] bcast_S1x1x512_S2x16384x512_0_1_2 (broadcastInDim S1x1x512 ![2] bcast_S512_S1x1x512_2
    (shapeCast S512 (extractStridedSlice S1x512 ![3, 0] cw slices_S4x512_S1x512_3_0) shapeCasts_S1x512_S512)))
    (extractStridedSlice S2x16384x512 ![0, 3, 0] p slices_S2x16387x512_S2x16384x512_0_3_0)

/-- The convolved tokens. -/
def rConv (p : FVec Ideal S2x16387x512 .f32) (cw : FVec Ideal S4x512 .f32) (cb : FVec Ideal S512 .f32) : FVec Ideal S2x16384x512 .f32 :=
  addf (addf (addf (addf (broadcastInDim S2x16384x512 ![0, 1, 2] bcast_S1x1x512_S2x16384x512_0_1_2 (broadcastInDim S1x1x512 ![2] bcast_S512_S1x1x512_2 cb))
    (rTap0 p cw)) (rTap1 p cw)) (rTap2 p cw)) (rTap3 p cw)

/-- A gate of the convolved tokens. -/
def rGate (xc : FVec Ideal S2x16384x512 .f32) (w : FVec Ideal S8x64x64 .f32) (b : FVec Ideal S512 .f32) : FVec Ideal S2x16384x512 .f32 :=
  Host.divf (broadcastInDim S2x16384x512 ![] bcast_S_S2x16384x512 (constant S_ .f32 0x3F800000#32))
    (addf (broadcastInDim S2x16384x512 ![] bcast_S_S2x16384x512 (constant S_ .f32 0x3F800000#32)) (Host.exp (Host.negf
      (addf (shapeCast S2x16384x512 (transpose S2x16384x8x64 [2, 3, 0, 1]
        (Host.dotGeneral dot_S8x64x64_S2x16384x8x64_S8x64x2x16384_1_3_2_01_0_2 none w (shapeCast S2x16384x8x64 xc shapeCasts_S2x16384x512_S2x16384x8x64))
        transposes_S8x64x2x16384_S2x16384x8x64_2_3_0_1) shapeCasts_S2x16384x8x64_S2x16384x512)
        (broadcastInDim S2x16384x512 ![0, 1, 2] bcast_S1x1x512_S2x16384x512_0_1_2 (broadcastInDim S1x1x512 ![2] bcast_S512_S1x1x512_2 b))))))

/-- The softplus of the decay's parameter with its sign changed. -/
def rSoft (v : FVec Ideal S512 .f32) : FVec Ideal S512 .f32 :=
  select (cmpf .une (subf v (broadcastInDim S512 ![] bcast_S_S512 (constant S_ .f32 0x00000000#32))) (subf v (broadcastInDim S512 ![] bcast_S_S512 (constant S_ .f32 0x00000000#32))))
    (addf v (broadcastInDim S512 ![] bcast_S_S512 (constant S_ .f32 0x00000000#32)))
    (addf (maximumf v (broadcastInDim S512 ![] bcast_S_S512 (constant S_ .f32 0x00000000#32)))
      (Host.log1p (Host.exp (Host.negf (Host.absf (subf v (broadcastInDim S512 ![] bcast_S_S512 (constant S_ .f32 0x00000000#32))))))))

/-- The logarithm of the decay. -/
def rLog (g : FVec Ideal S2x16384x512 .f32) (sp : FVec Ideal S512 .f32) : FVec Ideal S2x16384x512 .f32 :=
  mulf g (broadcastInDim S2x16384x512 ![0, 1, 2] bcast_S1x1x512_S2x16384x512_0_1_2 (broadcastInDim S1x1x512 ![2] bcast_S512_S1x1x512_2 sp))

/-- What the tokens add to the state. -/
def rDrive (la gi xc : FVec Ideal S2x16384x512 .f32) : FVec Ideal S2x16384x512 .f32 :=
  mulf (Host.sqrt (Host.negf (Host.expm1 (mulf (broadcastInDim S2x16384x512 ![] bcast_S_S2x16384x512 (constant S_ .f32 0x40000000#32)) la)))) (mulf gi xc)

section Read
variable (V : Valuation τ sig (Elt Ideal))

/-- The tokens behind three zero tokens, as the first operations leave them. -/
theorem read_v0 : after hostOps0_1 (after hostOps0 V) (Proc.devRef .tc main_v0)
    = pad S2x16387x512 ![0, 3, 0] ![0, 0, 0] ![0, 0, 0] (V (Proc.devRef .tc main_arg0)) (sitofp (F := Ideal) .f32 (constantI S_ 32 0#32))
        pads_S2x16384x512_S2x16387x512_000_300_000 h_S_ := by
  simp only [hostOps0_1, hostOps0]
  after_results_entrywise []

theorem read_v30 : after hostOps0_2 V (Proc.devRef .tc main_v30)
    = rConv (V (Proc.devRef .tc main_v0)) (V (Proc.devRef .tc main_arg2)) (V (Proc.devRef .tc main_arg3)) := by
  unfold rConv rTap0 rTap1 rTap2 rTap3
  simp only [hostOps0_2]
  after_results_entrywise []

theorem read_v57 : after hostOps0_2 V (Proc.devRef .tc main_v57)
    = mulf (broadcastInDim S2x16384x512 ![] bcast_S_S2x16384x512 (constant S_ .f32 0xC1000000#32))
        (rGate (rConv (V (Proc.devRef .tc main_v0)) (V (Proc.devRef .tc main_arg2)) (V (Proc.devRef .tc main_arg3)))
          (V (Proc.devRef .tc main_arg4)) (V (Proc.devRef .tc main_arg5))) := by
  unfold rGate rConv rTap0 rTap1 rTap2 rTap3
  simp only [hostOps0_2]
  after_results_entrywise []

theorem read_v55 : after hostOps0_2 V (Proc.devRef .tc main_v55)
    = rGate (rConv (V (Proc.devRef .tc main_v0)) (V (Proc.devRef .tc main_arg2)) (V (Proc.devRef .tc main_arg3)))
          (V (Proc.devRef .tc main_arg6)) (V (Proc.devRef .tc main_arg7)) := by
  unfold rGate rConv rTap0 rTap1 rTap2 rTap3
  simp only [hostOps0_2]
  after_results_entrywise []

theorem read_v58 : after hostOps0_2 V (Proc.devRef .tc main_v58) = (Host.negf (V (Proc.devRef .tc main_arg8) : FVec Ideal S512 .f32) : FVec Ideal S512 .f32) := by
  simp only [hostOps0_2]
  after_results_entrywise []

theorem read_v59 : after hostOps0_3 V (Proc.devRef .tc main_v59) = rSoft (V (Proc.devRef .tc main_v58)) := by
  unfold rSoft
  simp only [hostOps0_3]
  after_results_entrywise []

theorem read_v75_0 : after hostOps0_4 V (Proc.devRef .tc main_v75_0)
    = transpose S16384x2x512 [1, 0, 2] (Host.exp (rLog (V (Proc.devRef .tc main_v57)) (V (Proc.devRef .tc main_v59)))) transposes_S2x16384x512_S16384x2x512_1_0_2 := by
  unfold rLog
  simp only [hostOps0_4]
  after_results_entrywise []

theorem read_v75_1 : after hostOps0_4 V (Proc.devRef .tc main_v75_1)
    = transpose S16384x2x512 [1, 0, 2] (rDrive (rLog (V (Proc.devRef .tc main_v57)) (V (Proc.devRef .tc main_v59))) (V (Proc.devRef .tc main_v55)) (V (Proc.devRef .tc main_v30)))
        transposes_S2x16384x512_S16384x2x512_1_0_2 := by
  unfold rDrive rLog
  simp only [hostOps0_4]
  after_results_entrywise []

theorem read_v75_3 : after hostOps0_4 V (Proc.devRef .tc main_v75_3)
    = broadcastInDim S2x512 ![] bcast_S_S2x512 (constant (F := Ideal) S_ .f32 0x00000000#32) := by
  simp only [hostOps0_4]
  after_results_entrywise []

end Read

section Point

theorem pad_row (L : Args) (b : Fin 2) (t : Fin 16387) (j : Fin 512) :
    pad S2x16387x512 ![0, 3, 0] ![0, 0, 0] ![0, 0, 0] L.x (sitofp (F := Ideal) .f32 (constantI S_ 32 0#32))
        pads_S2x16384x512_S2x16387x512_000_300_000 h_S_ (ix3 b t j) = L.padded b t.val j := by
  unfold Args.padded
  by_cases h : 3 ≤ t.val ∧ t.val - 3 < 16384
  · rw [dif_pos h]
    exact pad_apply_of_inside _ _ _ _ _ _ h_S_ (ix3 b t j) (ix3 b ⟨t.val - 3, h.2⟩ j) fun a => by
      match a with
      | ⟨0, _⟩ => show b.val = 0 + b.val * 1; omega
      | ⟨1, _⟩ => show t.val = 3 + (t.val - 3) * 1; omega
      | ⟨2, _⟩ => show j.val = 0 + j.val * 1; omega
  · rw [dif_neg h]
    refine (pad_apply_of_not_inside _ _ _ _ _ _ h_S_ (ix3 b t j) 1 (fun hc => h ?_)).trans ?_
    · have h1 : 3 ≤ t.val := hc.1
      have h2 : (t.val - 3) / 1 < 16384 := hc.2.2
      exact ⟨h1, by omega⟩
    · exact sitofp_zero (φ := .f32)

theorem rConv_at (p : FVec Ideal S2x16387x512 .f32) (cw : FVec Ideal S4x512 .f32) (cb : FVec Ideal S512 .f32) (b : Fin 2) (t : Fin 16384) (j : Fin 512) :
    rConv p cw cb (ix3 b t j) = cb (ix1 j) + cw (ix2 0 j) * p (ix3 b ⟨t.val, by omega⟩ j) + cw (ix2 1 j) * p (ix3 b ⟨1 + t.val, by omega⟩ j)
      + cw (ix2 2 j) * p (ix3 b ⟨2 + t.val, by omega⟩ j) + cw (ix2 3 j) * p (ix3 b ⟨3 + t.val, by omega⟩ j) := by
  pointwise [rConv, rTap0, rTap1, rTap2, rTap3]

/-- A sum over the matrix's column is the sum over the column's own block. -/
theorem block_sum (f : Fin 512 → EReal) (w : S8x64x64.Idx → EReal) (j : Fin 512) :
    ∑ k : Fin 512, f k * diag w k j
      = ∑ q : Fin 64, w (ix3 ⟨j.val / 64, by omega⟩ q ⟨j.val % 64, by omega⟩) * f ⟨j.val / 64 * 64 + q.val, by omega⟩ := by
  symm
  refine Finset.sum_of_injOn (fun q : Fin 64 => (⟨j.val / 64 * 64 + q.val, by omega⟩ : Fin 512)) ?_ (fun _ _ => Finset.mem_coe.mpr (Finset.mem_univ _)) ?_ ?_
  · intro a _ a' _ h
    have := congrArg Fin.val h
    exact Fin.ext (by simpa using this)
  · intro k _ hk
    unfold diag
    rw [if_neg, mul_zero]
    intro e
    exact hk ⟨⟨k.val % 64, by omega⟩, Finset.mem_coe.mpr (Finset.mem_univ _), Fin.ext (show j.val / 64 * 64 + k.val % 64 = k.val by omega)⟩
  · intro q _
    unfold diag
    have e : (j.val / 64 * 64 + q.val) / 64 = j.val / 64 := by omega
    have e' : (j.val / 64 * 64 + q.val) % 64 = q.val := by omega
    simp only [e, e', if_true]
    rw [mul_comm]

theorem rGate_at (xc : FVec Ideal S2x16384x512 .f32) (w : FVec Ideal S8x64x64 .f32) (g : FVec Ideal S512 .f32) (b : Fin 2) (t : Fin 16384) (j : Fin 512) :
    rGate xc w g (ix3 b t j) = gate (fun k => xc (ix3 b t k)) (diag w) (fun j => g (ix1 j)) j := by
  pointwise [rGate, gate]
  rw [block_sum (fun k => xc (ix3 b t k)) w j]
  rfl

theorem rSoft_at (v : FVec Ideal S512 .f32) (j : Fin 512) : rSoft v (ix1 j) = softplus (v (ix1 j)) := by
  pointwise [rSoft, softplus]
  rw [if_neg (fun h => h rfl), sub_eq_add_neg, zero_add]

theorem two_eq : Ideal.ofBits .f32 0x40000000#32 = 2 := by
  rw [show (2 : EReal) = ((2 : ℝ) : EReal) by norm_cast]
  simp [Ideal.ofBits, Ideal.ieee, -EReal.coe_mul]; norm_num

theorem rDrive_at (la gi xc : FVec Ideal S2x16384x512 .f32) (b : Fin 2) (t : Fin 16384) (j : Fin 512) : rDrive la gi xc (ix3 b t j)
    = Ideal.sqrt (-(Ideal.exp (2 * la (ix3 b t j)) - 1)) * (gi (ix3 b t j) * xc (ix3 b t j)) := by
  pointwise [rDrive, two_eq]

end Point

section Entry
variable (m : (ℓ : Loc nD τ sig) → Buf (Elt Ideal) ℓ) (c : Dev nD)

/-- The layer's arguments in the reference's memory. -/
def refArgs : Args where
  x := m ((c.tc : Thread nD τ).loc main_arg0)
  y := m ((c.tc : Thread nD τ).loc main_arg1)
  cw := m ((c.tc : Thread nD τ).loc main_arg2)
  cb := m ((c.tc : Thread nD τ).loc main_arg3)
  wr := m ((c.tc : Thread nD τ).loc main_arg4)
  br := m ((c.tc : Thread nD τ).loc main_arg5)
  wi := m ((c.tc : Thread nD τ).loc main_arg6)
  bi := m ((c.tc : Thread nD τ).loc main_arg7)
  lam := m ((c.tc : Thread nD τ).loc main_arg8)

/-- The padded tokens. -/
def rPad : FVec Ideal S2x16387x512 .f32 :=
  pad S2x16387x512 ![0, 3, 0] ![0, 0, 0] ![0, 0, 0] (refArgs m c).x (sitofp (F := Ideal) .f32 (constantI S_ 32 0#32))
    pads_S2x16384x512_S2x16387x512_000_300_000 h_S_

/-- The convolved tokens. -/
def rRows : FVec Ideal S2x16384x512 .f32 := rConv (rPad m c) (refArgs m c).cw (refArgs m c).cb

/-- The decays' logarithms. -/
def rLogs : FVec Ideal S2x16384x512 .f32 :=
  rLog (mulf (broadcastInDim S2x16384x512 ![] bcast_S_S2x16384x512 (constant S_ .f32 0xC1000000#32)) (rGate (rRows m c) (refArgs m c).wr (refArgs m c).br))
    (rSoft (Host.negf ((refArgs m c).lam : FVec Ideal S512 .f32)))

theorem rRows_at (b : Fin 2) (t : Fin 16384) (j : Fin 512) : rRows m c (ix3 b t j) = (refArgs m c).row b t.val j := by
  unfold rRows rPad Args.row
  rw [rConv_at]
  simp only [pad_row, Nat.add_comm]

theorem rLogs_at (b : Fin 2) (t : Fin 16384) (j : Fin 512) : rLogs m c (ix3 b t j)
    = logDecay ((refArgs m c).row b t.val) (diag (refArgs m c).wr) (fun j => (refArgs m c).br (ix1 j)) (fun j => (refArgs m c).lam (ix1 j)) j := by
  unfold rLogs logDecay
  pointwise [rLog, rGate_at, rSoft_at, rRows_at]
  rw [sub_eq_add_neg 0, zero_add]

/-- The contents before the gates. -/
def V1 : Valuation τ sig (Elt Ideal) := after hostOps0_1 (after hostOps0 (launchContents m c))

theorem V1_v0 : V1 m c (Proc.devRef .tc main_v0) = rPad m c := (read_v0 _).trans rfl
theorem V1_arg2 : V1 m c (Proc.devRef .tc main_arg2) = (refArgs m c).cw := by unfold V1; rw [keep_main_arg2_hostOps0_1, keep_main_arg2_hostOps0]; rfl
theorem V1_arg3 : V1 m c (Proc.devRef .tc main_arg3) = (refArgs m c).cb := by unfold V1; rw [keep_main_arg3_hostOps0_1, keep_main_arg3_hostOps0]; rfl
theorem V1_arg4 : V1 m c (Proc.devRef .tc main_arg4) = (refArgs m c).wr := by unfold V1; rw [keep_main_arg4_hostOps0_1, keep_main_arg4_hostOps0]; rfl
theorem V1_arg5 : V1 m c (Proc.devRef .tc main_arg5) = (refArgs m c).br := by unfold V1; rw [keep_main_arg5_hostOps0_1, keep_main_arg5_hostOps0]; rfl
theorem V1_arg6 : V1 m c (Proc.devRef .tc main_arg6) = (refArgs m c).wi := by unfold V1; rw [keep_main_arg6_hostOps0_1, keep_main_arg6_hostOps0]; rfl
theorem V1_arg7 : V1 m c (Proc.devRef .tc main_arg7) = (refArgs m c).bi := by unfold V1; rw [keep_main_arg7_hostOps0_1, keep_main_arg7_hostOps0]; rfl
theorem V1_arg8 : V1 m c (Proc.devRef .tc main_arg8) = (refArgs m c).lam := by unfold V1; rw [keep_main_arg8_hostOps0_1, keep_main_arg8_hostOps0]; rfl

/-- The contents before the recurrence's coefficients. -/
def V3 : Valuation τ sig (Elt Ideal) := after hostOps0_3 (after hostOps0_2 (V1 m c))

theorem V3_v30 : V3 m c (Proc.devRef .tc main_v30) = rRows m c := by
  unfold V3
  rw [after_of_writes_sub hostOps0_3 _ hostOps0_3_writes (by decide +kernel : main_v30 ∉ hostOps0_3_W), read_v30, V1_v0, V1_arg2, V1_arg3]
  rfl
theorem V3_v55 : V3 m c (Proc.devRef .tc main_v55) = rGate (rRows m c) (refArgs m c).wi (refArgs m c).bi := by
  unfold V3
  rw [after_of_writes_sub hostOps0_3 _ hostOps0_3_writes (by decide +kernel : main_v55 ∉ hostOps0_3_W), read_v55, V1_v0, V1_arg2, V1_arg3, V1_arg6, V1_arg7]
  rfl
theorem V3_v57 : V3 m c (Proc.devRef .tc main_v57) = mulf (broadcastInDim S2x16384x512 ![] bcast_S_S2x16384x512 (constant S_ .f32 0xC1000000#32))
    (rGate (rRows m c) (refArgs m c).wr (refArgs m c).br) := by
  unfold V3
  rw [after_of_writes_sub hostOps0_3 _ hostOps0_3_writes (by decide +kernel : main_v57 ∉ hostOps0_3_W), read_v57, V1_v0, V1_arg2, V1_arg3, V1_arg4, V1_arg5]
  rfl
theorem V3_v59 : V3 m c (Proc.devRef .tc main_v59) = rSoft (Host.negf ((refArgs m c).lam : FVec Ideal S512 .f32)) := by
  unfold V3
  rw [read_v59, read_v58, V1_arg8]

theorem entry_eq : entryContents preI m c = after hostOps0_4 (V3 m c) := rfl

theorem entry_decay (t : Fin 16384) (b : Fin 2) (j : Fin 512) :
    (entryContents preI m c (Proc.devRef .tc main_v75_0) : S16384x2x512.Idx → EReal) (ix3 t b j) = (refArgs m c).decayAt b j t.val := by
  rw [entry_eq, read_v75_0, V3_v57, V3_v59]
  show transpose S16384x2x512 [1, 0, 2] (Host.exp (rLogs m c)) _ (ix3 t b j) = _
  unfold Args.decayAt coeff
  pointwise [rLogs_at]

theorem entry_drive (t : Fin 16384) (b : Fin 2) (j : Fin 512) :
    (entryContents preI m c (Proc.devRef .tc main_v75_1) : S16384x2x512.Idx → EReal) (ix3 t b j) = (refArgs m c).driveAt b j t.val := by
  rw [entry_eq, read_v75_1, V3_v57, V3_v59, V3_v55, V3_v30]
  show transpose S16384x2x512 [1, 0, 2] (rDrive (rLogs m c) (rGate (rRows m c) (refArgs m c).wi (refArgs m c).bi) (rRows m c)) _ (ix3 t b j) = _
  unfold Args.driveAt drive
  pointwise [rLogs_at, rDrive_at, rGate_at, rRows_at]

theorem entry_state (b : Fin 2) (j : Fin 512) :
    (entryContents preI m c (Proc.devRef .tc main_v75_3) : S2x512.Idx → EReal) (ix2 b j) = (0 : EReal) := by
  rw [entry_eq, read_v75_3]
  pointwise

end Entry

section Loop

/-- What the loop carries before trip `k`. -/
structure Carried (L : Args) (k : ℕ) (V : Valuation τ sig (Elt Ideal)) : Prop where
  decay : ∀ (t : Fin 16384) (b : Fin 2) (j : Fin 512), (V (Proc.devRef .tc main_v75_0) : S16384x2x512.Idx → EReal) (ix3 t b j) = L.decayAt b j t.val
  drive : ∀ (t : Fin 16384) (b : Fin 2) (j : Fin 512), (V (Proc.devRef .tc main_v75_1) : S16384x2x512.Idx → EReal) (ix3 t b j) = L.driveAt b j t.val
  count : (V (Proc.devRef .tc main_v75_2) : S_.Idx → BitVec 32) = fun _ => BitVec.ofNat 32 k
  state : ∀ (b : Fin 2) (j : Fin 512), (V (Proc.devRef .tc main_v75_3) : S2x512.Idx → EReal) (ix2 b j) = L.stateAt b j k
  states : ∀ (t : Fin 16384) (b : Fin 2) (j : Fin 512), t.val < k →
    (V (Proc.devRef .tc main_v75_4) : S16384x2x512.Idx → EReal) (ix3 t b j) = L.stateAt b j (t.val + 1)

/-- Row `k` of a carried array, as one trip reads it. -/
theorem row_at (x : FVec Ideal S16384x2x512 .f32) (k : ℕ) (hk : k < 16384) (start : Fin 3 → ℤ) (hs : ∀ a, start a = ((![k, 0, 0] : Fin 3 → ℕ) a : ℤ))
    (b : Fin 2) (j : Fin 512) :
    shapeCast S2x512 (Host.dynamicSlice S1x2x512 x start sliceFits_S16384x2x512_S1x2x512) shapeCasts_S1x2x512_S2x512 (ix2 b j) = x (ix3 ⟨k, hk⟩ b j) := by
  have hoff : S16384x2x512.Slices ![k, 0, 0] S1x2x512 := ⟨rfl, fun a => by
    match a with
    | ⟨0, _⟩ => show k + 1 ≤ 16384; omega
    | ⟨1, _⟩ => show 0 + 2 ≤ 2; omega
    | ⟨2, _⟩ => show 0 + 512 ≤ 512; omega⟩
  rw [Host.dynamicSlice_eq_extractStridedSlice S1x2x512 x start ![k, 0, 0] _ hoff hs]
  pointwise

/-- A carried array with row `k` replaced. -/
theorem put_at (x : FVec Ideal S16384x2x512 .f32) (v : FVec Ideal S2x512 .f32) (k : ℕ) (hk : k < 16384) (start : Fin 3 → ℤ)
    (hs : ∀ a, start a = ((![k, 0, 0] : Fin 3 → ℕ) a : ℤ)) (t : Fin 16384) (b : Fin 2) (j : Fin 512) :
    Host.dynamicUpdateSlice x (broadcastInDim S1x2x512 ![1, 2] bcast_S2x512_S1x2x512_1_2 v) start updateFits_S16384x2x512_S1x2x512 (ix3 t b j)
      = if t.val = k then v (ix2 b j) else x (ix3 t b j) := by
  have c0 : Host.clampedStart S16384x2x512 S1x2x512 updateFits_S16384x2x512_S1x2x512.1 start 0 = k :=
    Host.clampedStart_of_le _ _ _ k (hs 0) (show k + 1 ≤ 16384 by omega)
  have c1 : Host.clampedStart S16384x2x512 S1x2x512 updateFits_S16384x2x512_S1x2x512.1 start 1 = 0 :=
    Host.clampedStart_of_le _ _ _ 0 (hs 1) (show 0 + 2 ≤ 2 by omega)
  have c2 : Host.clampedStart S16384x2x512 S1x2x512 updateFits_S16384x2x512_S1x2x512.1 start 2 = 0 :=
    Host.clampedStart_of_le _ _ _ 0 (hs 2) (show 0 + 512 ≤ 512 by omega)
  rw [Host.dynamicUpdateSlice_apply]
  by_cases h : t.val = k
  · rw [if_pos h, dif_pos]
    · pointwise
      exact congrArg₂ (fun a d => v (ix2 a d)) (Fin.ext (by dsimp only; rw [c1]; rfl)) (Fin.ext (by dsimp only; rw [c2]; rfl))
    · intro a
      match a with
      | ⟨0, _⟩ => exact ⟨c0.le.trans h.ge, by show t.val < Host.clampedStart S16384x2x512 S1x2x512 updateFits_S16384x2x512_S1x2x512.1 start 0 + 1; rw [c0]; omega⟩
      | ⟨1, _⟩ => exact ⟨c1.le.trans (Nat.zero_le _), by show b.val < Host.clampedStart S16384x2x512 S1x2x512 updateFits_S16384x2x512_S1x2x512.1 start 1 + 2; rw [c1]; omega⟩
      | ⟨2, _⟩ => exact ⟨c2.le.trans (Nat.zero_le _), by show j.val < Host.clampedStart S16384x2x512 S1x2x512 updateFits_S16384x2x512_S1x2x512.1 start 2 + 512; rw [c2]; omega⟩
  · rw [if_neg h, dif_neg]
    intro hin
    obtain ⟨h0, h1⟩ := hin 0
    rw [c0] at h0 h1
    exact h (le_antisymm (Nat.lt_succ_iff.mp h1) h0)

variable {L : Args} {k : ℕ} {V : Valuation τ sig (Elt Ideal)}

theorem Carried.start (h : Carried L k V) (hk : k < 16384) (a : Fin 3) :
    (((![V (Proc.devRef .tc main_v75_2), constantI S_ 32 0#32, constantI S_ 32 0#32] : Fin 3 → (⟨S_, .i32⟩ : BufTy).Contents (Elt Ideal))) a (Shape.Idx.first h_S_)).toInt
      = ((![k, 0, 0] : Fin 3 → ℕ) a : ℤ) := by
  match a with
  | ⟨0, _⟩ =>
    show ((V (Proc.devRef .tc main_v75_2) : S_.Idx → BitVec 32) (Shape.Idx.first h_S_)).toInt = (k : ℤ)
    rw [h.count]
    exact toInt_ofNat_of_lt (by omega)
  | ⟨1, _⟩ => rfl
  | ⟨2, _⟩ => rfl

theorem Carried.next (h : Carried L k V) (hk : k < 16384) (b : Fin 2) (j : Fin 512) :
    (res_main_while0b_v95 V : S2x512.Idx → EReal) (ix2 b j) = L.stateAt b j (k + 1) := by
  unfold res_main_while0b_v95
  refine (congrArg₂ (fun x y : EReal => x + y) (congrArg₂ (fun x y : EReal => x * y) ((row_at _ k hk _ (h.start hk) b j).trans (h.decay ⟨k, hk⟩ b j)) (h.state b j))
    ((row_at _ k hk _ (h.start hk) b j).trans (h.drive ⟨k, hk⟩ b j))).trans ?_
  exact add_comm _ _

theorem Carried.step (h : Carried L k V) (hk : k < 16384) : Carried L (k + 1) (STEP V) where
  decay := by rw [STEP_main_v75_0]; exact h.decay
  drive := by rw [STEP_main_v75_1]; exact h.drive
  count := by
    rw [STEP_main_v75_2]
    unfold step_main_v75_2
    rw [h.count]
    funext i
    show BitVec.ofNat 32 k + 1#32 = _
    rw [← BitVec.ofNat_add]
  state := by
    rw [STEP_main_v75_3]
    exact h.next hk
  states := by
    intro t b j ht
    rw [STEP_main_v75_4]
    refine (put_at _ _ k hk _ (h.start hk) t b j).trans ?_
    by_cases e : t.val = k
    · rw [if_pos e, h.next hk, e]
    · rw [if_neg e, h.states t b j (by omega)]

theorem carried (m : (ℓ : Loc nD τ sig) → Buf (Elt Ideal) ℓ) (c : Dev nD) :
    ∀ k ≤ 16384, Carried (refArgs m c) k (STEP^[k] (entryContents preI m c))
  | 0, _ => ⟨entry_decay m c, entry_drive m c, ctr_entry m c, entry_state m c, fun _ _ _ h => absurd h (Nat.not_lt_zero _)⟩
  | k + 1, h => by
    rw [Function.iterate_succ_apply']
    exact (carried m c k (by omega)).step (by omega)

/-- The reference's result, token by token and channel by channel. -/
theorem ref_result (m : (ℓ : Loc nD τ sig) → Buf (Elt Ideal) ℓ) (c : Dev nD) (b : Fin 2) (t : Fin 16384) (j : Fin 512) :
    (out_main_v91 (STEP^[16384] (entryContents preI m c)) : S2x16384x512.Idx → EReal) (ix3 b t j) = (refArgs m c).out b t j := by
  have hs := (carried m c 16384 le_rfl).states t b j t.isLt
  have hy := iter_main_arg1 m c 16384
  unfold out_main_v91 Args.out gelu
  rw [hy]
  generalize STEP^[16384] (entryContents preI m c) = W at hs ⊢
  pointwise [hs]
  refine congrArg ((refArgs m c).stateAt b j (t.val + 1) * ·) ?_
  rw [← mul_assoc]
  exact congrArg (· * _) (mul_comm (G := EReal) _ _)

end Loop

end Cert.Rnn
-- ==== Proof.RnnTie.lean ====
/-
  The recurrent call: its result array is the reference's result when the arguments agree.
-/
module

public import proofs.«01_k».proof.Proof.RnnRef

@[expose] public section

set_option maxRecDepth 16384

noncomputable section

namespace Cert.Rnn

open Idealize.ShloMosaic Idealize.ShloMosaic.TcCoe Idealize.SL.Sem
open Idealize.ShloMosaic.StableHlo
open Cert.KernelIdeal

theorem tie (m : (ℓ : Loc nD τ sig) → Buf (Elt Ideal) ℓ) (m' : (ℓ : Loc ReferenceIdeal.nD ReferenceIdeal.τ ReferenceIdeal.sig) → Buf (Elt Ideal) ℓ) (c : Dev nD)
    (h0 : m' ((c.tc : Thread ReferenceIdeal.nD ReferenceIdeal.τ).loc ReferenceIdeal.main_arg0) = m ((c.tc : Thread nD τ).loc main_arg0))
    (h1 : m' ((c.tc : Thread ReferenceIdeal.nD ReferenceIdeal.τ).loc ReferenceIdeal.main_arg1) = m ((c.tc : Thread nD τ).loc main_arg1))
    (h2 : m' ((c.tc : Thread ReferenceIdeal.nD ReferenceIdeal.τ).loc ReferenceIdeal.main_arg2) = m ((c.tc : Thread nD τ).loc main_arg2))
    (h3 : m' ((c.tc : Thread ReferenceIdeal.nD ReferenceIdeal.τ).loc ReferenceIdeal.main_arg3) = m ((c.tc : Thread nD τ).loc main_arg3))
    (h4 : m' ((c.tc : Thread ReferenceIdeal.nD ReferenceIdeal.τ).loc ReferenceIdeal.main_arg4) = m ((c.tc : Thread nD τ).loc main_arg4))
    (h5 : m' ((c.tc : Thread ReferenceIdeal.nD ReferenceIdeal.τ).loc ReferenceIdeal.main_arg5) = m ((c.tc : Thread nD τ).loc main_arg5))
    (h6 : m' ((c.tc : Thread ReferenceIdeal.nD ReferenceIdeal.τ).loc ReferenceIdeal.main_arg6) = m ((c.tc : Thread nD τ).loc main_arg6))
    (h7 : m' ((c.tc : Thread ReferenceIdeal.nD ReferenceIdeal.τ).loc ReferenceIdeal.main_arg7) = m ((c.tc : Thread nD τ).loc main_arg7))
    (h8 : m' ((c.tc : Thread ReferenceIdeal.nD ReferenceIdeal.τ).loc ReferenceIdeal.main_arg8) = m ((c.tc : Thread nD τ).loc main_arg8)) :
    (ReferenceIdeal.Value.out_main_v91 (ReferenceIdeal.Value.STEP^[16384] (entryContents ReferenceIdeal.Value.preI m' c)) : S2x16384x512.Idx → EReal)
      = Cert.KernelIdeal.Value.G9 m c := by
  funext i
  idx_vars i
  refine (ref_result m' c i0 i1 i2).trans (Eq.trans ?_ (result m c i0 i1 i2).symm)
  have e : refArgs m' c = args m c := by
    unfold refArgs
    rw [h0, h1, h2, h3, h4, h5, h6, h7, h8]
    rfl
  rw [e]

end Cert.Rnn
-- ==== Proof.PostRow.lean ====
/-
  One row of the layer's last part, as a function of extended reals: the three branches merged through their gates, the
  residual sum, the squared-ReLU MLP behind its root-mean-square norm, and the norm after the last layer. Both programs of the
  claim are shown to compute `final` of each row, and the two ways of adding up the MLP's hidden axis are shown equal.
-/
module

public import Idealize.ShloMosaic.Lib.Pointwise

@[expose] public section

noncomputable section

namespace Cert.Post

open Idealize.ShloMosaic

/-- The root-mean-square norm of a row `v` with weights `g`, at place `j`. -/
def rms (v g : Fin 1024 → EReal) (j : Fin 1024) : EReal :=
  v j * Ideal.rsqrt (Ideal.div (∑ k, v k * v k) (Ideal.ofBits FTy.f32 0x44800000#32) + Ideal.ofBits FTy.f32 0x358637BD#32) * g j

/-- The three branches' outputs, projected, each times its gate, and added. -/
def merged (gt : Fin 3072 → EReal) (ya yb yc : Fin 512 → EReal) (wpa wpb wpc : Fin 512 → Fin 1024 → EReal) (j : Fin 1024) : EReal :=
  Ideal.logistic (gt ⟨j.val, by omega⟩) * (∑ k, ya k * wpa k j)
    + Ideal.logistic (gt ⟨1024 + j.val, by omega⟩) * (∑ k, yb k * wpb k j)
    + Ideal.logistic (gt ⟨2048 + j.val, by omega⟩) * (∑ k, yc k * wpc k j)

/-- The residual sum: the row plus the merged branches through the output projection. -/
def resid (x mg : Fin 1024 → EReal) (wo : Fin 1024 → Fin 1024 → EReal) (j : Fin 1024) : EReal :=
  x j + ∑ k, mg k * wo k j

/-- One hidden unit of the MLP times its outgoing weight. -/
def hidden (xn : Fin 1024 → EReal) (wu : Fin 1024 → Fin 4096 → EReal) (wd : Fin 4096 → Fin 1024 → EReal) (j : Fin 1024) (h : Fin 4096) : EReal :=
  max (∑ k, xn k * wu k h) 0 * max (∑ k, xn k * wu k h) 0 * wd h j

/-- The row after the MLP: the residual sum plus the MLP of its norm. -/
def mlp (x1 g : Fin 1024 → EReal) (wu : Fin 1024 → Fin 4096 → EReal) (wd : Fin 4096 → Fin 1024 → EReal) (j : Fin 1024) : EReal :=
  x1 j + ∑ h, hidden (rms x1 g) wu wd j h

/-- The whole row. -/
def final (x : Fin 1024 → EReal) (gt : Fin 3072 → EReal) (ya yb yc : Fin 512 → EReal) (wpa wpb wpc : Fin 512 → Fin 1024 → EReal)
    (wo : Fin 1024 → Fin 1024 → EReal) (g : Fin 1024 → EReal) (wu : Fin 1024 → Fin 4096 → EReal) (wd : Fin 4096 → Fin 1024 → EReal)
    (gf : Fin 1024 → EReal) : Fin 1024 → EReal :=
  rms (mlp (resid x (merged gt ya yb yc wpa wpb wpc) wo) g wu wd) gf

/-- A sum over the hidden axis is the sum of the sums over its four quarters, added onto any start one after another. -/
theorem four_quarters (s : EReal) (f : Fin 4096 → EReal) :
    s + ∑ h, f h = s + (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_two_halves 2048 2048 rfl f, Fin.sum_univ_two_halves 1024 1024 rfl (fun k : Fin 2048 => f ⟨k.val, by omega⟩),
    Fin.sum_univ_two_halves 1024 1024 rfl (fun k : Fin 2048 => f ⟨2048 + k.val, by omega⟩)]
  simp only [← add_assoc, Nat.reduceAdd]

end Cert.Post
-- ==== Proof.PostValue.lean ====
/-
  The merge-and-MLP call: its result array after the run, row by row, is `Post.final` of the argument rows; so is the
  reference's.
-/
module

public import proofs.«01_k».proof.Defs
public import proofs.«01_k».proof.Proof.PostRow
public import proofs.«01_k».proof.Proof.Gen.Kernel2Ideal.Value
public import proofs.«01_k».proof.Proof.Gen.Reference2Ideal.Run
public import Idealize.ShloMosaic.Lib.Pipeline.ValueKit
public import Idealize.ShloMosaic.Lib.StableHlo.ReadAt

@[expose] public section

set_option maxRecDepth 16384

noncomputable section

namespace Cert.Post

open Idealize.ShloMosaic Idealize.ShloMosaic.TcCoe Idealize.SL.Sem
open Idealize.ShloMosaic.Pipeline (Dat)

section Kernel
open Cert.Kernel2Ideal Cert.Kernel2Ideal.Gen

/-- What one grid point stores, at row `p` and column `j` of its block, is `final` of the rows of the blocks it loads. -/
theorem out_row (x0 : Vec Ideal S256x1024 .f32) (x1 x2 x3 : Vec Ideal S256x512 .bf16) (x4 : Vec Ideal S256x3072 .f32)
    (x5 x6 x7 : Vec Ideal S512x1024 .bf16) (x8 : Vec Ideal S1024x1024 .bf16) (x9 : Vec Ideal S1x1024 .f32)
    (x10 : Vec Ideal S1024x4096 .bf16) (x11 : Vec Ideal S4096x1024 .bf16) (x12 : Vec Ideal S1x1024 .f32) (p : Fin 256) (j : Fin 1024) :
    out0_13 x0 x1 x2 x3 x4 x5 x6 x7 x8 x9 x10 x11 x12 (ix2 p j)
      = final (fun k => x0 (ix2 p k)) (fun k => x4 (ix2 p k)) (fun k => x1 (ix2 p k)) (fun k => x2 (ix2 p k)) (fun k => x3 (ix2 p k))
          (fun k j => x5 (ix2 k j)) (fun k j => x6 (ix2 k j)) (fun k j => x7 (ix2 k j)) (fun k j => x8 (ix2 k j)) (fun k => x9 (ix2 0 k))
          (fun k j => x10 (ix2 k j)) (fun k j => x11 (ix2 k j)) (fun k => x12 (ix2 0 k)) j := by
  have h4 : ∀ j : Fin 1024, k0_pay4 (k0_pay8 x0 x1 x2 x3 x4 x5 x6 x7 x8 x9 x10 x11 x12) (k0_pay9 x0 x1 x2 x3 x4 x5 x6 x7 x8 x9 x10 x11 x12)
      (k0_pay10 x0 x1 x2 x3 x4 x5 x6 x7 x8 x9 x10 x11 x12) (ix2 p j)
      = resid (fun k => x0 (ix2 p k)) (merged (fun k => x4 (ix2 p k)) (fun k => x1 (ix2 p k)) (fun k => x2 (ix2 p k)) (fun k => x3 (ix2 p k))
          (fun k j => x5 (ix2 k j)) (fun k j => x6 (ix2 k j)) (fun k j => x7 (ix2 k j))) (fun k j => x8 (ix2 k j)) j := by
    intro j
    pointwise [k0_pay4, k0_pay8, k0_pay9, k0_pay10, k0_pay1, k0_pay2, k0_pay3, resid, merged]
  have h5 : ∀ j : Fin 1024, k0_pay5 (k0_pay8 x0 x1 x2 x3 x4 x5 x6 x7 x8 x9 x10 x11 x12) (k0_pay9 x0 x1 x2 x3 x4 x5 x6 x7 x8 x9 x10 x11 x12)
      (k0_pay10 x0 x1 x2 x3 x4 x5 x6 x7 x8 x9 x10 x11 x12) x9 (ix2 p j)
      = rms (resid (fun k => x0 (ix2 p k)) (merged (fun k => x4 (ix2 p k)) (fun k => x1 (ix2 p k)) (fun k => x2 (ix2 p k)) (fun k => x3 (ix2 p k))
          (fun k j => x5 (ix2 k j)) (fun k j => x6 (ix2 k j)) (fun k j => x7 (ix2 k j))) (fun k j => x8 (ix2 k j))) (fun k => x9 (ix2 0 k)) j := by
    intro j
    pointwise [k0_pay5, h4, rms]
  unfold final
  generalize resid _ _ _ = x1row at h4 h5 ⊢
  have hm : ∀ j : Fin 1024, mlp x1row (fun k => x9 (ix2 0 k)) (fun k j => x10 (ix2 k j)) (fun k j => x11 (ix2 k j)) j
      = x1row j + (∑ k : Fin 1024, hidden (rms x1row (fun k => x9 (ix2 0 k))) (fun k j => x10 (ix2 k j)) (fun k j => x11 (ix2 k j)) j ⟨k.val, by omega⟩)
        + (∑ k : Fin 1024, hidden (rms x1row (fun k => x9 (ix2 0 k))) (fun k j => x10 (ix2 k j)) (fun k j => x11 (ix2 k j)) j ⟨1024 + k.val, by omega⟩)
        + (∑ k : Fin 1024, hidden (rms x1row (fun k => x9 (ix2 0 k))) (fun k j => x10 (ix2 k j)) (fun k j => x11 (ix2 k j)) j ⟨2048 + k.val, by omega⟩)
        + ∑ k : Fin 1024, hidden (rms x1row (fun k => x9 (ix2 0 k))) (fun k j => x10 (ix2 k j)) (fun k j => x11 (ix2 k j)) j ⟨3072 + k.val, by omega⟩ :=
    fun j => four_quarters _ _
  unfold out0_13
  frame_out
  pointwise [k0_pay7, k0_pay6, h4, h5]
  simp only [rms.eq_1 (mlp _ _ _ _), hm, hidden]

/-! The arrays that the call stages, as the host operations before it leave them: row `r` of a flattened array is row
   `r % 16384` of sequence `r / 16384`, and the weights are the arguments. -/

theorem V_v0 (m : (ℓ : Loc nD τ sig) → Buf (Elt Ideal) ℓ) (c : Dev nD) (r : Fin 32768) (j : Fin 1024) :
    (V m c main_v0 : S32768x1024.Idx → EReal) (ix2 r j)
      = (m ((c : Thread nD τ).loc main_arg0) : S2x16384x1024.Idx → EReal) (ix3 ⟨r.val / 16384, by omega⟩ ⟨r.val % 16384, by omega⟩ j) := by
  unfold V
  after_reads_at

theorem V_v1 (m : (ℓ : Loc nD τ sig) → Buf (Elt Ideal) ℓ) (c : Dev nD) (r : Fin 32768) (j : Fin 512) :
    (V m c main_v1 : S32768x512.Idx → EReal) (ix2 r j)
      = (m ((c : Thread nD τ).loc main_arg1) : S2x16384x512.Idx → EReal) (ix3 ⟨r.val / 16384, by omega⟩ ⟨r.val % 16384, by omega⟩ j) := by
  unfold V
  after_reads_at

theorem V_v2 (m : (ℓ : Loc nD τ sig) → Buf (Elt Ideal) ℓ) (c : Dev nD) (r : Fin 32768) (j : Fin 512) :
    (V m c main_v2 : S32768x512.Idx → EReal) (ix2 r j)
      = (m ((c : Thread nD τ).loc main_arg2) : S2x16384x512.Idx → EReal) (ix3 ⟨r.val / 16384, by omega⟩ ⟨r.val % 16384, by omega⟩ j) := by
  unfold V
  after_reads_at

theorem V_v3 (m : (ℓ : Loc nD τ sig) → Buf (Elt Ideal) ℓ) (c : Dev nD) (r : Fin 32768) (j : Fin 512) :
    (V m c main_v3 : S32768x512.Idx → EReal) (ix2 r j)
      = (m ((c : Thread nD τ).loc main_arg3) : S2x16384x512.Idx → EReal) (ix3 ⟨r.val / 16384, by omega⟩ ⟨r.val % 16384, by omega⟩ j) := by
  unfold V
  after_reads_at

theorem V_v4 (m : (ℓ : Loc nD τ sig) → Buf (Elt Ideal) ℓ) (c : Dev nD) (r : Fin 32768) (j : Fin 3072) :
    (V m c main_v4 : S32768x3072.Idx → EReal) (ix2 r j)
      = (m ((c : Thread nD τ).loc main_arg4) : S2x16384x3072.Idx → EReal) (ix3 ⟨r.val / 16384, by omega⟩ ⟨r.val % 16384, by omega⟩ j) := by
  unfold V
  after_reads_at

theorem V_v5 (m : (ℓ : Loc nD τ sig) → Buf (Elt Ideal) ℓ) (c : Dev nD) (r : Fin 512) (j : Fin 1024) :
    (V m c main_v5 : S512x1024.Idx → EReal) (ix2 r j) = (m ((c : Thread nD τ).loc main_arg5) : S512x1024.Idx → EReal) (ix2 r j) := by
  unfold V
  after_reads_at

theorem V_v6 (m : (ℓ : Loc nD τ sig) → Buf (Elt Ideal) ℓ) (c : Dev nD) (r : Fin 512) (j : Fin 1024) :
    (V m c main_v6 : S512x1024.Idx → EReal) (ix2 r j) = (m ((c : Thread nD τ).loc main_arg6) : S512x1024.Idx → EReal) (ix2 r j) := by
  unfold V
  after_reads_at

theorem V_v7 (m : (ℓ : Loc nD τ sig) → Buf (Elt Ideal) ℓ) (c : Dev nD) (r : Fin 512) (j : Fin 1024) :
    (V m c main_v7 : S512x1024.Idx → EReal) (ix2 r j) = (m ((c : Thread nD τ).loc main_arg7) : S512x1024.Idx → EReal) (ix2 r j) := by
  unfold V
  after_reads_at

theorem V_v8 (m : (ℓ : Loc nD τ sig) → Buf (Elt Ideal) ℓ) (c : Dev nD) (r : Fin 1024) (j : Fin 1024) :
    (V m c main_v8 : S1024x1024.Idx → EReal) (ix2 r j) = (m ((c : Thread nD τ).loc main_arg8) : S1024x1024.Idx → EReal) (ix2 r j) := by
  unfold V
  after_reads_at

theorem V_v10 (m : (ℓ : Loc nD τ sig) → Buf (Elt Ideal) ℓ) (c : Dev nD) (r : Fin 1024) (j : Fin 4096) :
    (V m c main_v10 : S1024x4096.Idx → EReal) (ix2 r j) = (m ((c : Thread nD τ).loc main_arg10) : S1024x4096.Idx → EReal) (ix2 r j) := by
  unfold V
  after_reads_at

theorem V_v11 (m : (ℓ : Loc nD τ sig) → Buf (Elt Ideal) ℓ) (c : Dev nD) (r : Fin 4096) (j : Fin 1024) :
    (V m c main_v11 : S4096x1024.Idx → EReal) (ix2 r j) = (m ((c : Thread nD τ).loc main_arg11) : S4096x1024.Idx → EReal) (ix2 r j) := by
  unfold V
  after_reads_at

theorem V_v9 (m : (ℓ : Loc nD τ sig) → Buf (Elt Ideal) ℓ) (c : Dev nD) (j : Fin 1024) :
    (V m c main_v9 : S1x1024.Idx → EReal) (ix2 0 j) = (m ((c : Thread nD τ).loc main_arg9) : S1024.Idx → EReal) (ix1 j) := by
  unfold V
  after_reads_at

theorem V_v12 (m : (ℓ : Loc nD τ sig) → Buf (Elt Ideal) ℓ) (c : Dev nD) (j : Fin 1024) :
    (V m c main_v12 : S1x1024.Idx → EReal) (ix2 0 j) = (m ((c : Thread nD τ).loc main_arg12) : S1024.Idx → EReal) (ix1 j) := by
  unfold V
  after_reads_at

variable (m : (ℓ : Loc nD τ sig) → Buf (Elt Ideal) ℓ) (c : Dev nD)

/-- Row `r` of the call's result, from the arguments. -/
def outRow (r : Fin 32768) : Fin 1024 → EReal :=
  final (fun k => (m ((c : Thread nD τ).loc main_arg0) : S2x16384x1024.Idx → EReal) (ix3 ⟨r.val / 16384, by omega⟩ ⟨r.val % 16384, by omega⟩ k))
    (fun k => (m ((c : Thread nD τ).loc main_arg4) : S2x16384x3072.Idx → EReal) (ix3 ⟨r.val / 16384, by omega⟩ ⟨r.val % 16384, by omega⟩ k))
    (fun k => (m ((c : Thread nD τ).loc main_arg1) : S2x16384x512.Idx → EReal) (ix3 ⟨r.val / 16384, by omega⟩ ⟨r.val % 16384, by omega⟩ k))
    (fun k => (m ((c : Thread nD τ).loc main_arg2) : S2x16384x512.Idx → EReal) (ix3 ⟨r.val / 16384, by omega⟩ ⟨r.val % 16384, by omega⟩ k))
    (fun k => (m ((c : Thread nD τ).loc main_arg3) : S2x16384x512.Idx → EReal) (ix3 ⟨r.val / 16384, by omega⟩ ⟨r.val % 16384, by omega⟩ k))
    (fun k j => (m ((c : Thread nD τ).loc main_arg5) : S512x1024.Idx → EReal) (ix2 k j))
    (fun k j => (m ((c : Thread nD τ).loc main_arg6) : S512x1024.Idx → EReal) (ix2 k j))
    (fun k j => (m ((c : Thread nD τ).loc main_arg7) : S512x1024.Idx → EReal) (ix2 k j))
    (fun k j => (m ((c : Thread nD τ).loc main_arg8) : S1024x1024.Idx → EReal) (ix2 k j))
    (fun k => (m ((c : Thread nD τ).loc main_arg9) : S1024.Idx → EReal) (ix1 k))
    (fun k j => (m ((c : Thread nD τ).loc main_arg10) : S1024x4096.Idx → EReal) (ix2 k j))
    (fun k j => (m ((c : Thread nD τ).loc main_arg11) : S4096x1024.Idx → EReal) (ix2 k j))
    (fun k => (m ((c : Thread nD τ).loc main_arg12) : S1024.Idx → EReal) (ix1 k))

/-! The blocks that a grid point loads: its 256 rows of the row arrays, and the weights whole. -/

theorem blk0 (t : Fin grid0.N) (p : Fin 256) (j : Fin 1024) (h : t.val * 256 + p.val < 32768) :
    (iblk m c 0 t : S256x1024.Idx → EReal) (ix2 p j)
      = (m ((c : Thread nD τ).loc main_arg0) : S2x16384x1024.Idx → EReal)
          (ix3 ⟨(t.val * 256 + p.val) / 16384, by omega⟩ ⟨(t.val * 256 + p.val) % 16384, by omega⟩ j) := by
  have e := (by decide +kernel : ∀ t : Fin grid0.N, win0_0.index t = ![t.val, 0]) t
  rw [← V_v0 m c ⟨t.val * 256 + p.val, h⟩ j]
  blk_ext [iblk, e]

theorem blk1 (t : Fin grid0.N) (p : Fin 256) (j : Fin 512) (h : t.val * 256 + p.val < 32768) :
    (iblk m c 1 t : S256x512.Idx → EReal) (ix2 p j)
      = (m ((c : Thread nD τ).loc main_arg1) : S2x16384x512.Idx → EReal)
          (ix3 ⟨(t.val * 256 + p.val) / 16384, by omega⟩ ⟨(t.val * 256 + p.val) % 16384, by omega⟩ j) := by
  have e := (by decide +kernel : ∀ t : Fin grid0.N, win0_1.index t = ![t.val, 0]) t
  rw [← V_v1 m c ⟨t.val * 256 + p.val, h⟩ j]
  blk_ext [iblk, e]

theorem blk2 (t : Fin grid0.N) (p : Fin 256) (j : Fin 512) (h : t.val * 256 + p.val < 32768) :
    (iblk m c 2 t : S256x512.Idx → EReal) (ix2 p j)
      = (m ((c : Thread nD τ).loc main_arg2) : S2x16384x512.Idx → EReal)
          (ix3 ⟨(t.val * 256 + p.val) / 16384, by omega⟩ ⟨(t.val * 256 + p.val) % 16384, by omega⟩ j) := by
  have e := (by decide +kernel : ∀ t : Fin grid0.N, win0_2.index t = ![t.val, 0]) t
  rw [← V_v2 m c ⟨t.val * 256 + p.val, h⟩ j]
  blk_ext [iblk, e]

theorem blk3 (t : Fin grid0.N) (p : Fin 256) (j : Fin 512) (h : t.val * 256 + p.val < 32768) :
    (iblk m c 3 t : S256x512.Idx → EReal) (ix2 p j)
      = (m ((c : Thread nD τ).loc main_arg3) : S2x16384x512.Idx → EReal)
          (ix3 ⟨(t.val * 256 + p.val) / 16384, by omega⟩ ⟨(t.val * 256 + p.val) % 16384, by omega⟩ j) := by
  have e := (by decide +kernel : ∀ t : Fin grid0.N, win0_3.index t = ![t.val, 0]) t
  rw [← V_v3 m c ⟨t.val * 256 + p.val, h⟩ j]
  blk_ext [iblk, e]

theorem blk4 (t : Fin grid0.N) (p : Fin 256) (j : Fin 3072) (h : t.val * 256 + p.val < 32768) :
    (iblk m c 4 t : S256x3072.Idx → EReal) (ix2 p j)
      = (m ((c : Thread nD τ).loc main_arg4) : S2x16384x3072.Idx → EReal)
          (ix3 ⟨(t.val * 256 + p.val) / 16384, by omega⟩ ⟨(t.val * 256 + p.val) % 16384, by omega⟩ j) := by
  have e := (by decide +kernel : ∀ t : Fin grid0.N, win0_4.index t = ![t.val, 0]) t
  rw [← V_v4 m c ⟨t.val * 256 + p.val, h⟩ j]
  blk_ext [iblk, e]

theorem blk5 (t : Fin grid0.N) (k : Fin 512) (j : Fin 1024) :
    (iblk m c 5 t : S512x1024.Idx → EReal) (ix2 k j) = (m ((c : Thread nD τ).loc main_arg5) : S512x1024.Idx → EReal) (ix2 k j) := by
  have e := (by decide +kernel : ∀ t : Fin grid0.N, win0_5.index t = ![0, 0]) t
  rw [← V_v5 m c k j]
  blk_ext [iblk, e]

theorem blk6 (t : Fin grid0.N) (k : Fin 512) (j : Fin 1024) :
    (iblk m c 6 t : S512x1024.Idx → EReal) (ix2 k j) = (m ((c : Thread nD τ).loc main_arg6) : S512x1024.Idx → EReal) (ix2 k j) := by
  have e := (by decide +kernel : ∀ t : Fin grid0.N, win0_6.index t = ![0, 0]) t
  rw [← V_v6 m c k j]
  blk_ext [iblk, e]

theorem blk7 (t : Fin grid0.N) (k : Fin 512) (j : Fin 1024) :
    (iblk m c 7 t : S512x1024.Idx → EReal) (ix2 k j) = (m ((c : Thread nD τ).loc main_arg7) : S512x1024.Idx → EReal) (ix2 k j) := by
  have e := (by decide +kernel : ∀ t : Fin grid0.N, win0_7.index t = ![0, 0]) t
  rw [← V_v7 m c k j]
  blk_ext [iblk, e]

theorem blk8 (t : Fin grid0.N) (k : Fin 1024) (j : Fin 1024) :
    (iblk m c 8 t : S1024x1024.Idx → EReal) (ix2 k j) = (m ((c : Thread nD τ).loc main_arg8) : S1024x1024.Idx → EReal) (ix2 k j) := by
  have e := (by decide +kernel : ∀ t : Fin grid0.N, win0_8.index t = ![0, 0]) t
  rw [← V_v8 m c k j]
  blk_ext [iblk, e]

theorem blk10 (t : Fin grid0.N) (k : Fin 1024) (j : Fin 4096) :
    (iblk m c 10 t : S1024x4096.Idx → EReal) (ix2 k j) = (m ((c : Thread nD τ).loc main_arg10) : S1024x4096.Idx → EReal) (ix2 k j) := by
  have e := (by decide +kernel : ∀ t : Fin grid0.N, win0_10.index t = ![0, 0]) t
  rw [← V_v10 m c k j]
  blk_ext [iblk, e]

theorem blk11 (t : Fin grid0.N) (k : Fin 4096) (j : Fin 1024) :
    (iblk m c 11 t : S4096x1024.Idx → EReal) (ix2 k j) = (m ((c : Thread nD τ).loc main_arg11) : S4096x1024.Idx → EReal) (ix2 k j) := by
  have e := (by decide +kernel : ∀ t : Fin grid0.N, win0_11.index t = ![0, 0]) t
  rw [← V_v11 m c k j]
  blk_ext [iblk, e]

theorem blk9 (t : Fin grid0.N) (k : Fin 1024) :
    (iblk m c 9 t : S1x1024.Idx → EReal) (ix2 0 k) = (m ((c : Thread nD τ).loc main_arg9) : S1024.Idx → EReal) (ix1 k) := by
  have e := (by decide +kernel : ∀ t : Fin grid0.N, win0_9.index t = ![0, 0]) t
  rw [← V_v9 m c k]
  blk_ext [iblk, e]

theorem blk12 (t : Fin grid0.N) (k : Fin 1024) :
    (iblk m c 12 t : S1x1024.Idx → EReal) (ix2 0 k) = (m ((c : Thread nD τ).loc main_arg12) : S1024.Idx → EReal) (ix1 k) := by
  have e := (by decide +kernel : ∀ t : Fin grid0.N, win0_12.index t = ![0, 0]) t
  rw [← V_v12 m c k]
  blk_ext [iblk, e]

/-- The call's result array after the run, row by row. -/
theorem arr13 : ((dats m 0 c).arrAt 13 cfg0.N : S32768x1024.Idx → EReal) = fun i => outRow m c (i 0) (i 1) := by
  refine (dats m 0 c).arrAt_eq_of_covers 13 _ (by decide +kernel) fun t hf y => ?_
  have e := (by decide +kernel : ∀ t : Fin grid0.N, win0_13.index t = ![t.val, 0]) t
  have ht : t.val < 128 := N_0 ▸ t.isLt
  blk_simp
  rw [after0_13]
  idx_vars y
  have h : t.val * 256 + y0.val < 32768 := by omega
  have hr : (((View.whole main_v13).slice (win0_13.rect t)).emb (ix2 y0 y1) 0 : Fin 32768) = ⟨t.val * 256 + y0.val, h⟩ := by
    apply Fin.ext
    blk_simp [e]
  have hc : (((View.whole main_v13).slice (win0_13.rect t)).emb (ix2 y0 y1) 1 : Fin 1024) = y1 := by
    apply Fin.ext
    blk_simp [e]
  refine Eq.trans ?_ (congrArg₂ (outRow m c) hr.symm hc.symm)
  refine (out_row _ _ _ _ _ _ _ _ _ _ _ _ _ y0 y1).trans ?_
  unfold outRow
  have q0 := fun k => blk0 m c t y0 k h
  have q1 := fun k => blk1 m c t y0 k h
  have q2 := fun k => blk2 m c t y0 k h
  have q3 := fun k => blk3 m c t y0 k h
  have q4 := fun k => blk4 m c t y0 k h
  simp only [q0, q1, q2, q3, q4, blk5, blk6, blk7, blk8, blk9, blk10, blk11, blk12]

end Kernel

section Reference
open Cert.Reference2Ideal Cert.Reference2Ideal.Gen Cert.Reference2Ideal.Value

/-- The gates, each through the logistic function. -/
def rSig (g : FVec Ideal S2x16384x3072 .f32) : FVec Ideal S2x16384x3072 .f32 :=
  Host.divf (broadcastInDim S2x16384x3072 ![] bcast_S_S2x16384x3072 (constant S_ .f32 0x3F800000#32))
    (addf (broadcastInDim S2x16384x3072 ![] bcast_S_S2x16384x3072 (constant S_ .f32 0x3F800000#32)) (Host.exp (Host.negf g)))

/-- A branch's output projected. -/
def rProj (y : FVec Ideal S2x16384x512 .bf16) (w : FVec Ideal S512x1024 .f32) : FVec Ideal S2x16384x1024 .f32 :=
  Host.dotGeneral dot_S2x16384x512_S512x1024_S2x16384x1024_2_0_01_1_n_n none (extf .f32 y bitsLt_bf16_f32) w

/-- The residual sum of the whole array. -/
def rResid (x : FVec Ideal S2x16384x1024 .f32) (ya yb yc : FVec Ideal S2x16384x512 .bf16) (g : FVec Ideal S2x16384x3072 .f32)
    (wpa wpb wpc : FVec Ideal S512x1024 .f32) (wo : FVec Ideal S1024x1024 .f32) : FVec Ideal S2x16384x1024 .f32 :=
  addf x (Host.dotGeneral (φ₁ := .f32) (φ₂ := .f32) dot_S2x16384x1024_S1024x1024_S2x16384x1024_2_0_01_1_n_n none
    (addf (addf
      (mulf (shapeCast S2x16384x1024 (extractStridedSlice S2x16384x1x1024 ![0, 0, 0, 0] (shapeCast S2x16384x3x1024 (rSig g) shapeCasts_S2x16384x3072_S2x16384x3x1024) slices_S2x16384x3x1024_S2x16384x1x1024_0_0_0_0) shapeCasts_S2x16384x1x1024_S2x16384x1024) (rProj ya wpa))
      (mulf (shapeCast S2x16384x1024 (extractStridedSlice S2x16384x1x1024 ![0, 0, 1, 0] (shapeCast S2x16384x3x1024 (rSig g) shapeCasts_S2x16384x3072_S2x16384x3x1024) slices_S2x16384x3x1024_S2x16384x1x1024_0_0_1_0) shapeCasts_S2x16384x1x1024_S2x16384x1024) (rProj yb wpb)))
      (mulf (shapeCast S2x16384x1024 (extractStridedSlice S2x16384x1x1024 ![0, 0, 2, 0] (shapeCast S2x16384x3x1024 (rSig g) shapeCasts_S2x16384x3072_S2x16384x3x1024) slices_S2x16384x3x1024_S2x16384x1x1024_0_0_2_0) shapeCasts_S2x16384x1x1024_S2x16384x1024) (rProj yc wpc)))
    wo)

/-- The norm of every row. -/
def rRms (v : FVec Ideal S2x16384x1024 .f32) (g : FVec Ideal S1024 .f32) : FVec Ideal S2x16384x1024 .f32 :=
  mulf (mulf v (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf v v) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The hidden layer before its squares. -/
def rHid (xn : FVec Ideal S2x16384x1024 .f32) (wu : FVec Ideal S1024x4096 .f32) : FVec Ideal S2x16384x4096 .f32 :=
  maximumf (Host.dotGeneral dot_S2x16384x1024_S1024x4096_S2x16384x4096_2_0_01_1_n_n none xn wu)
    (broadcastInDim S2x16384x4096 ![] bcast_S_S2x16384x4096 (constant S_ .f32 0x00000000#32))

/-- The rows after the MLP. -/
def rMlp (v : FVec Ideal S2x16384x1024 .f32) (g : FVec Ideal S1024 .f32) (wu : FVec Ideal S1024x4096 .f32) (wd : FVec Ideal S4096x1024 .f32) :
    FVec Ideal S2x16384x1024 .f32 :=
  addf v (Host.dotGeneral (φ₁ := .f32) (φ₂ := .f32) dot_S2x16384x4096_S4096x1024_S2x16384x1024_2_0_01_1_n_n none (mulf (rHid (rRms v g) wu) (rHid (rRms v g) wu)) wd)

variable (m : (ℓ : Loc nD τ sig) → Buf (Elt Ideal) ℓ) (c : Dev nD)

/-- The reference's result is these stages one after another. -/
theorem res_stages : res_main_v57 m c = shapeCast S32768x1024 (rRms (rMlp
      (rResid (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)))
      (m ((c.tc : Thread nD τ).loc main_arg9)) (m ((c.tc : Thread nD τ).loc main_arg10)) (m ((c.tc : Thread nD τ).loc main_arg11)))
      (m ((c.tc : Thread nD τ).loc main_arg12))) shapeCasts_S2x16384x1024_S32768x1024 := rfl

theorem rRms_row (v : FVec Ideal S2x16384x1024 .f32) (g : FVec Ideal S1024 .f32) (b : Fin 2) (s : Fin 16384) (j : Fin 1024) :
    rRms v g (ix3 b s j) = rms (fun k => v (ix3 b s k)) (fun k => g (ix1 k)) j := by
  pointwise [rRms, rms]

theorem rResid_row (x : FVec Ideal S2x16384x1024 .f32) (ya yb yc : FVec Ideal S2x16384x512 .bf16) (g : FVec Ideal S2x16384x3072 .f32)
    (wpa wpb wpc : FVec Ideal S512x1024 .f32) (wo : FVec Ideal S1024x1024 .f32) (b : Fin 2) (s : Fin 16384) (j : Fin 1024) :
    rResid x ya yb yc g wpa wpb wpc wo (ix3 b s j)
      = resid (fun k => x (ix3 b s k)) (merged (fun k => g (ix3 b s k)) (fun k => ya (ix3 b s k)) (fun k => yb (ix3 b s k)) (fun k => yc (ix3 b s k))
          (fun k j => wpa (ix2 k j)) (fun k j => wpb (ix2 k j)) (fun k j => wpc (ix2 k j))) (fun k j => wo (ix2 k j)) j := by
  pointwise [rResid, rSig, rProj, resid, merged, Ideal.logistic]

theorem rMlp_row (v : FVec Ideal S2x16384x1024 .f32) (g : FVec Ideal S1024 .f32) (wu : FVec Ideal S1024x4096 .f32) (wd : FVec Ideal S4096x1024 .f32)
    (b : Fin 2) (s : Fin 16384) (j : Fin 1024) :
    rMlp v g wu wd (ix3 b s j) = mlp (fun k => v (ix3 b s k)) (fun k => g (ix1 k)) (fun k j => wu (ix2 k j)) (fun k j => wd (ix2 k j)) j := by
  pointwise [rMlp, rHid, rRms_row, mlp, hidden]

/-- The reference's result, row by row. -/
theorem ref_row (r : Fin 32768) (j : Fin 1024) :
    (res_main_v57 m c : S32768x1024.Idx → EReal) (ix2 r j)
      = final (fun k => (m ((c : Thread nD τ).loc main_arg0) : S2x16384x1024.Idx → EReal) (ix3 ⟨r.val / 16384, by omega⟩ ⟨r.val % 16384, by omega⟩ k))
    (fun k => (m ((c : Thread nD τ).loc main_arg4) : S2x16384x3072.Idx → EReal) (ix3 ⟨r.val / 16384, by omega⟩ ⟨r.val % 16384, by omega⟩ k))
    (fun k => (m ((c : Thread nD τ).loc main_arg1) : S2x16384x512.Idx → EReal) (ix3 ⟨r.val / 16384, by omega⟩ ⟨r.val % 16384, by omega⟩ k))
    (fun k => (m ((c : Thread nD τ).loc main_arg2) : S2x16384x512.Idx → EReal) (ix3 ⟨r.val / 16384, by omega⟩ ⟨r.val % 16384, by omega⟩ k))
    (fun k => (m ((c : Thread nD τ).loc main_arg3) : S2x16384x512.Idx → EReal) (ix3 ⟨r.val / 16384, by omega⟩ ⟨r.val % 16384, by omega⟩ k))
    (fun k j => (m ((c : Thread nD τ).loc main_arg5) : S512x1024.Idx → EReal) (ix2 k j))
    (fun k j => (m ((c : Thread nD τ).loc main_arg6) : S512x1024.Idx → EReal) (ix2 k j))
    (fun k j => (m ((c : Thread nD τ).loc main_arg7) : S512x1024.Idx → EReal) (ix2 k j))
    (fun k j => (m ((c : Thread nD τ).loc main_arg8) : S1024x1024.Idx → EReal) (ix2 k j))
    (fun k => (m ((c : Thread nD τ).loc main_arg9) : S1024.Idx → EReal) (ix1 k))
    (fun k j => (m ((c : Thread nD τ).loc main_arg10) : S1024x4096.Idx → EReal) (ix2 k j))
    (fun k j => (m ((c : Thread nD τ).loc main_arg11) : S4096x1024.Idx → EReal) (ix2 k j))
    (fun k => (m ((c : Thread nD τ).loc main_arg12) : S1024.Idx → EReal) (ix1 k)) j := by
  rw [res_stages]
  pointwise
  rw [rRms_row]
  simp only [rMlp_row, rResid_row]
  rfl

end Reference

section Tie
open Cert.Kernel2Ideal

/-- The call's result array is the reference's result when the arguments agree. -/
theorem tie (m : (ℓ : Loc nD τ sig) → Buf (Elt Ideal) ℓ) (m' : (ℓ : Loc Reference2Ideal.nD Reference2Ideal.τ Reference2Ideal.sig) → Buf (Elt Ideal) ℓ) (c : Dev nD)
    (h0 : m' ((c.tc : Thread Reference2Ideal.nD Reference2Ideal.τ).loc Reference2Ideal.main_arg0) = m ((c.tc : Thread nD τ).loc main_arg0))
    (h1 : m' ((c.tc : Thread Reference2Ideal.nD Reference2Ideal.τ).loc Reference2Ideal.main_arg1) = m ((c.tc : Thread nD τ).loc main_arg1))
    (h2 : m' ((c.tc : Thread Reference2Ideal.nD Reference2Ideal.τ).loc Reference2Ideal.main_arg2) = m ((c.tc : Thread nD τ).loc main_arg2))
    (h3 : m' ((c.tc : Thread Reference2Ideal.nD Reference2Ideal.τ).loc Reference2Ideal.main_arg3) = m ((c.tc : Thread nD τ).loc main_arg3))
    (h4 : m' ((c.tc : Thread Reference2Ideal.nD Reference2Ideal.τ).loc Reference2Ideal.main_arg4) = m ((c.tc : Thread nD τ).loc main_arg4))
    (h5 : m' ((c.tc : Thread Reference2Ideal.nD Reference2Ideal.τ).loc Reference2Ideal.main_arg5) = m ((c.tc : Thread nD τ).loc main_arg5))
    (h6 : m' ((c.tc : Thread Reference2Ideal.nD Reference2Ideal.τ).loc Reference2Ideal.main_arg6) = m ((c.tc : Thread nD τ).loc main_arg6))
    (h7 : m' ((c.tc : Thread Reference2Ideal.nD Reference2Ideal.τ).loc Reference2Ideal.main_arg7) = m ((c.tc : Thread nD τ).loc main_arg7))
    (h8 : m' ((c.tc : Thread Reference2Ideal.nD Reference2Ideal.τ).loc Reference2Ideal.main_arg8) = m ((c.tc : Thread nD τ).loc main_arg8))
    (h9 : m' ((c.tc : Thread Reference2Ideal.nD Reference2Ideal.τ).loc Reference2Ideal.main_arg9) = m ((c.tc : Thread nD τ).loc main_arg9))
    (h10 : m' ((c.tc : Thread Reference2Ideal.nD Reference2Ideal.τ).loc Reference2Ideal.main_arg10) = m ((c.tc : Thread nD τ).loc main_arg10))
    (h11 : m' ((c.tc : Thread Reference2Ideal.nD Reference2Ideal.τ).loc Reference2Ideal.main_arg11) = m ((c.tc : Thread nD τ).loc main_arg11))
    (h12 : m' ((c.tc : Thread Reference2Ideal.nD Reference2Ideal.τ).loc Reference2Ideal.main_arg12) = m ((c.tc : Thread nD τ).loc main_arg12)) :
    (Reference2Ideal.Value.res_main_v57 m' c : S32768x1024.Idx → EReal) = (Gen.dats m 0 c).arrAt 13 cfg0.N := by
  refine Eq.trans ?_ (arr13 m c).symm
  funext i
  idx_vars i
  refine (ref_row m' c i0 i1).trans ?_
  rw [h0, h1, h2, h3, h4, h5, h6, h7, h8, h9, h10, h11, h12]
  rfl

end Tie

end Cert.Post
-- ==== Proof.InprojValue.lean ====
/-
  The input-projection call: row `r` of each of its results is a run of columns of the normed row `r` times the weights, and so
  is the reference's; the block means of the keys are the means of those columns over the rows of a block.
-/
module

public import proofs.«01_k».proof.Defs
public import proofs.«01_k».proof.Proof.PostRow
public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.ReadAt

@[expose] public section

set_option maxRecDepth 16384

noncomputable section

namespace Cert.Inproj

open Idealize.ShloMosaic Idealize.ShloMosaic.TcCoe Idealize.SL.Sem
open Cert.Post (rms)

/-- A normed row times one column of the weights. -/
def proj (x g w : Fin 1024 → EReal) : EReal := ∑ k, rms x g k * w k

/-- The factor on the queries. -/
abbrev scale : EReal := Ideal.ofBits FTy.f32 0x3E000000#32

section Kernel
open Cert.Kernel3Ideal Cert.Kernel3Ideal.Gen

/-! What one grid point stores, at row `p` and column `j` of its blocks. -/

section Out
variable (x0 : Vec Ideal S256x1024 .f32) (x1 : Vec Ideal S1x1024 .f32) (x2 : Vec Ideal S1024x7808 .bf16) (p : Fin 256)

theorem out3 (j : Fin 512) : out0_3 x0 x1 x2 (ix2 p j)
    = proj (fun k => x0 (ix2 p k)) (fun k => x1 (ix2 0 k)) (fun k => x2 (ix2 k ⟨0 + j.val, by omega⟩)) * scale := by
  unfold out0_3
  frame_out
  pointwise [k0_pay3, k0_pay2, proj, rms]

theorem out4 (j : Fin 512) : out0_4 x0 x1 x2 (ix2 p j)
    = proj (fun k => x0 (ix2 p k)) (fun k => x1 (ix2 0 k)) (fun k => x2 (ix2 k ⟨512 + j.val, by omega⟩)) := by
  unfold out0_4
  frame_out
  pointwise [k0_pay6, k0_pay4, k0_pay2, proj, rms]

theorem out5 (j : Fin 512) : out0_5 x0 x1 x2 (ix2 p j)
    = proj (fun k => x0 (ix2 p k)) (fun k => x1 (ix2 0 k)) (fun k => x2 (ix2 k ⟨1024 + j.val, by omega⟩)) := by
  unfold out0_5
  frame_out
  pointwise [k0_pay7, k0_pay19, k0_pay2, proj, rms]

theorem out6 (j : Fin 512) : out0_6 x0 x1 x2 (ix2 p j)
    = proj (fun k => x0 (ix2 p k)) (fun k => x1 (ix2 0 k)) (fun k => x2 (ix2 k ⟨1536 + j.val, by omega⟩)) * scale := by
  unfold out0_6
  frame_out
  pointwise [k0_pay8, k0_pay19, k0_pay2, proj, rms]

theorem out7 (j : Fin 512) : out0_7 x0 x1 x2 (ix2 p j)
    = proj (fun k => x0 (ix2 p k)) (fun k => x1 (ix2 0 k)) (fun k => x2 (ix2 k ⟨2048 + j.val, by omega⟩)) := by
  unfold out0_7
  frame_out
  pointwise [k0_pay9, k0_pay19, k0_pay2, proj, rms]

theorem out8 (j : Fin 512) : out0_8 x0 x1 x2 (ix2 p j)
    = proj (fun k => x0 (ix2 p k)) (fun k => x1 (ix2 0 k)) (fun k => x2 (ix2 k ⟨2560 + j.val, by omega⟩)) := by
  unfold out0_8
  frame_out
  pointwise [k0_pay10, k0_pay19, k0_pay2, proj, rms]

theorem out9 (j : Fin 512) : out0_9 x0 x1 x2 (ix2 p j)
    = proj (fun k => x0 (ix2 p k)) (fun k => x1 (ix2 0 k)) (fun k => x2 (ix2 k ⟨3072 + j.val, by omega⟩)) := by
  unfold out0_9
  frame_out
  pointwise [k0_pay11, k0_pay19, k0_pay2, proj, rms]

theorem out10 (j : Fin 64) : out0_10 x0 x1 x2 (ix2 p j)
    = proj (fun k => x0 (ix2 p k)) (fun k => x1 (ix2 0 k)) (fun k => x2 (ix2 k ⟨3584 + j.val, by omega⟩)) := by
  unfold out0_10
  frame_out
  pointwise [k0_pay13, k0_pay12, k0_pay19, k0_pay2, proj, rms]

theorem out11 (j : Fin 8) : out0_11 x0 x1 x2 (ix2 p j)
    = proj (fun k => x0 (ix2 p k)) (fun k => x1 (ix2 0 k)) (fun k => x2 (ix2 k ⟨3648 + j.val, by omega⟩)) := by
  unfold out0_11
  frame_out
  pointwise [k0_pay14, k0_pay12, k0_pay19, k0_pay2, proj, rms]
  simp only [show 3584 + (64 + j.val) = 3648 + j.val by omega]
theorem out12 (j : Fin 512) : out0_12 x0 x1 x2 (ix2 p j)
    = proj (fun k => x0 (ix2 p k)) (fun k => x1 (ix2 0 k)) (fun k => x2 (ix2 k ⟨3712 + j.val, by omega⟩)) := by
  unfold out0_12
  frame_out
  pointwise [k0_pay15, k0_pay19, k0_pay2, proj, rms]

theorem out13 (j : Fin 512) : out0_13 x0 x1 x2 (ix2 p j)
    = proj (fun k => x0 (ix2 p k)) (fun k => x1 (ix2 0 k)) (fun k => x2 (ix2 k ⟨4224 + j.val, by omega⟩)) := by
  unfold out0_13
  frame_out
  pointwise [k0_pay16, k0_pay19, k0_pay2, proj, rms]

theorem out15 (j : Fin 512) : out0_15 x0 x1 x2 (ix3 0 0 j)
    = Ideal.div (∑ p : Fin 256, proj (fun k => x0 (ix2 p k)) (fun k => x1 (ix2 0 k)) (fun k => x2 (ix2 k ⟨512 + j.val, by omega⟩)))
        (Ideal.ofBits FTy.f32 0x43800000#32) := by
  unfold out0_15
  frame_out
  pointwise [k0_pay5, k0_pay4, k0_pay2, proj, rms]

theorem out14 (j : Fin 3072) : out0_14 x0 x1 x2 (ix2 p j)
    = proj (fun k => x0 (ix2 p k)) (fun k => x1 (ix2 0 k)) (fun k => x2 (ix2 k ⟨4736 + j.val, by omega⟩)) := by
  unfold out0_14
  canon_tiles q h
  · idx_vars q
    obtain rfl : p = q0 := Fin.ext h0
    pointwise [k0_pay1, k0_pay19, k0_pay2, proj, rms]
    simp only [h1, show 4736 + (2048 + q1.val) = 6784 + q1.val by omega]
  · idx_vars q
    obtain rfl : p = q0 := Fin.ext h0
    pointwise [k0_pay18, k0_pay19, k0_pay2, proj, rms]
    simp only [h1, show 4736 + (1024 + q1.val) = 5760 + q1.val by omega]
  · idx_vars q
    obtain rfl : p = q0 := Fin.ext h0
    pointwise [k0_pay17, k0_pay19, k0_pay2, proj, rms]
    simp only [h1]

end Out

/-! The arrays that the call stages and their blocks: the rows in one run, and the weights with 56 columns of zeros put in
    at column 3656. -/

variable (m : (ℓ : Loc nD τ sig) → Buf (Elt Ideal) ℓ) (c : Dev nD)

theorem V_v5 (r : Fin 32768) (j : Fin 1024) : (V m c main_v5 : S32768x1024.Idx → EReal) (ix2 r j)
    = (m ((c : Thread nD τ).loc main_arg0) : S2x16384x1024.Idx → EReal) (ix3 ⟨r.val / 16384, by omega⟩ ⟨r.val % 16384, by omega⟩ j) := by
  unfold V
  after_reads_at

theorem V_v6 (j : Fin 1024) : (V m c main_v6 : S1x1024.Idx → EReal) (ix2 0 j) = (m ((c : Thread nD τ).loc main_arg1) : S1024.Idx → EReal) (ix1 j) := by
  unfold V
  after_reads_at

theorem V_v4_low (k : Fin 1024) (j : Fin 7808) (h : j.val < 3656) : (V m c main_v4 : S1024x7808.Idx → EReal) (ix2 k j)
    = (m ((c : Thread nD τ).loc main_arg2) : S1024x7752.Idx → EReal) (ix2 k ⟨j.val, by omega⟩) := by
  unfold V
  after_reads_at
  rw [dif_pos h]
  after_reads_at

theorem V_v4_high (k : Fin 1024) (j : Fin 7808) (h : 3712 ≤ j.val) : (V m c main_v4 : S1024x7808.Idx → EReal) (ix2 k j)
    = (m ((c : Thread nD τ).loc main_arg2) : S1024x7752.Idx → EReal) (ix2 k ⟨j.val - 56, by omega⟩) := by
  unfold V
  after_reads_at
  rw [dif_neg (by omega), dif_neg (by omega)]
  after_reads_at
  simp only [show 3656 + (j.val - 3656 - 56) = j.val - 56 by omega]

theorem blk0 (t : Fin grid0.N) (p : Fin 256) (j : Fin 1024) (h : t.val * 256 + p.val < 32768) :
    (iblk m c 0 t : S256x1024.Idx → EReal) (ix2 p j)
      = (m ((c : Thread nD τ).loc main_arg0) : S2x16384x1024.Idx → EReal)
          (ix3 ⟨(t.val * 256 + p.val) / 16384, by omega⟩ ⟨(t.val * 256 + p.val) % 16384, by omega⟩ j) := by
  have e := (by decide +kernel : ∀ t : Fin grid0.N, win0_0.index t = ![t.val, 0]) t
  rw [← V_v5 m c ⟨t.val * 256 + p.val, h⟩ j]
  blk_ext [iblk, e]

theorem blk1 (t : Fin grid0.N) (k : Fin 1024) :
    (iblk m c 1 t : S1x1024.Idx → EReal) (ix2 0 k) = (m ((c : Thread nD τ).loc main_arg1) : S1024.Idx → EReal) (ix1 k) := by
  have e := (by decide +kernel : ∀ t : Fin grid0.N, win0_1.index t = ![0, 0]) t
  rw [← V_v6 m c k]
  blk_ext [iblk, e]

theorem blk2_low (t : Fin grid0.N) (k : Fin 1024) (j : Fin 7808) (h : j.val < 3656) :
    (iblk m c 2 t : S1024x7808.Idx → EReal) (ix2 k j) = (m ((c : Thread nD τ).loc main_arg2) : S1024x7752.Idx → EReal) (ix2 k ⟨j.val, by omega⟩) := by
  have e := (by decide +kernel : ∀ t : Fin grid0.N, win0_2.index t = ![0, 0]) t
  rw [← V_v4_low m c k j h]
  blk_ext [iblk, e]

theorem blk2_high (t : Fin grid0.N) (k : Fin 1024) (j : Fin 7808) (h : 3712 ≤ j.val) :
    (iblk m c 2 t : S1024x7808.Idx → EReal) (ix2 k j) = (m ((c : Thread nD τ).loc main_arg2) : S1024x7752.Idx → EReal) (ix2 k ⟨j.val - 56, by omega⟩) := by
  have e := (by decide +kernel : ∀ t : Fin grid0.N, win0_2.index t = ![0, 0]) t
  rw [← V_v4_high m c k j h]
  blk_ext [iblk, e]

/-- Row `r` of the projection at column `j`, from the arguments. -/
def col (r : Fin 32768) (j : Fin 7752) : EReal :=
  proj (fun k => (m ((c : Thread nD τ).loc main_arg0) : S2x16384x1024.Idx → EReal) (ix3 ⟨r.val / 16384, by omega⟩ ⟨r.val % 16384, by omega⟩ k))
    (fun k => (m ((c : Thread nD τ).loc main_arg1) : S1024.Idx → EReal) (ix1 k))
    (fun k => (m ((c : Thread nD τ).loc main_arg2) : S1024x7752.Idx → EReal) (ix2 k j))

/-- Column `j` of the run of `n` columns that starts at column `off`. -/
def part (n off : ℕ) (h : off + n ≤ 7752) (r : Fin 32768) (j : Fin n) : EReal := col m c r ⟨off + j.val, by omega⟩

/-- The mean of column `j` of that run over the rows of block `t`. -/
def mean (n off : ℕ) (h : off + n ≤ 7752) (t : Fin 128) (j : Fin n) : EReal :=
  Ideal.div (∑ p : Fin 256, part m c n off h ⟨t.val * 256 + p.val, by omega⟩ j) (Ideal.ofBits FTy.f32 0x43800000#32)

/-- A row of a grid point's block times a column of the weights on the left of the zeros. -/
theorem proj_low (t : Fin grid0.N) (p : Fin 256) (h : t.val * 256 + p.val < 32768) (j : Fin 7808) (hj : j.val < 3656) :
    proj (fun k => (iblk m c 0 t : S256x1024.Idx → EReal) (ix2 p k)) (fun k => (iblk m c 1 t : S1x1024.Idx → EReal) (ix2 0 k))
      (fun k => (iblk m c 2 t : S1024x7808.Idx → EReal) (ix2 k j)) = col m c ⟨t.val * 256 + p.val, h⟩ ⟨j.val, by omega⟩ := by
  have q0 := fun k => blk0 m c t p k h
  have q2 := fun k => blk2_low m c t k j hj
  simp only [q0, blk1, q2, col]

/-- A row of a grid point's block times a column of the weights on the right of the zeros. -/
theorem proj_high (t : Fin grid0.N) (p : Fin 256) (h : t.val * 256 + p.val < 32768) (j : Fin 7808) (hj : 3712 ≤ j.val) :
    proj (fun k => (iblk m c 0 t : S256x1024.Idx → EReal) (ix2 p k)) (fun k => (iblk m c 1 t : S1x1024.Idx → EReal) (ix2 0 k))
      (fun k => (iblk m c 2 t : S1024x7808.Idx → EReal) (ix2 k j)) = col m c ⟨t.val * 256 + p.val, h⟩ ⟨j.val - 56, by omega⟩ := by
  have q0 := fun k => blk0 m c t p k h
  have q2 := fun k => blk2_high m c t k j hj
  simp only [q0, blk1, q2, col]

/-! The result arrays after the run. -/

theorem arr3 : ((dats m 0 c).arrAt 3 cfg0.N : S32768x512.Idx → EReal)
    = fun i => part m c 512 0 (by decide) (i 0) (i 1) * scale := by
  refine (dats m 0 c).arrAt_eq_of_covers 3 _ (by decide +kernel) fun t hf y => ?_
  have e := (by decide +kernel : ∀ t : Fin grid0.N, win0_3.index t = ![t.val, 0]) t
  have ht : t.val < 128 := N_0 ▸ t.isLt
  blk_simp
  rw [after0_3]
  idx_vars y
  have h : t.val * 256 + y0.val < 32768 := by omega
  have hr : (((View.whole main_v7_0).slice (win0_3.rect t)).emb (ix2 y0 y1) 0 : Fin 32768) = ⟨t.val * 256 + y0.val, h⟩ := by
    apply Fin.ext
    blk_simp [e]
  have hc : (((View.whole main_v7_0).slice (win0_3.rect t)).emb (ix2 y0 y1) 1 : Fin 512) = y1 := by
    apply Fin.ext
    blk_simp [e]
  refine Eq.trans ?_ (congrArg₂ (fun (r : Fin 32768) (j : Fin 512) => part m c 512 0 (by decide) r j * scale) hr.symm hc.symm)
  refine (out3 _ _ _ y0 y1).trans ?_
  rw [proj_low m c t y0 h ⟨0 + y1.val, by omega⟩ (by simp only; omega)]
  rfl

theorem arr4 : ((dats m 0 c).arrAt 4 cfg0.N : S32768x512.Idx → EReal)
    = fun i => part m c 512 512 (by decide) (i 0) (i 1) := by
  refine (dats m 0 c).arrAt_eq_of_covers 4 _ (by decide +kernel) fun t hf y => ?_
  have e := (by decide +kernel : ∀ t : Fin grid0.N, win0_4.index t = ![t.val, 0]) t
  have ht : t.val < 128 := N_0 ▸ t.isLt
  blk_simp
  rw [after0_4]
  idx_vars y
  have h : t.val * 256 + y0.val < 32768 := by omega
  have hr : (((View.whole main_v7_1).slice (win0_4.rect t)).emb (ix2 y0 y1) 0 : Fin 32768) = ⟨t.val * 256 + y0.val, h⟩ := by
    apply Fin.ext
    blk_simp [e]
  have hc : (((View.whole main_v7_1).slice (win0_4.rect t)).emb (ix2 y0 y1) 1 : Fin 512) = y1 := by
    apply Fin.ext
    blk_simp [e]
  refine Eq.trans ?_ (congrArg₂ (fun (r : Fin 32768) (j : Fin 512) => part m c 512 512 (by decide) r j) hr.symm hc.symm)
  refine (out4 _ _ _ y0 y1).trans ?_
  rw [proj_low m c t y0 h ⟨512 + y1.val, by omega⟩ (by simp only; omega)]
  rfl

theorem arr5 : ((dats m 0 c).arrAt 5 cfg0.N : S32768x512.Idx → EReal)
    = fun i => part m c 512 1024 (by decide) (i 0) (i 1) := by
  refine (dats m 0 c).arrAt_eq_of_covers 5 _ (by decide +kernel) fun t hf y => ?_
  have e := (by decide +kernel : ∀ t : Fin grid0.N, win0_5.index t = ![t.val, 0]) t
  have ht : t.val < 128 := N_0 ▸ t.isLt
  blk_simp
  rw [after0_5]
  idx_vars y
  have h : t.val * 256 + y0.val < 32768 := by omega
  have hr : (((View.whole main_v7_2).slice (win0_5.rect t)).emb (ix2 y0 y1) 0 : Fin 32768) = ⟨t.val * 256 + y0.val, h⟩ := by
    apply Fin.ext
    blk_simp [e]
  have hc : (((View.whole main_v7_2).slice (win0_5.rect t)).emb (ix2 y0 y1) 1 : Fin 512) = y1 := by
    apply Fin.ext
    blk_simp [e]
  refine Eq.trans ?_ (congrArg₂ (fun (r : Fin 32768) (j : Fin 512) => part m c 512 1024 (by decide) r j) hr.symm hc.symm)
  refine (out5 _ _ _ y0 y1).trans ?_
  rw [proj_low m c t y0 h ⟨1024 + y1.val, by omega⟩ (by simp only; omega)]
  rfl

theorem arr6 : ((dats m 0 c).arrAt 6 cfg0.N : S32768x512.Idx → EReal)
    = fun i => part m c 512 1536 (by decide) (i 0) (i 1) * scale := by
  refine (dats m 0 c).arrAt_eq_of_covers 6 _ (by decide +kernel) fun t hf y => ?_
  have e := (by decide +kernel : ∀ t : Fin grid0.N, win0_6.index t = ![t.val, 0]) t
  have ht : t.val < 128 := N_0 ▸ t.isLt
  blk_simp
  rw [after0_6]
  idx_vars y
  have h : t.val * 256 + y0.val < 32768 := by omega
  have hr : (((View.whole main_v7_3).slice (win0_6.rect t)).emb (ix2 y0 y1) 0 : Fin 32768) = ⟨t.val * 256 + y0.val, h⟩ := by
    apply Fin.ext
    blk_simp [e]
  have hc : (((View.whole main_v7_3).slice (win0_6.rect t)).emb (ix2 y0 y1) 1 : Fin 512) = y1 := by
    apply Fin.ext
    blk_simp [e]
  refine Eq.trans ?_ (congrArg₂ (fun (r : Fin 32768) (j : Fin 512) => part m c 512 1536 (by decide) r j * scale) hr.symm hc.symm)
  refine (out6 _ _ _ y0 y1).trans ?_
  rw [proj_low m c t y0 h ⟨1536 + y1.val, by omega⟩ (by simp only; omega)]
  rfl

theorem arr7 : ((dats m 0 c).arrAt 7 cfg0.N : S32768x512.Idx → EReal)
    = fun i => part m c 512 2048 (by decide) (i 0) (i 1) := by
  refine (dats m 0 c).arrAt_eq_of_covers 7 _ (by decide +kernel) fun t hf y => ?_
  have e := (by decide +kernel : ∀ t : Fin grid0.N, win0_7.index t = ![t.val, 0]) t
  have ht : t.val < 128 := N_0 ▸ t.isLt
  blk_simp
  rw [after0_7]
  idx_vars y
  have h : t.val * 256 + y0.val < 32768 := by omega
  have hr : (((View.whole main_v7_4).slice (win0_7.rect t)).emb (ix2 y0 y1) 0 : Fin 32768) = ⟨t.val * 256 + y0.val, h⟩ := by
    apply Fin.ext
    blk_simp [e]
  have hc : (((View.whole main_v7_4).slice (win0_7.rect t)).emb (ix2 y0 y1) 1 : Fin 512) = y1 := by
    apply Fin.ext
    blk_simp [e]
  refine Eq.trans ?_ (congrArg₂ (fun (r : Fin 32768) (j : Fin 512) => part m c 512 2048 (by decide) r j) hr.symm hc.symm)
  refine (out7 _ _ _ y0 y1).trans ?_
  rw [proj_low m c t y0 h ⟨2048 + y1.val, by omega⟩ (by simp only; omega)]
  rfl

theorem arr8 : ((dats m 0 c).arrAt 8 cfg0.N : S32768x512.Idx → EReal)
    = fun i => part m c 512 2560 (by decide) (i 0) (i 1) := by
  refine (dats m 0 c).arrAt_eq_of_covers 8 _ (by decide +kernel) fun t hf y => ?_
  have e := (by decide +kernel : ∀ t : Fin grid0.N, win0_8.index t = ![t.val, 0]) t
  have ht : t.val < 128 := N_0 ▸ t.isLt
  blk_simp
  rw [after0_8]
  idx_vars y
  have h : t.val * 256 + y0.val < 32768 := by omega
  have hr : (((View.whole main_v7_5).slice (win0_8.rect t)).emb (ix2 y0 y1) 0 : Fin 32768) = ⟨t.val * 256 + y0.val, h⟩ := by
    apply Fin.ext
    blk_simp [e]
  have hc : (((View.whole main_v7_5).slice (win0_8.rect t)).emb (ix2 y0 y1) 1 : Fin 512) = y1 := by
    apply Fin.ext
    blk_simp [e]
  refine Eq.trans ?_ (congrArg₂ (fun (r : Fin 32768) (j : Fin 512) => part m c 512 2560 (by decide) r j) hr.symm hc.symm)
  refine (out8 _ _ _ y0 y1).trans ?_
  rw [proj_low m c t y0 h ⟨2560 + y1.val, by omega⟩ (by simp only; omega)]
  rfl

theorem arr9 : ((dats m 0 c).arrAt 9 cfg0.N : S32768x512.Idx → EReal)
    = fun i => part m c 512 3072 (by decide) (i 0) (i 1) := by
  refine (dats m 0 c).arrAt_eq_of_covers 9 _ (by decide +kernel) fun t hf y => ?_
  have e := (by decide +kernel : ∀ t : Fin grid0.N, win0_9.index t = ![t.val, 0]) t
  have ht : t.val < 128 := N_0 ▸ t.isLt
  blk_simp
  rw [after0_9]
  idx_vars y
  have h : t.val * 256 + y0.val < 32768 := by omega
  have hr : (((View.whole main_v7_6).slice (win0_9.rect t)).emb (ix2 y0 y1) 0 : Fin 32768) = ⟨t.val * 256 + y0.val, h⟩ := by
    apply Fin.ext
    blk_simp [e]
  have hc : (((View.whole main_v7_6).slice (win0_9.rect t)).emb (ix2 y0 y1) 1 : Fin 512) = y1 := by
    apply Fin.ext
    blk_simp [e]
  refine Eq.trans ?_ (congrArg₂ (fun (r : Fin 32768) (j : Fin 512) => part m c 512 3072 (by decide) r j) hr.symm hc.symm)
  refine (out9 _ _ _ y0 y1).trans ?_
  rw [proj_low m c t y0 h ⟨3072 + y1.val, by omega⟩ (by simp only; omega)]
  rfl

theorem arr10 : ((dats m 0 c).arrAt 10 cfg0.N : S32768x64.Idx → EReal)
    = fun i => part m c 64 3584 (by decide) (i 0) (i 1) := by
  refine (dats m 0 c).arrAt_eq_of_covers 10 _ (by decide +kernel) fun t hf y => ?_
  have e := (by decide +kernel : ∀ t : Fin grid0.N, win0_10.index t = ![t.val, 0]) t
  have ht : t.val < 128 := N_0 ▸ t.isLt
  blk_simp
  rw [after0_10]
  idx_vars y
  have h : t.val * 256 + y0.val < 32768 := by omega
  have hr : (((View.whole main_v7_7).slice (win0_10.rect t)).emb (ix2 y0 y1) 0 : Fin 32768) = ⟨t.val * 256 + y0.val, h⟩ := by
    apply Fin.ext
    blk_simp [e]
  have hc : (((View.whole main_v7_7).slice (win0_10.rect t)).emb (ix2 y0 y1) 1 : Fin 64) = y1 := by
    apply Fin.ext
    blk_simp [e]
  refine Eq.trans ?_ (congrArg₂ (fun (r : Fin 32768) (j : Fin 64) => part m c 64 3584 (by decide) r j) hr.symm hc.symm)
  refine (out10 _ _ _ y0 y1).trans ?_
  rw [proj_low m c t y0 h ⟨3584 + y1.val, by omega⟩ (by simp only; omega)]
  rfl

theorem arr11 : ((dats m 0 c).arrAt 11 cfg0.N : S32768x8.Idx → EReal)
    = fun i => part m c 8 3648 (by decide) (i 0) (i 1) := by
  refine (dats m 0 c).arrAt_eq_of_covers 11 _ (by decide +kernel) fun t hf y => ?_
  have e := (by decide +kernel : ∀ t : Fin grid0.N, win0_11.index t = ![t.val, 0]) t
  have ht : t.val < 128 := N_0 ▸ t.isLt
  blk_simp
  rw [after0_11]
  idx_vars y
  have h : t.val * 256 + y0.val < 32768 := by omega
  have hr : (((View.whole main_v7_8).slice (win0_11.rect t)).emb (ix2 y0 y1) 0 : Fin 32768) = ⟨t.val * 256 + y0.val, h⟩ := by
    apply Fin.ext
    blk_simp [e]
  have hc : (((View.whole main_v7_8).slice (win0_11.rect t)).emb (ix2 y0 y1) 1 : Fin 8) = y1 := by
    apply Fin.ext
    blk_simp [e]
  refine Eq.trans ?_ (congrArg₂ (fun (r : Fin 32768) (j : Fin 8) => part m c 8 3648 (by decide) r j) hr.symm hc.symm)
  refine (out11 _ _ _ y0 y1).trans ?_
  rw [proj_low m c t y0 h ⟨3648 + y1.val, by omega⟩ (by simp only; omega)]
  rfl

theorem arr12 : ((dats m 0 c).arrAt 12 cfg0.N : S32768x512.Idx → EReal)
    = fun i => part m c 512 3656 (by decide) (i 0) (i 1) := by
  refine (dats m 0 c).arrAt_eq_of_covers 12 _ (by decide +kernel) fun t hf y => ?_
  have e := (by decide +kernel : ∀ t : Fin grid0.N, win0_12.index t = ![t.val, 0]) t
  have ht : t.val < 128 := N_0 ▸ t.isLt
  blk_simp
  rw [after0_12]
  idx_vars y
  have h : t.val * 256 + y0.val < 32768 := by omega
  have hr : (((View.whole main_v7_9).slice (win0_12.rect t)).emb (ix2 y0 y1) 0 : Fin 32768) = ⟨t.val * 256 + y0.val, h⟩ := by
    apply Fin.ext
    blk_simp [e]
  have hc : (((View.whole main_v7_9).slice (win0_12.rect t)).emb (ix2 y0 y1) 1 : Fin 512) = y1 := by
    apply Fin.ext
    blk_simp [e]
  refine Eq.trans ?_ (congrArg₂ (fun (r : Fin 32768) (j : Fin 512) => part m c 512 3656 (by decide) r j) hr.symm hc.symm)
  refine (out12 _ _ _ y0 y1).trans ?_
  rw [proj_high m c t y0 h ⟨3712 + y1.val, by omega⟩ (by simp only; omega)]
  simp only [part, show 3712 + y1.val - 56 = 3656 + y1.val by omega]
  rfl

theorem arr13 : ((dats m 0 c).arrAt 13 cfg0.N : S32768x512.Idx → EReal)
    = fun i => part m c 512 4168 (by decide) (i 0) (i 1) := by
  refine (dats m 0 c).arrAt_eq_of_covers 13 _ (by decide +kernel) fun t hf y => ?_
  have e := (by decide +kernel : ∀ t : Fin grid0.N, win0_13.index t = ![t.val, 0]) t
  have ht : t.val < 128 := N_0 ▸ t.isLt
  blk_simp
  rw [after0_13]
  idx_vars y
  have h : t.val * 256 + y0.val < 32768 := by omega
  have hr : (((View.whole main_v7_10).slice (win0_13.rect t)).emb (ix2 y0 y1) 0 : Fin 32768) = ⟨t.val * 256 + y0.val, h⟩ := by
    apply Fin.ext
    blk_simp [e]
  have hc : (((View.whole main_v7_10).slice (win0_13.rect t)).emb (ix2 y0 y1) 1 : Fin 512) = y1 := by
    apply Fin.ext
    blk_simp [e]
  refine Eq.trans ?_ (congrArg₂ (fun (r : Fin 32768) (j : Fin 512) => part m c 512 4168 (by decide) r j) hr.symm hc.symm)
  refine (out13 _ _ _ y0 y1).trans ?_
  rw [proj_high m c t y0 h ⟨4224 + y1.val, by omega⟩ (by simp only; omega)]
  simp only [part, show 4224 + y1.val - 56 = 4168 + y1.val by omega]
  rfl

theorem arr14 : ((dats m 0 c).arrAt 14 cfg0.N : S32768x3072.Idx → EReal)
    = fun i => part m c 3072 4680 (by decide) (i 0) (i 1) := by
  refine (dats m 0 c).arrAt_eq_of_covers 14 _ (by decide +kernel) fun t hf y => ?_
  have e := (by decide +kernel : ∀ t : Fin grid0.N, win0_14.index t = ![t.val, 0]) t
  have ht : t.val < 128 := N_0 ▸ t.isLt
  blk_simp
  rw [after0_14]
  idx_vars y
  have h : t.val * 256 + y0.val < 32768 := by omega
  have hr : (((View.whole main_v7_11).slice (win0_14.rect t)).emb (ix2 y0 y1) 0 : Fin 32768) = ⟨t.val * 256 + y0.val, h⟩ := by
    apply Fin.ext
    blk_simp [e]
  have hc : (((View.whole main_v7_11).slice (win0_14.rect t)).emb (ix2 y0 y1) 1 : Fin 3072) = y1 := by
    apply Fin.ext
    blk_simp [e]
  refine Eq.trans ?_ (congrArg₂ (fun (r : Fin 32768) (j : Fin 3072) => part m c 3072 4680 (by decide) r j) hr.symm hc.symm)
  refine (out14 _ _ _ y0 y1).trans ?_
  rw [proj_high m c t y0 h ⟨4736 + y1.val, by omega⟩ (by simp only; omega)]
  simp only [part, show 4736 + y1.val - 56 = 4680 + y1.val by omega]
  rfl

theorem arr15 : ((dats m 0 c).arrAt 15 cfg0.N : S128x1x512.Idx → EReal)
    = fun i => mean m c 512 512 (by decide) (i 0) (i 2) := by
  refine (dats m 0 c).arrAt_eq_of_covers 15 _ (by decide +kernel) fun t hf y => ?_
  have e := (by decide +kernel : ∀ t : Fin grid0.N, win0_15.index t = ![t.val, 0, 0]) t
  have ht : t.val < 128 := N_0 ▸ t.isLt
  blk_simp
  rw [after0_15]
  idx_vars y
  have hr : (((View.whole main_v7_12).slice (win0_15.rect t)).emb (ix3 y0 y1 y2) 0 : Fin 128) = ⟨t.val, ht⟩ := by
    apply Fin.ext
    blk_simp [e]
  have hc : (((View.whole main_v7_12).slice (win0_15.rect t)).emb (ix3 y0 y1 y2) 2 : Fin 512) = y2 := by
    apply Fin.ext
    blk_simp [e]
  refine Eq.trans ?_ (congrArg₂ (mean m c 512 512 (by decide)) hr.symm hc.symm)
  obtain rfl : y0 = 0 := Subsingleton.elim _ _
  obtain rfl : y1 = 0 := Subsingleton.elim _ _
  refine (out15 _ _ _ y2).trans ?_
  have q := fun p : Fin 256 => proj_low m c t p (by omega) ⟨512 + y2.val, by omega⟩ (by simp only; omega)
  simp only [q, mean, part]

end Kernel

section Reference
open Cert.Reference3Ideal Cert.Reference3Ideal.Gen

/-- The reference's projection: every row normed, times the weights. -/
def rProj (v : FVec Ideal S2x16384x1024 .f32) (g : FVec Ideal S1024 .f32) (w : FVec Ideal S1024x7752 .f32) : FVec Ideal S2x16384x7752 .f32 :=
  Host.dotGeneral (φ₁ := .f32) (φ₂ := .f32) dot_S2x16384x1024_S1024x7752_S2x16384x7752_2_0_01_1_n_n none
  (mulf (mulf v (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf v v) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))) w

theorem rProj_at (v : FVec Ideal S2x16384x1024 .f32) (g : FVec Ideal S1024 .f32) (w : FVec Ideal S1024x7752 .f32)
    (b : Fin 2) (s : Fin 16384) (j : Fin 7752) :
    rProj v g w (ix3 b s j) = proj (fun k => v (ix3 b s k)) (fun k => g (ix1 k)) (fun k => w (ix2 k j)) := by
  pointwise [rProj, proj, rms]

end Reference

section Tie
open Cert.Reference3Ideal Cert.Reference3Ideal.Gen

variable (m : (ℓ : Loc Kernel3Ideal.nD Kernel3Ideal.τ Kernel3Ideal.sig) → Buf (Elt Ideal) ℓ) (m' : (ℓ : Loc nD τ sig) → Buf (Elt Ideal) ℓ) (c : Dev nD)
  (h0 : m' ((c.tc : Thread nD τ).loc main_arg0) = m ((c.tc : Thread Kernel3Ideal.nD Kernel3Ideal.τ).loc Kernel3Ideal.main_arg0))
  (h1 : m' ((c.tc : Thread nD τ).loc main_arg1) = m ((c.tc : Thread Kernel3Ideal.nD Kernel3Ideal.τ).loc Kernel3Ideal.main_arg1))
  (h2 : m' ((c.tc : Thread nD τ).loc main_arg2) = m ((c.tc : Thread Kernel3Ideal.nD Kernel3Ideal.τ).loc Kernel3Ideal.main_arg2))

/-- The reference's projection of the arguments. -/
abbrev rp : FVec Ideal S2x16384x7752 .f32 :=
  rProj (m' ((c.tc : Thread nD τ).loc main_arg0)) (m' ((c.tc : Thread nD τ).loc main_arg1)) (m' ((c.tc : Thread nD τ).loc main_arg2))

include h0 h1 h2 in
theorem rp_at (r : Fin 32768) (j : Fin 7752) : rp m' c (ix3 ⟨r.val / 16384, by omega⟩ ⟨r.val % 16384, by omega⟩ j) = col m c r j := by
  unfold rp
  rw [rProj_at, h0, h1, h2]
  rfl

/-! Each result of the reference is the kernel's result array, on equal arguments. -/

include h0 h1 h2 in
theorem tie0 : (truncf .bf16 (shapeCast S32768x512 (mulf (extractStridedSlice S2x16384x512 ![0, 0, 0] (rp m' c) slices_S2x16384x7752_S2x16384x512_0_0_0) (broadcastInDim S2x16384x512 ![] bcast_S_S2x16384x512 (constant S_ .f32 0x3E000000#32))) shapeCasts_S2x16384x512_S32768x512) bitsLt_bf16_f32 : FVec Ideal S32768x512 .bf16)
    = (Kernel3Ideal.Gen.dats m 0 c).arrAt 3 Kernel3Ideal.cfg0.N := by
  refine Eq.trans ?_ (arr3 m c).symm
  funext i
  idx_vars i
  pointwise
  rw [rp_at m m' c h0 h1 h2]
  simp only [part, Nat.zero_add]

include h0 h1 h2 in
theorem tie1 : (truncf .bf16 (shapeCast S32768x512 (extractStridedSlice S2x16384x512 ![0, 0, 512] (rp m' c) slices_S2x16384x7752_S2x16384x512_0_0_512) shapeCasts_S2x16384x512_S32768x512) bitsLt_bf16_f32 : FVec Ideal S32768x512 .bf16)
    = (Kernel3Ideal.Gen.dats m 0 c).arrAt 4 Kernel3Ideal.cfg0.N := by
  refine Eq.trans ?_ (arr4 m c).symm
  funext i
  idx_vars i
  pointwise
  rw [rp_at m m' c h0 h1 h2]
  rfl

include h0 h1 h2 in
theorem tie2 : (truncf .bf16 (shapeCast S32768x512 (extractStridedSlice S2x16384x512 ![0, 0, 1024] (rp m' c) slices_S2x16384x7752_S2x16384x512_0_0_1024) shapeCasts_S2x16384x512_S32768x512) bitsLt_bf16_f32 : FVec Ideal S32768x512 .bf16)
    = (Kernel3Ideal.Gen.dats m 0 c).arrAt 5 Kernel3Ideal.cfg0.N := by
  refine Eq.trans ?_ (arr5 m c).symm
  funext i
  idx_vars i
  pointwise
  rw [rp_at m m' c h0 h1 h2]
  rfl

include h0 h1 h2 in
theorem tie3 : (truncf .bf16 (shapeCast S32768x512 (mulf (extractStridedSlice S2x16384x512 ![0, 0, 1536] (rp m' c) slices_S2x16384x7752_S2x16384x512_0_0_1536) (broadcastInDim S2x16384x512 ![] bcast_S_S2x16384x512 (constant S_ .f32 0x3E000000#32))) shapeCasts_S2x16384x512_S32768x512) bitsLt_bf16_f32 : FVec Ideal S32768x512 .bf16)
    = (Kernel3Ideal.Gen.dats m 0 c).arrAt 6 Kernel3Ideal.cfg0.N := by
  refine Eq.trans ?_ (arr6 m c).symm
  funext i
  idx_vars i
  pointwise
  rw [rp_at m m' c h0 h1 h2]
  rfl

include h0 h1 h2 in
theorem tie4 : (truncf .bf16 (shapeCast S32768x512 (extractStridedSlice S2x16384x512 ![0, 0, 2048] (rp m' c) slices_S2x16384x7752_S2x16384x512_0_0_2048) shapeCasts_S2x16384x512_S32768x512) bitsLt_bf16_f32 : FVec Ideal S32768x512 .bf16)
    = (Kernel3Ideal.Gen.dats m 0 c).arrAt 7 Kernel3Ideal.cfg0.N := by
  refine Eq.trans ?_ (arr7 m c).symm
  funext i
  idx_vars i
  pointwise
  rw [rp_at m m' c h0 h1 h2]
  rfl

include h0 h1 h2 in
theorem tie5 : (truncf .bf16 (shapeCast S32768x512 (extractStridedSlice S2x16384x512 ![0, 0, 2560] (rp m' c) slices_S2x16384x7752_S2x16384x512_0_0_2560) shapeCasts_S2x16384x512_S32768x512) bitsLt_bf16_f32 : FVec Ideal S32768x512 .bf16)
    = (Kernel3Ideal.Gen.dats m 0 c).arrAt 8 Kernel3Ideal.cfg0.N := by
  refine Eq.trans ?_ (arr8 m c).symm
  funext i
  idx_vars i
  pointwise
  rw [rp_at m m' c h0 h1 h2]
  rfl

include h0 h1 h2 in
theorem tie6 : (truncf .bf16 (shapeCast S32768x512 (extractStridedSlice S2x16384x512 ![0, 0, 3072] (rp m' c) slices_S2x16384x7752_S2x16384x512_0_0_3072) shapeCasts_S2x16384x512_S32768x512) bitsLt_bf16_f32 : FVec Ideal S32768x512 .bf16)
    = (Kernel3Ideal.Gen.dats m 0 c).arrAt 9 Kernel3Ideal.cfg0.N := by
  refine Eq.trans ?_ (arr9 m c).symm
  funext i
  idx_vars i
  pointwise
  rw [rp_at m m' c h0 h1 h2]
  rfl

include h0 h1 h2 in
theorem tie7 : (truncf .bf16 (shapeCast S32768x64 (extractStridedSlice S2x16384x64 ![0, 0, 3584] (rp m' c) slices_S2x16384x7752_S2x16384x64_0_0_3584) shapeCasts_S2x16384x64_S32768x64) bitsLt_bf16_f32 : FVec Ideal S32768x64 .bf16)
    = (Kernel3Ideal.Gen.dats m 0 c).arrAt 10 Kernel3Ideal.cfg0.N := by
  refine Eq.trans ?_ (arr10 m c).symm
  funext i
  idx_vars i
  pointwise
  rw [rp_at m m' c h0 h1 h2]
  rfl

include h0 h1 h2 in
theorem tie8 : (shapeCast S32768x8 (extractStridedSlice S2x16384x8 ![0, 0, 3648] (rp m' c) slices_S2x16384x7752_S2x16384x8_0_0_3648) shapeCasts_S2x16384x8_S32768x8 : FVec Ideal S32768x8 .f32)
    = (Kernel3Ideal.Gen.dats m 0 c).arrAt 11 Kernel3Ideal.cfg0.N := by
  refine Eq.trans ?_ (arr11 m c).symm
  funext i
  idx_vars i
  pointwise
  rw [rp_at m m' c h0 h1 h2]
  rfl

include h0 h1 h2 in
theorem tie9 : (shapeCast S32768x512 (extractStridedSlice S2x16384x512 ![0, 0, 3656] (rp m' c) slices_S2x16384x7752_S2x16384x512_0_0_3656) shapeCasts_S2x16384x512_S32768x512 : FVec Ideal S32768x512 .f32)
    = (Kernel3Ideal.Gen.dats m 0 c).arrAt 12 Kernel3Ideal.cfg0.N := by
  refine Eq.trans ?_ (arr12 m c).symm
  funext i
  idx_vars i
  pointwise
  rw [rp_at m m' c h0 h1 h2]
  rfl

include h0 h1 h2 in
theorem tie10 : (shapeCast S32768x512 (extractStridedSlice S2x16384x512 ![0, 0, 4168] (rp m' c) slices_S2x16384x7752_S2x16384x512_0_0_4168) shapeCasts_S2x16384x512_S32768x512 : FVec Ideal S32768x512 .f32)
    = (Kernel3Ideal.Gen.dats m 0 c).arrAt 13 Kernel3Ideal.cfg0.N := by
  refine Eq.trans ?_ (arr13 m c).symm
  funext i
  idx_vars i
  pointwise
  rw [rp_at m m' c h0 h1 h2]
  rfl

include h0 h1 h2 in
theorem tie11 : (shapeCast S32768x3072 (extractStridedSlice S2x16384x3072 ![0, 0, 4680] (rp m' c) slices_S2x16384x7752_S2x16384x3072_0_0_4680) shapeCasts_S2x16384x3072_S32768x3072 : FVec Ideal S32768x3072 .f32)
    = (Kernel3Ideal.Gen.dats m 0 c).arrAt 14 Kernel3Ideal.cfg0.N := by
  refine Eq.trans ?_ (arr14 m c).symm
  funext i
  idx_vars i
  pointwise
  rw [rp_at m m' c h0 h1 h2]
  rfl

include h0 h1 h2 in
theorem tie12 : (shapeCast S128x1x512 (Host.divf (Host.reduceAdd (shapeCast S2x64x256x512
      (extractStridedSlice S2x16384x512 ![0, 0, 512] (rp m' c) slices_S2x16384x7752_S2x16384x512_0_0_512) shapeCasts_S2x16384x512_S2x64x256x512)
      (constant S_ .f32 0x00000000#32) reducesTo_S2x64x256x512_S2x64x512_d2 h_S_) (broadcastInDim S2x64x512 ![] bcast_S_S2x64x512 (constant S_ .f32 0x43800000#32)))
      shapeCasts_S2x64x512_S128x1x512 : FVec Ideal S128x1x512 .f32)
    = (Kernel3Ideal.Gen.dats m 0 c).arrAt 15 Kernel3Ideal.cfg0.N := by
  refine Eq.trans ?_ (arr15 m c).symm
  funext i
  idx_vars i
  have q : ∀ p : Fin 256, rp m' c (ix3 ⟨i0.val / 64, by omega⟩ ⟨i0.val % 64 * 256 + p.val, by omega⟩ ⟨512 + i2.val, by omega⟩)
      = col m c ⟨i0.val * 256 + p.val, by omega⟩ ⟨512 + i2.val, by omega⟩ := by
    intro p
    have ea : (⟨i0.val / 64, by omega⟩ : Fin 2) = ⟨(i0.val * 256 + p.val) / 16384, by omega⟩ := Fin.ext (by simp only; omega)
    have eb : (⟨i0.val % 64 * 256 + p.val, by omega⟩ : Fin 16384) = ⟨(i0.val * 256 + p.val) % 16384, by omega⟩ := Fin.ext (by simp only; omega)
    rw [ea, eb]
    exact rp_at m m' c h0 h1 h2 ⟨i0.val * 256 + p.val, by omega⟩ ⟨512 + i2.val, by omega⟩
  pointwise
  simp only [q, mean, part]

end Tie
end Cert.Inproj
-- ==== Proof.PostMid.lean ====
/-
  The merge-and-MLP call of the layers before the last, which has no norm after the MLP: its result array after the run, row by
  row, is `between` of the argument rows; so is the reference's. The row functions are those of the last layer's call.
-/
module

public import proofs.«01_k».proof.Defs
public import proofs.«01_k».proof.Proof.PostRow
public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt

@[expose] public section

set_option maxRecDepth 16384

noncomputable section

namespace Cert.PostMid

open Cert.Post
open Idealize.ShloMosaic Idealize.ShloMosaic.TcCoe Idealize.SL.Sem
open Idealize.ShloMosaic.Pipeline (Dat)

/-- The whole row, as the next layer takes it. -/
def between (x : Fin 1024 → EReal) (gt : Fin 3072 → EReal) (ya yb yc : Fin 512 → EReal) (wpa wpb wpc : Fin 512 → Fin 1024 → EReal)
    (wo : Fin 1024 → Fin 1024 → EReal) (g : Fin 1024 → EReal) (wu : Fin 1024 → Fin 4096 → EReal) (wd : Fin 4096 → Fin 1024 → EReal) :
    Fin 1024 → EReal :=
  mlp (resid x (merged gt ya yb yc wpa wpb wpc) wo) g wu wd

section Kernel
open Cert.Kernel4Ideal Cert.Kernel4Ideal.Gen

/-- What one grid point stores, at row `p` and column `j` of its block, is `between` of the rows of the blocks it loads. -/
theorem out_row (x0 : Vec Ideal S256x1024 .f32) (x1 x2 x3 : Vec Ideal S256x512 .bf16) (x4 : Vec Ideal S256x3072 .f32)
    (x5 x6 x7 : Vec Ideal S512x1024 .bf16) (x8 : Vec Ideal S1024x1024 .bf16) (x9 : Vec Ideal S1x1024 .f32)
    (x10 : Vec Ideal S1024x4096 .bf16) (x11 : Vec Ideal S4096x1024 .bf16) (x12 : Vec Ideal S1x1024 .f32) (p : Fin 256) (j : Fin 1024) :
    out0_13 x0 x1 x2 x3 x4 x5 x6 x7 x8 x9 x10 x11 x12 (ix2 p j)
      = between (fun k => x0 (ix2 p k)) (fun k => x4 (ix2 p k)) (fun k => x1 (ix2 p k)) (fun k => x2 (ix2 p k)) (fun k => x3 (ix2 p k))
          (fun k j => x5 (ix2 k j)) (fun k j => x6 (ix2 k j)) (fun k j => x7 (ix2 k j)) (fun k j => x8 (ix2 k j)) (fun k => x9 (ix2 0 k))
          (fun k j => x10 (ix2 k j)) (fun k j => x11 (ix2 k j)) j := by
  have h4 : ∀ j : Fin 1024, k0_pay5 (k0_pay8 x0 x1 x2 x3 x4 x5 x6 x7 x8 x9 x10 x11 x12) (k0_pay9 x0 x1 x2 x3 x4 x5 x6 x7 x8 x9 x10 x11 x12)
      (k0_pay10 x0 x1 x2 x3 x4 x5 x6 x7 x8 x9 x10 x11 x12) (ix2 p j)
      = resid (fun k => x0 (ix2 p k)) (merged (fun k => x4 (ix2 p k)) (fun k => x1 (ix2 p k)) (fun k => x2 (ix2 p k)) (fun k => x3 (ix2 p k))
          (fun k j => x5 (ix2 k j)) (fun k j => x6 (ix2 k j)) (fun k j => x7 (ix2 k j))) (fun k j => x8 (ix2 k j)) j := by
    intro j
    pointwise [k0_pay5, k0_pay8, k0_pay9, k0_pay10, k0_pay2, k0_pay3, k0_pay4, resid, merged]
  have h5 : ∀ j : Fin 1024, k0_pay6 (k0_pay8 x0 x1 x2 x3 x4 x5 x6 x7 x8 x9 x10 x11 x12) (k0_pay9 x0 x1 x2 x3 x4 x5 x6 x7 x8 x9 x10 x11 x12)
      (k0_pay10 x0 x1 x2 x3 x4 x5 x6 x7 x8 x9 x10 x11 x12) x9 (ix2 p j)
      = rms (resid (fun k => x0 (ix2 p k)) (merged (fun k => x4 (ix2 p k)) (fun k => x1 (ix2 p k)) (fun k => x2 (ix2 p k)) (fun k => x3 (ix2 p k))
          (fun k j => x5 (ix2 k j)) (fun k j => x6 (ix2 k j)) (fun k j => x7 (ix2 k j))) (fun k j => x8 (ix2 k j))) (fun k => x9 (ix2 0 k)) j := by
    intro j
    pointwise [k0_pay6, h4, rms]
  unfold between
  generalize resid _ _ _ = x1row at h4 h5 ⊢
  have hm : ∀ j : Fin 1024, mlp x1row (fun k => x9 (ix2 0 k)) (fun k j => x10 (ix2 k j)) (fun k j => x11 (ix2 k j)) j
      = x1row j + (∑ k : Fin 1024, hidden (rms x1row (fun k => x9 (ix2 0 k))) (fun k j => x10 (ix2 k j)) (fun k j => x11 (ix2 k j)) j ⟨k.val, by omega⟩)
        + (∑ k : Fin 1024, hidden (rms x1row (fun k => x9 (ix2 0 k))) (fun k j => x10 (ix2 k j)) (fun k j => x11 (ix2 k j)) j ⟨1024 + k.val, by omega⟩)
        + (∑ k : Fin 1024, hidden (rms x1row (fun k => x9 (ix2 0 k))) (fun k j => x10 (ix2 k j)) (fun k j => x11 (ix2 k j)) j ⟨2048 + k.val, by omega⟩)
        + ∑ k : Fin 1024, hidden (rms x1row (fun k => x9 (ix2 0 k))) (fun k j => x10 (ix2 k j)) (fun k j => x11 (ix2 k j)) j ⟨3072 + k.val, by omega⟩ :=
    fun j => four_quarters _ _
  unfold out0_13
  frame_out
  pointwise [k0_pay1, k0_pay7, h4, h5]
  simp only [hm, Post.hidden]

/-! The arrays that the call stages, as the host operations before it leave them: row `r` of a flattened array is row
   `r % 16384` of sequence `r / 16384`, and the weights are the arguments. -/

theorem V_v0 (m : (ℓ : Loc nD τ sig) → Buf (Elt Ideal) ℓ) (c : Dev nD) (r : Fin 32768) (j : Fin 1024) :
    (V m c main_v0 : S32768x1024.Idx → EReal) (ix2 r j)
      = (m ((c : Thread nD τ).loc main_arg0) : S2x16384x1024.Idx → EReal) (ix3 ⟨r.val / 16384, by omega⟩ ⟨r.val % 16384, by omega⟩ j) := by
  unfold V
  after_reads_at

theorem V_v1 (m : (ℓ : Loc nD τ sig) → Buf (Elt Ideal) ℓ) (c : Dev nD) (r : Fin 32768) (j : Fin 512) :
    (V m c main_v1 : S32768x512.Idx → EReal) (ix2 r j)
      = (m ((c : Thread nD τ).loc main_arg1) : S2x16384x512.Idx → EReal) (ix3 ⟨r.val / 16384, by omega⟩ ⟨r.val % 16384, by omega⟩ j) := by
  unfold V
  after_reads_at

theorem V_v2 (m : (ℓ : Loc nD τ sig) → Buf (Elt Ideal) ℓ) (c : Dev nD) (r : Fin 32768) (j : Fin 512) :
    (V m c main_v2 : S32768x512.Idx → EReal) (ix2 r j)
      = (m ((c : Thread nD τ).loc main_arg2) : S2x16384x512.Idx → EReal) (ix3 ⟨r.val / 16384, by omega⟩ ⟨r.val % 16384, by omega⟩ j) := by
  unfold V
  after_reads_at

theorem V_v3 (m : (ℓ : Loc nD τ sig) → Buf (Elt Ideal) ℓ) (c : Dev nD) (r : Fin 32768) (j : Fin 512) :
    (V m c main_v3 : S32768x512.Idx → EReal) (ix2 r j)
      = (m ((c : Thread nD τ).loc main_arg3) : S2x16384x512.Idx → EReal) (ix3 ⟨r.val / 16384, by omega⟩ ⟨r.val % 16384, by omega⟩ j) := by
  unfold V
  after_reads_at

theorem V_v4 (m : (ℓ : Loc nD τ sig) → Buf (Elt Ideal) ℓ) (c : Dev nD) (r : Fin 32768) (j : Fin 3072) :
    (V m c main_v4 : S32768x3072.Idx → EReal) (ix2 r j)
      = (m ((c : Thread nD τ).loc main_arg4) : S2x16384x3072.Idx → EReal) (ix3 ⟨r.val / 16384, by omega⟩ ⟨r.val % 16384, by omega⟩ j) := by
  unfold V
  after_reads_at

theorem V_v5 (m : (ℓ : Loc nD τ sig) → Buf (Elt Ideal) ℓ) (c : Dev nD) (r : Fin 512) (j : Fin 1024) :
    (V m c main_v5 : S512x1024.Idx → EReal) (ix2 r j) = (m ((c : Thread nD τ).loc main_arg5) : S512x1024.Idx → EReal) (ix2 r j) := by
  unfold V
  after_reads_at

theorem V_v6 (m : (ℓ : Loc nD τ sig) → Buf (Elt Ideal) ℓ) (c : Dev nD) (r : Fin 512) (j : Fin 1024) :
    (V m c main_v6 : S512x1024.Idx → EReal) (ix2 r j) = (m ((c : Thread nD τ).loc main_arg6) : S512x1024.Idx → EReal) (ix2 r j) := by
  unfold V
  after_reads_at

theorem V_v7 (m : (ℓ : Loc nD τ sig) → Buf (Elt Ideal) ℓ) (c : Dev nD) (r : Fin 512) (j : Fin 1024) :
    (V m c main_v7 : S512x1024.Idx → EReal) (ix2 r j) = (m ((c : Thread nD τ).loc main_arg7) : S512x1024.Idx → EReal) (ix2 r j) := by
  unfold V
  after_reads_at

theorem V_v8 (m : (ℓ : Loc nD τ sig) → Buf (Elt Ideal) ℓ) (c : Dev nD) (r : Fin 1024) (j : Fin 1024) :
    (V m c main_v8 : S1024x1024.Idx → EReal) (ix2 r j) = (m ((c : Thread nD τ).loc main_arg8) : S1024x1024.Idx → EReal) (ix2 r j) := by
  unfold V
  after_reads_at

theorem V_v10 (m : (ℓ : Loc nD τ sig) → Buf (Elt Ideal) ℓ) (c : Dev nD) (r : Fin 1024) (j : Fin 4096) :
    (V m c main_v10 : S1024x4096.Idx → EReal) (ix2 r j) = (m ((c : Thread nD τ).loc main_arg10) : S1024x4096.Idx → EReal) (ix2 r j) := by
  unfold V
  after_reads_at

theorem V_v11 (m : (ℓ : Loc nD τ sig) → Buf (Elt Ideal) ℓ) (c : Dev nD) (r : Fin 4096) (j : Fin 1024) :
    (V m c main_v11 : S4096x1024.Idx → EReal) (ix2 r j) = (m ((c : Thread nD τ).loc main_arg11) : S4096x1024.Idx → EReal) (ix2 r j) := by
  unfold V
  after_reads_at

theorem V_v9 (m : (ℓ : Loc nD τ sig) → Buf (Elt Ideal) ℓ) (c : Dev nD) (j : Fin 1024) :
    (V m c main_v9 : S1x1024.Idx → EReal) (ix2 0 j) = (m ((c : Thread nD τ).loc main_arg9) : S1024.Idx → EReal) (ix1 j) := by
  unfold V
  after_reads_at

variable (m : (ℓ : Loc nD τ sig) → Buf (Elt Ideal) ℓ) (c : Dev nD)

/-- Row `r` of the call's result, from the arguments. -/
def outRow (r : Fin 32768) : Fin 1024 → EReal :=
  between (fun k => (m ((c : Thread nD τ).loc main_arg0) : S2x16384x1024.Idx → EReal) (ix3 ⟨r.val / 16384, by omega⟩ ⟨r.val % 16384, by omega⟩ k))
    (fun k => (m ((c : Thread nD τ).loc main_arg4) : S2x16384x3072.Idx → EReal) (ix3 ⟨r.val / 16384, by omega⟩ ⟨r.val % 16384, by omega⟩ k))
    (fun k => (m ((c : Thread nD τ).loc main_arg1) : S2x16384x512.Idx → EReal) (ix3 ⟨r.val / 16384, by omega⟩ ⟨r.val % 16384, by omega⟩ k))
    (fun k => (m ((c : Thread nD τ).loc main_arg2) : S2x16384x512.Idx → EReal) (ix3 ⟨r.val / 16384, by omega⟩ ⟨r.val % 16384, by omega⟩ k))
    (fun k => (m ((c : Thread nD τ).loc main_arg3) : S2x16384x512.Idx → EReal) (ix3 ⟨r.val / 16384, by omega⟩ ⟨r.val % 16384, by omega⟩ k))
    (fun k j => (m ((c : Thread nD τ).loc main_arg5) : S512x1024.Idx → EReal) (ix2 k j))
    (fun k j => (m ((c : Thread nD τ).loc main_arg6) : S512x1024.Idx → EReal) (ix2 k j))
    (fun k j => (m ((c : Thread nD τ).loc main_arg7) : S512x1024.Idx → EReal) (ix2 k j))
    (fun k j => (m ((c : Thread nD τ).loc main_arg8) : S1024x1024.Idx → EReal) (ix2 k j))
    (fun k => (m ((c : Thread nD τ).loc main_arg9) : S1024.Idx → EReal) (ix1 k))
    (fun k j => (m ((c : Thread nD τ).loc main_arg10) : S1024x4096.Idx → EReal) (ix2 k j))
    (fun k j => (m ((c : Thread nD τ).loc main_arg11) : S4096x1024.Idx → EReal) (ix2 k j))

/-! The blocks that a grid point loads: its 256 rows of the row arrays, and the weights whole. -/

theorem blk0 (t : Fin grid0.N) (p : Fin 256) (j : Fin 1024) (h : t.val * 256 + p.val < 32768) :
    (iblk m c 0 t : S256x1024.Idx → EReal) (ix2 p j)
      = (m ((c : Thread nD τ).loc main_arg0) : S2x16384x1024.Idx → EReal)
          (ix3 ⟨(t.val * 256 + p.val) / 16384, by omega⟩ ⟨(t.val * 256 + p.val) % 16384, by omega⟩ j) := by
  have e := (by decide +kernel : ∀ t : Fin grid0.N, win0_0.index t = ![t.val, 0]) t
  rw [← V_v0 m c ⟨t.val * 256 + p.val, h⟩ j]
  blk_ext [iblk, e]

theorem blk1 (t : Fin grid0.N) (p : Fin 256) (j : Fin 512) (h : t.val * 256 + p.val < 32768) :
    (iblk m c 1 t : S256x512.Idx → EReal) (ix2 p j)
      = (m ((c : Thread nD τ).loc main_arg1) : S2x16384x512.Idx → EReal)
          (ix3 ⟨(t.val * 256 + p.val) / 16384, by omega⟩ ⟨(t.val * 256 + p.val) % 16384, by omega⟩ j) := by
  have e := (by decide +kernel : ∀ t : Fin grid0.N, win0_1.index t = ![t.val, 0]) t
  rw [← V_v1 m c ⟨t.val * 256 + p.val, h⟩ j]
  blk_ext [iblk, e]

theorem blk2 (t : Fin grid0.N) (p : Fin 256) (j : Fin 512) (h : t.val * 256 + p.val < 32768) :
    (iblk m c 2 t : S256x512.Idx → EReal) (ix2 p j)
      = (m ((c : Thread nD τ).loc main_arg2) : S2x16384x512.Idx → EReal)
          (ix3 ⟨(t.val * 256 + p.val) / 16384, by omega⟩ ⟨(t.val * 256 + p.val) % 16384, by omega⟩ j) := by
  have e := (by decide +kernel : ∀ t : Fin grid0.N, win0_2.index t = ![t.val, 0]) t
  rw [← V_v2 m c ⟨t.val * 256 + p.val, h⟩ j]
  blk_ext [iblk, e]

theorem blk3 (t : Fin grid0.N) (p : Fin 256) (j : Fin 512) (h : t.val * 256 + p.val < 32768) :
    (iblk m c 3 t : S256x512.Idx → EReal) (ix2 p j)
      = (m ((c : Thread nD τ).loc main_arg3) : S2x16384x512.Idx → EReal)
          (ix3 ⟨(t.val * 256 + p.val) / 16384, by omega⟩ ⟨(t.val * 256 + p.val) % 16384, by omega⟩ j) := by
  have e := (by decide +kernel : ∀ t : Fin grid0.N, win0_3.index t = ![t.val, 0]) t
  rw [← V_v3 m c ⟨t.val * 256 + p.val, h⟩ j]
  blk_ext [iblk, e]

theorem blk4 (t : Fin grid0.N) (p : Fin 256) (j : Fin 3072) (h : t.val * 256 + p.val < 32768) :
    (iblk m c 4 t : S256x3072.Idx → EReal) (ix2 p j)
      = (m ((c : Thread nD τ).loc main_arg4) : S2x16384x3072.Idx → EReal)
          (ix3 ⟨(t.val * 256 + p.val) / 16384, by omega⟩ ⟨(t.val * 256 + p.val) % 16384, by omega⟩ j) := by
  have e := (by decide +kernel : ∀ t : Fin grid0.N, win0_4.index t = ![t.val, 0]) t
  rw [← V_v4 m c ⟨t.val * 256 + p.val, h⟩ j]
  blk_ext [iblk, e]

theorem blk5 (t : Fin grid0.N) (k : Fin 512) (j : Fin 1024) :
    (iblk m c 5 t : S512x1024.Idx → EReal) (ix2 k j) = (m ((c : Thread nD τ).loc main_arg5) : S512x1024.Idx → EReal) (ix2 k j) := by
  have e := (by decide +kernel : ∀ t : Fin grid0.N, win0_5.index t = ![0, 0]) t
  rw [← V_v5 m c k j]
  blk_ext [iblk, e]

theorem blk6 (t : Fin grid0.N) (k : Fin 512) (j : Fin 1024) :
    (iblk m c 6 t : S512x1024.Idx → EReal) (ix2 k j) = (m ((c : Thread nD τ).loc main_arg6) : S512x1024.Idx → EReal) (ix2 k j) := by
  have e := (by decide +kernel : ∀ t : Fin grid0.N, win0_6.index t = ![0, 0]) t
  rw [← V_v6 m c k j]
  blk_ext [iblk, e]

theorem blk7 (t : Fin grid0.N) (k : Fin 512) (j : Fin 1024) :
    (iblk m c 7 t : S512x1024.Idx → EReal) (ix2 k j) = (m ((c : Thread nD τ).loc main_arg7) : S512x1024.Idx → EReal) (ix2 k j) := by
  have e := (by decide +kernel : ∀ t : Fin grid0.N, win0_7.index t = ![0, 0]) t
  rw [← V_v7 m c k j]
  blk_ext [iblk, e]

theorem blk8 (t : Fin grid0.N) (k : Fin 1024) (j : Fin 1024) :
    (iblk m c 8 t : S1024x1024.Idx → EReal) (ix2 k j) = (m ((c : Thread nD τ).loc main_arg8) : S1024x1024.Idx → EReal) (ix2 k j) := by
  have e := (by decide +kernel : ∀ t : Fin grid0.N, win0_8.index t = ![0, 0]) t
  rw [← V_v8 m c k j]
  blk_ext [iblk, e]

theorem blk10 (t : Fin grid0.N) (k : Fin 1024) (j : Fin 4096) :
    (iblk m c 10 t : S1024x4096.Idx → EReal) (ix2 k j) = (m ((c : Thread nD τ).loc main_arg10) : S1024x4096.Idx → EReal) (ix2 k j) := by
  have e := (by decide +kernel : ∀ t : Fin grid0.N, win0_10.index t = ![0, 0]) t
  rw [← V_v10 m c k j]
  blk_ext [iblk, e]

theorem blk11 (t : Fin grid0.N) (k : Fin 4096) (j : Fin 1024) :
    (iblk m c 11 t : S4096x1024.Idx → EReal) (ix2 k j) = (m ((c : Thread nD τ).loc main_arg11) : S4096x1024.Idx → EReal) (ix2 k j) := by
  have e := (by decide +kernel : ∀ t : Fin grid0.N, win0_11.index t = ![0, 0]) t
  rw [← V_v11 m c k j]
  blk_ext [iblk, e]

theorem blk9 (t : Fin grid0.N) (k : Fin 1024) :
    (iblk m c 9 t : S1x1024.Idx → EReal) (ix2 0 k) = (m ((c : Thread nD τ).loc main_arg9) : S1024.Idx → EReal) (ix1 k) := by
  have e := (by decide +kernel : ∀ t : Fin grid0.N, win0_9.index t = ![0, 0]) t
  rw [← V_v9 m c k]
  blk_ext [iblk, e]

/-- The call's result array after the run, row by row. -/
theorem arr13 : ((dats m 0 c).arrAt 13 cfg0.N : S32768x1024.Idx → EReal) = fun i => outRow m c (i 0) (i 1) := by
  refine (dats m 0 c).arrAt_eq_of_covers 13 _ (by decide +kernel) fun t hf y => ?_
  have e := (by decide +kernel : ∀ t : Fin grid0.N, win0_13.index t = ![t.val, 0]) t
  have ht : t.val < 128 := N_0 ▸ t.isLt
  blk_simp
  rw [after0_13]
  idx_vars y
  have h : t.val * 256 + y0.val < 32768 := by omega
  have hr : (((View.whole main_v13).slice (win0_13.rect t)).emb (ix2 y0 y1) 0 : Fin 32768) = ⟨t.val * 256 + y0.val, h⟩ := by
    apply Fin.ext
    blk_simp [e]
  have hc : (((View.whole main_v13).slice (win0_13.rect t)).emb (ix2 y0 y1) 1 : Fin 1024) = y1 := by
    apply Fin.ext
    blk_simp [e]
  refine Eq.trans ?_ (congrArg₂ (outRow m c) hr.symm hc.symm)
  refine (out_row _ _ _ _ _ _ _ _ _ _ _ _ _ y0 y1).trans ?_
  unfold outRow
  have q0 := fun k => blk0 m c t y0 k h
  have q1 := fun k => blk1 m c t y0 k h
  have q2 := fun k => blk2 m c t y0 k h
  have q3 := fun k => blk3 m c t y0 k h
  have q4 := fun k => blk4 m c t y0 k h
  simp only [q0, q1, q2, q3, q4, blk5, blk6, blk7, blk8, blk9, blk10, blk11]

end Kernel

section Reference
open Cert.Reference4Ideal Cert.Reference4Ideal.Gen Cert.Reference4Ideal.Value

/-- The gates, each through the logistic function. -/
def rSig (g : FVec Ideal S2x16384x3072 .f32) : FVec Ideal S2x16384x3072 .f32 :=
  Host.divf (broadcastInDim S2x16384x3072 ![] bcast_S_S2x16384x3072 (constant S_ .f32 0x3F800000#32))
    (addf (broadcastInDim S2x16384x3072 ![] bcast_S_S2x16384x3072 (constant S_ .f32 0x3F800000#32)) (Host.exp (Host.negf g)))

/-- A branch's output projected. -/
def rProj (y : FVec Ideal S2x16384x512 .bf16) (w : FVec Ideal S512x1024 .f32) : FVec Ideal S2x16384x1024 .f32 :=
  Host.dotGeneral dot_S2x16384x512_S512x1024_S2x16384x1024_2_0_01_1_n_n none (extf .f32 y bitsLt_bf16_f32) w

/-- The residual sum of the whole array. -/
def rResid (x : FVec Ideal S2x16384x1024 .f32) (ya yb yc : FVec Ideal S2x16384x512 .bf16) (g : FVec Ideal S2x16384x3072 .f32)
    (wpa wpb wpc : FVec Ideal S512x1024 .f32) (wo : FVec Ideal S1024x1024 .f32) : FVec Ideal S2x16384x1024 .f32 :=
  addf x (Host.dotGeneral (φ₁ := .f32) (φ₂ := .f32) dot_S2x16384x1024_S1024x1024_S2x16384x1024_2_0_01_1_n_n none
    (addf (addf
      (mulf (shapeCast S2x16384x1024 (extractStridedSlice S2x16384x1x1024 ![0, 0, 0, 0] (shapeCast S2x16384x3x1024 (rSig g) shapeCasts_S2x16384x3072_S2x16384x3x1024) slices_S2x16384x3x1024_S2x16384x1x1024_0_0_0_0) shapeCasts_S2x16384x1x1024_S2x16384x1024) (rProj ya wpa))
      (mulf (shapeCast S2x16384x1024 (extractStridedSlice S2x16384x1x1024 ![0, 0, 1, 0] (shapeCast S2x16384x3x1024 (rSig g) shapeCasts_S2x16384x3072_S2x16384x3x1024) slices_S2x16384x3x1024_S2x16384x1x1024_0_0_1_0) shapeCasts_S2x16384x1x1024_S2x16384x1024) (rProj yb wpb)))
      (mulf (shapeCast S2x16384x1024 (extractStridedSlice S2x16384x1x1024 ![0, 0, 2, 0] (shapeCast S2x16384x3x1024 (rSig g) shapeCasts_S2x16384x3072_S2x16384x3x1024) slices_S2x16384x3x1024_S2x16384x1x1024_0_0_2_0) shapeCasts_S2x16384x1x1024_S2x16384x1024) (rProj yc wpc)))
    wo)

/-- The norm of every row. -/
def rRms (v : FVec Ideal S2x16384x1024 .f32) (g : FVec Ideal S1024 .f32) : FVec Ideal S2x16384x1024 .f32 :=
  mulf (mulf v (broadcastInDim S2x16384x1024 ![0, 1, 2] bcast_S2x16384x1_S2x16384x1024_0_1_2 (Host.rsqrt (addf (Host.divf
    (broadcastInDim S2x16384x1 ![0, 1] bcast_S2x16384_S2x16384x1_0_1 (Host.reduceAdd (mulf v v) (constant S_ .f32 0x00000000#32) reducesTo_S2x16384x1024_S2x16384_d2 h_S_))
    (broadcastInDim S2x16384x1 ![] bcast_S_S2x16384x1 (constant S_ .f32 0x44800000#32)))
    (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g))

/-- The hidden layer before its squares. -/
def rHid (xn : FVec Ideal S2x16384x1024 .f32) (wu : FVec Ideal S1024x4096 .f32) : FVec Ideal S2x16384x4096 .f32 :=
  maximumf (Host.dotGeneral dot_S2x16384x1024_S1024x4096_S2x16384x4096_2_0_01_1_n_n none xn wu)
    (broadcastInDim S2x16384x4096 ![] bcast_S_S2x16384x4096 (constant S_ .f32 0x00000000#32))

/-- The rows after the MLP. -/
def rMlp (v : FVec Ideal S2x16384x1024 .f32) (g : FVec Ideal S1024 .f32) (wu : FVec Ideal S1024x4096 .f32) (wd : FVec Ideal S4096x1024 .f32) :
    FVec Ideal S2x16384x1024 .f32 :=
  addf v (Host.dotGeneral (φ₁ := .f32) (φ₂ := .f32) dot_S2x16384x4096_S4096x1024_S2x16384x1024_2_0_01_1_n_n none (mulf (rHid (rRms v g) wu) (rHid (rRms v g) wu)) wd)

variable (m : (ℓ : Loc nD τ sig) → Buf (Elt Ideal) ℓ) (c : Dev nD)

/-- The reference's result is these stages one after another. -/
theorem res_stages : res_main_v44 m c = shapeCast S32768x1024 (rMlp
      (rResid (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)))
      (m ((c.tc : Thread nD τ).loc main_arg9)) (m ((c.tc : Thread nD τ).loc main_arg10)) (m ((c.tc : Thread nD τ).loc main_arg11))) shapeCasts_S2x16384x1024_S32768x1024 := rfl

theorem rRms_row (v : FVec Ideal S2x16384x1024 .f32) (g : FVec Ideal S1024 .f32) (b : Fin 2) (s : Fin 16384) (j : Fin 1024) :
    rRms v g (ix3 b s j) = rms (fun k => v (ix3 b s k)) (fun k => g (ix1 k)) j := by
  pointwise [rRms, rms]

theorem rResid_row (x : FVec Ideal S2x16384x1024 .f32) (ya yb yc : FVec Ideal S2x16384x512 .bf16) (g : FVec Ideal S2x16384x3072 .f32)
    (wpa wpb wpc : FVec Ideal S512x1024 .f32) (wo : FVec Ideal S1024x1024 .f32) (b : Fin 2) (s : Fin 16384) (j : Fin 1024) :
    rResid x ya yb yc g wpa wpb wpc wo (ix3 b s j)
      = resid (fun k => x (ix3 b s k)) (merged (fun k => g (ix3 b s k)) (fun k => ya (ix3 b s k)) (fun k => yb (ix3 b s k)) (fun k => yc (ix3 b s k))
          (fun k j => wpa (ix2 k j)) (fun k j => wpb (ix2 k j)) (fun k j => wpc (ix2 k j))) (fun k j => wo (ix2 k j)) j := by
  pointwise [rResid, rSig, rProj, resid, merged, Ideal.logistic]

theorem rMlp_row (v : FVec Ideal S2x16384x1024 .f32) (g : FVec Ideal S1024 .f32) (wu : FVec Ideal S1024x4096 .f32) (wd : FVec Ideal S4096x1024 .f32)
    (b : Fin 2) (s : Fin 16384) (j : Fin 1024) :
    rMlp v g wu wd (ix3 b s j) = mlp (fun k => v (ix3 b s k)) (fun k => g (ix1 k)) (fun k j => wu (ix2 k j)) (fun k j => wd (ix2 k j)) j := by
  pointwise [rMlp, rHid, rRms_row, mlp, Post.hidden]

/-- The reference's result, row by row. -/
theorem ref_row (r : Fin 32768) (j : Fin 1024) :
    (res_main_v44 m c : S32768x1024.Idx → EReal) (ix2 r j)
      = between (fun k => (m ((c : Thread nD τ).loc main_arg0) : S2x16384x1024.Idx → EReal) (ix3 ⟨r.val / 16384, by omega⟩ ⟨r.val % 16384, by omega⟩ k))
    (fun k => (m ((c : Thread nD τ).loc main_arg4) : S2x16384x3072.Idx → EReal) (ix3 ⟨r.val / 16384, by omega⟩ ⟨r.val % 16384, by omega⟩ k))
    (fun k => (m ((c : Thread nD τ).loc main_arg1) : S2x16384x512.Idx → EReal) (ix3 ⟨r.val / 16384, by omega⟩ ⟨r.val % 16384, by omega⟩ k))
    (fun k => (m ((c : Thread nD τ).loc main_arg2) : S2x16384x512.Idx → EReal) (ix3 ⟨r.val / 16384, by omega⟩ ⟨r.val % 16384, by omega⟩ k))
    (fun k => (m ((c : Thread nD τ).loc main_arg3) : S2x16384x512.Idx → EReal) (ix3 ⟨r.val / 16384, by omega⟩ ⟨r.val % 16384, by omega⟩ k))
    (fun k j => (m ((c : Thread nD τ).loc main_arg5) : S512x1024.Idx → EReal) (ix2 k j))
    (fun k j => (m ((c : Thread nD τ).loc main_arg6) : S512x1024.Idx → EReal) (ix2 k j))
    (fun k j => (m ((c : Thread nD τ).loc main_arg7) : S512x1024.Idx → EReal) (ix2 k j))
    (fun k j => (m ((c : Thread nD τ).loc main_arg8) : S1024x1024.Idx → EReal) (ix2 k j))
    (fun k => (m ((c : Thread nD τ).loc main_arg9) : S1024.Idx → EReal) (ix1 k))
    (fun k j => (m ((c : Thread nD τ).loc main_arg10) : S1024x4096.Idx → EReal) (ix2 k j))
    (fun k j => (m ((c : Thread nD τ).loc main_arg11) : S4096x1024.Idx → EReal) (ix2 k j)) j := by
  rw [res_stages]
  pointwise
  rw [rMlp_row]
  simp only [rResid_row]
  rfl

end Reference

section Tie
open Cert.Kernel4Ideal

/-- The call's result array is the reference's result when the arguments agree. -/
theorem tie (m : (ℓ : Loc nD τ sig) → Buf (Elt Ideal) ℓ) (m' : (ℓ : Loc Reference4Ideal.nD Reference4Ideal.τ Reference4Ideal.sig) → Buf (Elt Ideal) ℓ) (c : Dev nD)
    (h0 : m' ((c.tc : Thread Reference4Ideal.nD Reference4Ideal.τ).loc Reference4Ideal.main_arg0) = m ((c.tc : Thread nD τ).loc main_arg0))
    (h1 : m' ((c.tc : Thread Reference4Ideal.nD Reference4Ideal.τ).loc Reference4Ideal.main_arg1) = m ((c.tc : Thread nD τ).loc main_arg1))
    (h2 : m' ((c.tc : Thread Reference4Ideal.nD Reference4Ideal.τ).loc Reference4Ideal.main_arg2) = m ((c.tc : Thread nD τ).loc main_arg2))
    (h3 : m' ((c.tc : Thread Reference4Ideal.nD Reference4Ideal.τ).loc Reference4Ideal.main_arg3) = m ((c.tc : Thread nD τ).loc main_arg3))
    (h4 : m' ((c.tc : Thread Reference4Ideal.nD Reference4Ideal.τ).loc Reference4Ideal.main_arg4) = m ((c.tc : Thread nD τ).loc main_arg4))
    (h5 : m' ((c.tc : Thread Reference4Ideal.nD Reference4Ideal.τ).loc Reference4Ideal.main_arg5) = m ((c.tc : Thread nD τ).loc main_arg5))
    (h6 : m' ((c.tc : Thread Reference4Ideal.nD Reference4Ideal.τ).loc Reference4Ideal.main_arg6) = m ((c.tc : Thread nD τ).loc main_arg6))
    (h7 : m' ((c.tc : Thread Reference4Ideal.nD Reference4Ideal.τ).loc Reference4Ideal.main_arg7) = m ((c.tc : Thread nD τ).loc main_arg7))
    (h8 : m' ((c.tc : Thread Reference4Ideal.nD Reference4Ideal.τ).loc Reference4Ideal.main_arg8) = m ((c.tc : Thread nD τ).loc main_arg8))
    (h9 : m' ((c.tc : Thread Reference4Ideal.nD Reference4Ideal.τ).loc Reference4Ideal.main_arg9) = m ((c.tc : Thread nD τ).loc main_arg9))
    (h10 : m' ((c.tc : Thread Reference4Ideal.nD Reference4Ideal.τ).loc Reference4Ideal.main_arg10) = m ((c.tc : Thread nD τ).loc main_arg10))
    (h11 : m' ((c.tc : Thread Reference4Ideal.nD Reference4Ideal.τ).loc Reference4Ideal.main_arg11) = m ((c.tc : Thread nD τ).loc main_arg11)) :
    (Reference4Ideal.Value.res_main_v44 m' c : S32768x1024.Idx → EReal) = (Gen.dats m 0 c).arrAt 13 cfg0.N := by
  refine Eq.trans ?_ (arr13 m c).symm
  funext i
  idx_vars i
  refine (ref_row m' c i0 i1).trans ?_
  rw [h0, h1, h2, h3, h4, h5, h6, h7, h8, h9, h10, h11]
  rfl

end Tie

end Cert.PostMid
-- ==== Proof.MobaPick.lean ====
/-
  Three rounds of "the row's maximum, the least lane that attains it, that lane set to -∞" pick the lanes that a stable sort
  by "greater" puts first, when no entry of the row is -∞.
-/
module

public import Idealize.ShloMosaic.Lib.SortPrefix
public import Idealize.ShloMosaic.Lib.SortNet.Extract
public import Idealize.ShloMosaic.PureOps.Ideal.Laws

@[expose] public section

noncomputable section

namespace Cert.Moba

open Idealize.ShloMosaic

/-- Some lane attains the row's maximum and is the least to do so. -/
theorem exists_pick (g : Fin 64 → EReal) : ∃ p, (∀ n, g n ≤ g p) ∧ ∀ n, g n = g p → p ≤ n := by
  obtain ⟨q, -, hq⟩ := Finset.exists_max_image Finset.univ g ⟨0, Finset.mem_univ _⟩
  have hne : (Finset.univ.filter fun n => g n = g q).Nonempty := ⟨q, by simp⟩
  refine ⟨(Finset.univ.filter fun n => g n = g q).min' hne, ?_, ?_⟩
  · have h := (Finset.mem_filter.mp (Finset.min'_mem _ hne)).2
    intro n
    rw [h]
    exact hq n (Finset.mem_univ n)
  · have h := (Finset.mem_filter.mp (Finset.min'_mem _ hne)).2
    intro n hn
    exact Finset.min'_le _ _ (by simp [hn, h])

/-- The lane that a round picks. -/
def pick (g : Fin 64 → EReal) : Fin 64 := (exists_pick g).choose

theorem le_pick (g : Fin 64 → EReal) (n : Fin 64) : g n ≤ g (pick g) := (exists_pick g).choose_spec.1 n

theorem pick_le (g : Fin 64 → EReal) (n : Fin 64) (h : g n = g (pick g)) : pick g ≤ n := (exists_pick g).choose_spec.2 n h

/-- The row after a round. -/
def next (g : Fin 64 → EReal) : Fin 64 → EReal := fun n => if n = pick g then ⊥ else g n

theorem fold_max (g : Fin 64 → EReal) : Finset.fold max ⊥ g Finset.univ = g (pick g) := by
  refine le_antisymm ?_ ?_
  · rw [Finset.fold_max_le]
    exact ⟨bot_le, fun n _ => le_pick g n⟩
  · rw [Finset.le_fold_max]
    exact Or.inr ⟨pick g, Finset.mem_univ _, le_rfl⟩

/-- A lane's number as a word, read as a signed integer. -/
theorem toInt_lane (n : Nat) (h : n < 100) : (BitVec.ofNat 32 n).toInt = n := by
  rw [BitVec.toInt_ofNat']
  simp only [Int.bmod]
  omega

/-- The kernel's reductions of a round give the picked lane's number. -/
theorem fold_pick (g : Fin 64 → EReal) :
    Finset.fold IntOp.minsi (2147483647#32)
      (fun x : Fin 64 => if g x = Finset.fold max ⊥ (fun x => g x) Finset.univ then BitVec.ofNat 32 x.val else 64#32) Finset.univ
      = BitVec.ofNat 32 (pick g).val := by
  rw [fold_max]
  apply BitVec.eq_of_toInt_eq
  have e := Finset.fold_hom (op := IntOp.minsi (w := 32)) (op' := min) (m := BitVec.toInt) (b := 2147483647#32)
    (f := fun x : Fin 64 => if g x = g (pick g) then BitVec.ofNat 32 x.val else 64#32) (s := Finset.univ)
    (fun x y => SortNet.toInt_minsi x y)
  rw [← e, toInt_lane (pick g).val (by omega)]
  have h64 : (64#32).toInt = 64 := by decide
  refine le_antisymm ?_ ?_
  · rw [Finset.fold_min_le]
    refine Or.inr ⟨pick g, Finset.mem_univ _, ?_⟩
    rw [if_pos rfl, toInt_lane (pick g).val (by omega)]
  · rw [Finset.le_fold_min]
    refine ⟨?_, fun n _ => ?_⟩
    · have : (2147483647#32).toInt = 2147483647 := by decide
      omega
    · split
      · rename_i h
        rw [toInt_lane n.val (by omega)]
        have := pick_le g n h
        omega
      · omega

/-- Greater first, and of equal entries the one at the lesser lane. -/
def before (g : Fin 64 → EReal) (k k' : Fin 64) : Bool := decide (g k' < g k) || (decide (g k = g k') && decide (k < k'))

theorem strict (g : Fin 64 → EReal) : StrictTotalBefore (before g) :=
  StrictTotalBefore.of_key_then_position (fun a b => decide (b < a)) g (fun a => by simp)
    (fun a b c h h' => by simp only [decide_eq_true_eq] at *; exact h'.trans h)
    (fun a b => by simp only [decide_eq_true_eq]; rcases lt_trichotomy a b with h | h | h <;> simp [h])

theorem insertBefore_congr {ι : Type} (B B' : ι → ι → Bool) (a : ι) (l : List ι) (h : ∀ b ∈ l, B b a = B' b a) :
    insertBefore B a l = insertBefore B' a l := by
  induction l with
  | nil => rfl
  | cons b l ih =>
    unfold insertBefore
    rw [h b (List.mem_cons_self ..), ih fun c hc => h c (List.mem_cons_of_mem _ hc)]

theorem stableSort_congr {ι : Type} (B B' : ι → ι → Bool) (l : List ι) (h : l.Pairwise fun a b => B b a = B' b a) :
    stableSort B l = stableSort B' l := by
  induction l with
  | nil => rfl
  | cons a l ih =>
    rw [List.pairwise_cons] at h
    unfold stableSort
    rw [ih h.2]
    exact insertBefore_congr B B' a _ fun b hb => h.1 b ((perm_stableSort B' l).mem_iff.mp hb)

/-- The stable sort by "greater" is the sort by "greater, then the lesser lane". -/
theorem sortedFrom_greater (g : Fin 64 → EReal) (k : Fin 64) :
    sortedFrom (fun k k' : Fin 64 => decide (g k' < g k)) k = sortedFrom (before g) k := by
  have e : sortPositions 64 (fun k k' : Fin 64 => decide (g k' < g k)) = sortPositions 64 (before g) := by
    refine stableSort_congr _ _ _ ?_
    refine (List.pairwise_lt_finRange 64).imp fun {a b} hab => ?_
    have : ¬ b < a := not_lt.mpr hab.le
    simp [before, this]
  have get_congr : ∀ (l l' : List (Fin 64)) (h : l.length = 64) (h' : l'.length = 64), l = l' →
      l.get (k.cast h.symm) = l'.get (k.cast h'.symm) := by
    intro l l' h h' e
    subst e
    rfl
  exact get_congr _ _ (length_sortPositions 64 _) (length_sortPositions 64 _) e

theorem not_before_pick (g : Fin 64 → EReal) (n : Fin 64) : before g n (pick g) = false := by
  have h1 := le_pick g n
  have h2 := pick_le g n
  simp only [before, Bool.or_eq_false_iff, Bool.and_eq_false_iff, decide_eq_false_iff_not, not_lt]
  refine ⟨h1, ?_⟩
  by_cases h : g n = g (pick g)
  · exact Or.inr (h2 h)
  · exact Or.inl h

/-- While an entry above -∞ is left, a round picks such an entry. -/
theorem pick_ne_bot (g : Fin 64 → EReal) (n : Fin 64) (h : g n ≠ ⊥) : g (pick g) ≠ ⊥ := fun e =>
  h (le_bot_iff.mp (e ▸ le_pick g n))

theorem pick_next_ne (g : Fin 64 → EReal) (n : Fin 64) (h : next g n ≠ ⊥) : pick (next g) ≠ pick g := fun e =>
  pick_ne_bot _ n h (by rw [e]; simp [next])

variable (g : Fin 64 → EReal) (hg : ∀ n, g n ≠ ⊥)
include hg

theorem exists_next (a : Fin 64) : ∃ n, n ≠ a ∧ g n ≠ ⊥ := by
  by_cases h : a = 0
  · exact ⟨1, by subst h; decide, hg 1⟩
  · exact ⟨0, fun e => h e.symm, hg 0⟩

theorem ne1 : pick (next g) ≠ pick g := by
  obtain ⟨n, h, h'⟩ := exists_next g hg (pick g)
  exact pick_next_ne g n (by simp only [next, if_neg h]; exact h')

theorem exists_next2 (a b : Fin 64) : ∃ n, n ≠ a ∧ n ≠ b := by
  have : ∃ n : Fin 64, n ∉ ({a, b} : Finset (Fin 64)) := by
    by_contra hn
    have hs : (Finset.univ : Finset (Fin 64)) ⊆ {a, b} := fun n _ => by by_contra h; exact hn ⟨n, h⟩
    have h1 := Finset.card_le_card hs
    have h2 : ({a, b} : Finset (Fin 64)).card ≤ 2 := Finset.card_le_two
    simp at h1
    omega
  obtain ⟨n, hn⟩ := this
  simp at hn
  exact ⟨n, hn.1, hn.2⟩

theorem next2_ne : ∃ n, next (next g) n ≠ ⊥ := by
  obtain ⟨n, h, h'⟩ := exists_next2 g hg (pick g) (pick (next g))
  refine ⟨n, ?_⟩
  simp only [next, if_neg h, if_neg h']
  exact hg n

theorem ne2 : pick (next (next g)) ≠ pick (next g) := by
  obtain ⟨n, h⟩ := next2_ne g hg
  exact pick_next_ne _ n h

theorem ne3 : pick (next (next g)) ≠ pick g := by
  obtain ⟨n, h⟩ := next2_ne g hg
  intro e
  refine pick_ne_bot _ n h ?_
  rw [e]
  simp only [next]
  split <;> simp

/-- What is not picked in a round is not before what is, in the row before the rounds. -/
theorem not_before1 (n : Fin 64) (h : n ≠ pick g) : before g n (pick (next g)) = false := by
  have h0 := not_before_pick (next g) n
  have h1 := ne1 g hg
  simpa only [before, next, if_neg h, if_neg h1] using h0

theorem not_before2 (n : Fin 64) (h : n ≠ pick g) (h' : n ≠ pick (next g)) : before g n (pick (next (next g))) = false := by
  have h0 := not_before_pick (next (next g)) n
  have e : ∀ k, k ≠ pick g → k ≠ pick (next g) → next (next g) k = g k := fun k a b => by
    rw [show next (next g) k = next g k from if_neg b]
    exact if_neg a
  simpa only [before, e n h h', e _ (ne3 g hg) (ne2 g hg)] using h0

/-- The first three places of the sort are the three picks. -/
theorem sorted_picks (i : Fin 3) : sortedFrom (fun k k' : Fin 64 => decide (g k' < g k)) (i.castLE (by decide))
    = ![pick g, pick (next g), pick (next (next g))] i := by
  rw [sortedFrom_greater]
  refine (strict g).sortedFrom_eq_of_prefix (by decide) ![pick g, pick (next g), pick (next (next g))] ?_ ?_ ?_ i
  · have h1 := ne1 g hg
    have h2 := ne2 g hg
    have h3 := ne3 g hg
    intro a b
    fin_cases a <;> fin_cases b <;> simp [h1, h2, h3, h1.symm, h2.symm, h3.symm]
  · intro a b hab
    fin_cases a <;> fin_cases b <;> first | exact absurd hab (by decide) | skip
    · exact not_before_pick g _
    · exact not_before_pick g _
    · exact not_before1 g hg _ (ne3 g hg)
  · intro a p hp
    have h0 : p ≠ pick g := fun e => hp 0 e.symm
    have h1 : p ≠ pick (next g) := fun e => hp 1 e.symm
    fin_cases a
    · exact not_before_pick g p
    · exact not_before1 g hg p h0
    · exact not_before2 g hg p h0 h1

/-- The kernel's -1e30. -/
def neg : EReal := Ideal.ofBits .f32 4048155338#32

/-- A query's gates on the block means: (q · mean) · 8 on the blocks before its own, else -1e30. -/
def gateRow (i : ℕ) (q : Fin 64 → EReal) (km : Fin 64 → Fin 64 → EReal) : Fin 64 → EReal :=
  fun n => if n.val < i then (∑ d, q d * km n d) * Ideal.ofBits .f32 1090519040#32 else neg

/-- A query's masks: 0 on its own block and on those of the three picked blocks that come before it, else -1e30. -/
def mask (i : ℕ) (g : Fin 64 → EReal) (n : Fin 64) : EReal :=
  if n.val = i ∨ ((n = pick g ∨ n = pick (next g) ∨ n = pick (next (next g))) ∧ n.val < i) then 0 else neg

end Cert.Moba
end
-- ==== Proof.MobaKernel.lean ====
/-
  The choice of blocks: what the kernel leaves in a tile's two output blocks, entry by entry of the tile's input blocks.
-/
module

public import proofs.«01_k».proof.Defs
public import proofs.«01_k».proof.Proof.MobaPick
public import proofs.«01_k».proof.Proof.Gen.Kernel5Ideal.Value
public import Idealize.ShloMosaic.Lib.Pipeline.ValueKit
public import Idealize.ShloMosaic.Lib.StableHlo.ReadAt

@[expose] public section

set_option maxRecDepth 16384

noncomputable section

namespace Cert.Moba

open Idealize.ShloMosaic Idealize.ShloMosaic.TcCoe Idealize.SL.Sem
open Idealize.ShloMosaic.Pipeline (Dat)
open Cert.Kernel5Ideal Cert.Kernel5Ideal.Gen

/-- The block numbers along the lanes. -/
abbrev lanes : IVec S256x64 32 := iota .tc S256x64 32 [1] iota_S256x64_d1_w32

/-- Per row, the lane that a round hits: the least one whose gate is the row's maximum. -/
def hit (g : FVec Ideal S256x64 .f32) : IVec S256x64 1 :=
  cmpi .eq lanes (broadcastTo S256x64 (shapeCast S256x1 (multiReductionI .minsi [1] S256
    (select (cmpf .oeq g (broadcastTo S256x64 (shapeCast S256x1
        (multiReduction .maximumf [1] S256 g 0xFF800000#32 reduces_S256x64_S256 (.inl rfl) rfl) shapeCasts_S256_S256x1)
        broadcasts_S256x1_S256x64)) lanes (broadcast S256x64 64#32))
    2147483647#32 reduces_S256x64_S256 rfl) shapeCasts_S256_S256x1) broadcasts_S256x1_S256x64)

/-- The gates after a round: -∞ where it hit. -/
def rest (g : FVec Ideal S256x64 .f32) : FVec Ideal S256x64 .f32 :=
  select (hit g) (broadcast S256x64 (Scalar.ofBits .f32 0xFF800000#32)) g

/-- The masks that three rounds leave. -/
def masks (i : grid0.Coords) (g : FVec Ideal S256x64 .f32) : FVec Ideal S256x64 .f32 :=
  select (hit (rest (rest g))) (k0_pay7 i) (select (hit (rest g)) (k0_pay7 i) (select (hit g) (k0_pay7 i) (k0_pay11 i)))

/-- The masks as a head's store has them. -/
def stored (i : grid0.Coords) (g : FVec Ideal S256x64 .f32) : Vec Ideal S1x256x64 .bf16 :=
  shapeCast S1x256x64 (truncf .bf16 (masks i g) bitsLt_bf16_f32) shapeCasts_S256x64_S1x256x64

theorem ninf : Ideal.ofBits .f32 4286578688#32 = (⊥ : EReal) := by simp [Ideal.ofBits, Ideal.ieee]

theorem eq_lane (a b : Fin 64) : IntOp.cmpi .eq (BitVec.ofNat 32 a.val) (BitVec.ofNat 32 b.val) = if a.val = b.val then 1#1 else 0#1 := by
  revert a b; decide +kernel

theorem slt_lane (a b : Fin 64) : IntOp.cmpi .slt (BitVec.ofNat 32 a.val) (BitVec.ofNat 32 b.val) = if a.val < b.val then 1#1 else 0#1 := by
  revert a b; decide +kernel

theorem sle_lane (a b : Fin 64) : IntOp.cmpi .sle (BitVec.ofNat 32 a.val) (BitVec.ofNat 32 b.val) = if a.val ≤ b.val then 1#1 else 0#1 := by
  revert a b; decide +kernel

/-- A select by a decided bit. -/
theorem select_ite {α : Type} (P : Prop) [Decidable P] (a b : α) : Scalar.select (if P then 1#1 else 0#1) a b = if P then a else b := by
  split <;> rfl

theorem hit_at (g : FVec Ideal S256x64 .f32) (p : Fin 256) (n : Fin 64) :
    hit g (ix2 p n) = if n = pick (fun x => g (ix2 p x)) then 1#1 else 0#1 := by
  pointwise [hit]
  rw [ninf, fold_pick (fun x => g (ix2 p x)), eq_lane]
  simp only [Fin.ext_iff]

theorem rest_at (g : FVec Ideal S256x64 .f32) (p : Fin 256) :
    (fun n => rest g (ix2 p n)) = next (fun x => g (ix2 p x)) := by
  funext n
  show Scalar.select (hit g (ix2 p n)) (Ideal.ofBits .f32 4286578688#32) (g (ix2 p n)) = _
  rw [hit_at, ninf, select_ite]
  rfl

theorem past_at (i : grid0.Coords) (p : Fin 256) (n : Fin 64) :
    (k0_pay7 (F := Ideal) i) (ix2 p n) = if n.val ≤ (i 1).val then (0 : EReal) else neg := by
  pointwise [k0_pay7]
  exact (congrArg (fun b => Scalar.select b (0 : EReal) neg) (sle_lane n (i 1))).trans (select_ite _ _ _)

theorem own_at (i : grid0.Coords) (p : Fin 256) (n : Fin 64) :
    (k0_pay11 (F := Ideal) i) (ix2 p n) = if n.val = (i 1).val then (0 : EReal) else neg := by
  pointwise [k0_pay11]
  exact (congrArg (fun b => Scalar.select b (0 : EReal) neg) (eq_lane n (i 1))).trans (select_ite _ _ _)

theorem onehot_at (i : grid0.Coords) (p : Fin 256) (n : Fin 64) :
    (k0_pay8 (F := Ideal) i) (ix2 p n) = if n.val = (i 1).val then (1 : EReal) else 0 := by
  pointwise [k0_pay8]
  exact (congrArg (fun b => Scalar.select b (1 : EReal) 0) (eq_lane n (i 1))).trans (select_ite _ _ _)

theorem masks_at (i : grid0.Coords) (g : FVec Ideal S256x64 .f32) (p : Fin 256) (n : Fin 64) :
    masks i g (ix2 p n) = mask (i 1).val (fun x => g (ix2 p x)) n := by
  show Scalar.select (hit (rest (rest g)) (ix2 p n)) (k0_pay7 (F := Ideal) i (ix2 p n))
    (Scalar.select (hit (rest g) (ix2 p n)) (k0_pay7 (F := Ideal) i (ix2 p n))
      (Scalar.select (hit g (ix2 p n)) (k0_pay7 (F := Ideal) i (ix2 p n)) (k0_pay11 (F := Ideal) i (ix2 p n)))) = _
  rw [hit_at, hit_at, hit_at, rest_at (rest g), rest_at g, past_at, own_at, select_ite, select_ite, select_ite]
  unfold mask
  split_ifs <;> first | rfl | (exfalso; simp_all; done) | (exfalso; omega)

/-- A head's gates at an entry of the tile. -/
abbrev headGate (i : grid0.Coords) (x0 : Vec Ideal S1x256x512 .bf16) (x2 : Vec Ideal S1x64x512 .f32) (h : Fin 8) (p : Fin 256) : Fin 64 → EReal :=
  gateRow (i 1).val (fun d => x0 (ix3 0 p ⟨64 * h.val + d.val, by omega⟩)) (fun n d => x2 (ix3 0 n ⟨64 * h.val + d.val, by omega⟩))

/-- The first output block: a head's 64 queries, then its 64 masks. -/
def qOut (i : grid0.Coords) (x0 : Vec Ideal S1x256x512 .bf16) (x2 : Vec Ideal S1x64x512 .f32) (p : Fin 256) (j : Fin 1024) : EReal :=
  if j.val % 128 < 64 then x0 (ix3 0 p ⟨64 * (j.val / 128) + j.val % 64, by omega⟩)
  else mask (i 1).val (headGate i x0 x2 ⟨j.val / 128, by omega⟩ p) ⟨j.val % 64, by omega⟩

/-- The second output block: a head's 64 keys, then the tile's own block marked. -/
def kOut (i : grid0.Coords) (x1 : Vec Ideal S1x256x512 .bf16) (p : Fin 256) (j : Fin 1024) : EReal :=
  if j.val % 128 < 64 then x1 (ix3 0 p ⟨64 * (j.val / 128) + j.val % 64, by omega⟩)
  else if j.val % 64 = (i 1).val then 1 else 0

/-- The heads' gates, as the body has them. -/
def gates (i : grid0.Coords) (x0 x1 : Vec Ideal S1x256x512 .bf16) (x2 : Vec Ideal S1x64x512 .f32) : Fin 8 → FVec Ideal S256x64 .f32 :=
  ![k0_pay10 i (View.ld x0 r0_0) (View.ld x2 r0_1), k0_pay20 (k0_pay86 i x0 x1 x2) (k0_pay88 i x0 x1 x2) (k0_pay89 i x0 x1 x2), k0_pay30 (k0_pay86 i x0 x1 x2) (k0_pay88 i x0 x1 x2) (k0_pay89 i x0 x1 x2), k0_pay38 (k0_pay86 i x0 x1 x2) (k0_pay88 i x0 x1 x2) (k0_pay89 i x0 x1 x2), k0_pay49 (k0_pay89 i x0 x1 x2) (k0_pay92 i x0 x1 x2), k0_pay60 (k0_pay86 i x0 x1 x2) (k0_pay88 i x0 x1 x2) (k0_pay89 i x0 x1 x2), k0_pay68 (k0_pay86 i x0 x1 x2) (k0_pay88 i x0 x1 x2) (k0_pay89 i x0 x1 x2), k0_pay80 (k0_pay86 i x0 x1 x2) (k0_pay88 i x0 x1 x2) (k0_pay89 i x0 x1 x2)]

theorem gates_at (i : grid0.Coords) (x0 x1 : Vec Ideal S1x256x512 .bf16) (x2 : Vec Ideal S1x64x512 .f32) (h : Fin 8) (p : Fin 256) :
    (fun n => gates i x0 x1 x2 h (ix2 p n)) = headGate i x0 x2 h p := by
  funext n
  refine Eq.trans ?_ ((congrArg (fun b => Scalar.select b _ neg) (slt_lane n (i 1))).trans (select_ite _ _ _))
  fin_cases h
  all_goals
    unfold gates k0_pay92
    pointwise [k0_pay10, k0_pay9, k0_pay20, k0_pay19, k0_pay30, k0_pay29, k0_pay38, k0_pay37, k0_pay49, k0_pay48, k0_pay47, k0_pay60, k0_pay59, k0_pay68, k0_pay67, k0_pay80, k0_pay79, k0_pay86, k0_pay88, k0_pay89, k0_pay3, k0_pay5, k0_pay6]
    rfl

theorem qOut_left (i : grid0.Coords) (x0 : Vec Ideal S1x256x512 .bf16) (x2 : Vec Ideal S1x64x512 .f32) (h : Fin 8) (p : Fin 256)
    (l : Fin 64) (j : Fin 1024) (hj : j.val = 128 * h.val + l.val) :
    qOut i x0 x2 p j = x0 (ix3 0 p ⟨64 * h.val + l.val, by omega⟩) := by
  unfold qOut
  rw [if_pos (by omega)]
  exact congrArg (fun a => x0 (ix3 0 p a)) (Fin.ext (by show 64 * (j.val / 128) + j.val % 64 = 64 * h.val + l.val; omega))

theorem kOut_left (i : grid0.Coords) (x1 : Vec Ideal S1x256x512 .bf16) (h : Fin 8) (p : Fin 256)
    (l : Fin 64) (j : Fin 1024) (hj : j.val = 128 * h.val + l.val) :
    kOut i x1 p j = x1 (ix3 0 p ⟨64 * h.val + l.val, by omega⟩) := by
  unfold kOut
  rw [if_pos (by omega)]
  exact congrArg (fun a => x1 (ix3 0 p a)) (Fin.ext (by show 64 * (j.val / 128) + j.val % 64 = 64 * h.val + l.val; omega))

theorem qOut_right (i : grid0.Coords) (x0 x1 : Vec Ideal S1x256x512 .bf16) (x2 : Vec Ideal S1x64x512 .f32) (h : Fin 8) (p : Fin 256)
    (l : Fin 64) (j : Fin 1024) (hj : j.val = 128 * h.val + 64 + l.val) :
    qOut i x0 x2 p j = stored i (gates i x0 x1 x2 h) (ix3 0 p l) := by
  have e : stored i (gates i x0 x1 x2 h) (ix3 0 p l) = masks i (gates i x0 x1 x2 h) (ix2 p l) := by
    pointwise [stored]
  rw [e, masks_at, gates_at]
  unfold qOut
  rw [if_neg (by omega)]
  have e1 : (⟨j.val / 128, by omega⟩ : Fin 8) = h := Fin.ext (by show j.val / 128 = h.val; omega)
  have e2 : (⟨j.val % 64, by omega⟩ : Fin 64) = l := Fin.ext (by show j.val % 64 = l.val; omega)
  rw [e1, e2]

theorem kOut_right (i : grid0.Coords) (x1 : Vec Ideal S1x256x512 .bf16) (h : Fin 8) (p : Fin 256)
    (l : Fin 64) (j : Fin 1024) (hj : j.val = 128 * h.val + 64 + l.val) :
    kOut i x1 p j = shapeCast S1x256x64 (k0_pay8 (F := Ideal) i) shapeCasts_S256x64_S1x256x64 (ix3 0 p l) := by
  have e : shapeCast S1x256x64 (k0_pay8 (F := Ideal) i) shapeCasts_S256x64_S1x256x64 (ix3 0 p l) = k0_pay8 (F := Ideal) i (ix2 p l) := by
    pointwise []
  rw [e, onehot_at]
  unfold kOut
  rw [if_neg (by omega), show j.val % 64 = l.val by omega]

/-- A store of 64 lanes agrees with a function of the block's rows and lanes. -/
theorem store_piece (o : ℕ) (ho : o + 64 ≤ 1024) (f : S1x256x64.Idx → EReal) (G : Fin 256 → Fin 1024 → EReal)
    (hf : ∀ (p : Fin 256) (l : Fin 64), G p ⟨o + l.val, by omega⟩ = f (ix3 0 p l))
    (inb : ∀ a, ![0, 0, o] a + S1x256x64.size a ≤ S1x256x1024.size a) (z : S1x256x64.Idx) :
    f z = G ((Rect.unit (s := S1x256x1024) ![0, 0, o] S1x256x64.size inb).emb z 1) ((Rect.unit (s := S1x256x1024) ![0, 0, o] S1x256x64.size inb).emb z 2) := by
  have ez : z = ix3 0 (z 1) (z 2) := by
    funext a
    match a with
    | ⟨0, _⟩ => exact Subsingleton.elim (α := Fin 1) _ _
    | ⟨1, _⟩ => rfl
    | ⟨2, _⟩ => rfl
  have e1 : (Rect.unit (s := S1x256x1024) ![0, 0, o] S1x256x64.size inb).emb z 1 = (z 1 : Fin 256) :=
    Fin.ext (by rw [Rect.emb_apply]; show 0 + 1 * (z 1).val = (z 1).val; omega)
  have e2 : (Rect.unit (s := S1x256x1024) ![0, 0, o] S1x256x64.size inb).emb z 2 = (⟨o + (z 2).val, by have : (z 2).val < 64 := (z 2).isLt; omega⟩ : Fin 1024) :=
    Fin.ext (by rw [Rect.emb_apply]; show o + 1 * (z 2).val = o + (z 2).val; omega)
  rw [e1, e2]
  exact (congrArg f ez).trans (hf (z 1) (z 2)).symm

theorem out3_at (i : grid0.Coords) (x0 x1 : Vec Ideal S1x256x512 .bf16) (x2 : Vec Ideal S1x64x512 .f32) (p : Fin 256) (j : Fin 1024) :
    (out0_3 i x0 x1 x2 : S1x256x1024.Idx → EReal) (ix3 0 p j) = qOut i x0 x2 p j := by
  refine (View.canon_apply_of_pieces (fun y : S1x256x1024.Idx => qOut i x0 x2 (y 1) (y 2)) _ ?_ (ix3 0 p j) (cover0_3 _ _ _ _ _ _ _ _ _ _ _ _ _ _ _ _ _)).trans rfl
  intro pc hpc z
  simp only [List.mem_cons, List.not_mem_nil, or_false] at hpc
  rcases hpc with rfl | rfl | rfl | rfl | rfl | rfl | rfl | rfl | rfl | rfl | rfl | rfl | rfl | rfl | rfl | rfl
  · exact store_piece 960 (by omega) (stored i (gates i x0 x1 x2 7)) (qOut i x0 x2) (fun p l => qOut_right i x0 x1 x2 7 p l _ rfl) inb_S1x256x1024_S1x256x64_0_0_960 z
  · exact store_piece 896 (by omega) _ (qOut i x0 x2) (fun p l => (qOut_left i x0 x2 7 p l _ rfl).trans (by symm; pointwise [k0_pay83, k0_pay79, k0_pay86, k0_pay3])) inb_S1x256x1024_S1x256x64_0_0_896 z
  · exact store_piece 832 (by omega) (stored i (gates i x0 x1 x2 6)) (qOut i x0 x2) (fun p l => qOut_right i x0 x1 x2 6 p l _ rfl) inb_S1x256x1024_S1x256x64_0_0_832 z
  · exact store_piece 768 (by omega) _ (qOut i x0 x2) (fun p l => (qOut_left i x0 x2 6 p l _ rfl).trans (by symm; pointwise [k0_pay75, k0_pay67, k0_pay86, k0_pay3])) inb_S1x256x1024_S1x256x64_0_0_768 z
  · exact store_piece 704 (by omega) (stored i (gates i x0 x1 x2 5)) (qOut i x0 x2) (fun p l => qOut_right i x0 x1 x2 5 p l _ rfl) inb_S1x256x1024_S1x256x64_0_0_704 z
  · exact store_piece 640 (by omega) _ (qOut i x0 x2) (fun p l => (qOut_left i x0 x2 5 p l _ rfl).trans (by symm; pointwise [k0_pay63, k0_pay59, k0_pay86, k0_pay3])) inb_S1x256x1024_S1x256x64_0_0_640 z
  · exact store_piece 576 (by omega) (stored i (gates i x0 x1 x2 4)) (qOut i x0 x2) (fun p l => qOut_right i x0 x1 x2 4 p l _ rfl) inb_S1x256x1024_S1x256x64_0_0_576 z
  · exact store_piece 512 (by omega) _ (qOut i x0 x2) (fun p l => (qOut_left i x0 x2 4 p l _ rfl).trans (by symm; pointwise [k0_pay55, k0_pay47, k0_pay86, k0_pay3])) inb_S1x256x1024_S1x256x64_0_0_512 z
  · exact store_piece 448 (by omega) (stored i (gates i x0 x1 x2 3)) (qOut i x0 x2) (fun p l => qOut_right i x0 x1 x2 3 p l _ rfl) inb_S1x256x1024_S1x256x64_0_0_448 z
  · exact store_piece 384 (by omega) _ (qOut i x0 x2) (fun p l => (qOut_left i x0 x2 3 p l _ rfl).trans (by symm; pointwise [k0_pay43, k0_pay37, k0_pay86, k0_pay3])) inb_S1x256x1024_S1x256x64_0_0_384 z
  · exact store_piece 320 (by omega) (stored i (gates i x0 x1 x2 2)) (qOut i x0 x2) (fun p l => qOut_right i x0 x1 x2 2 p l _ rfl) inb_S1x256x1024_S1x256x64_0_0_320 z
  · exact store_piece 256 (by omega) _ (qOut i x0 x2) (fun p l => (qOut_left i x0 x2 2 p l _ rfl).trans (by symm; pointwise [k0_pay32, k0_pay29, k0_pay86, k0_pay3])) inb_S1x256x1024_S1x256x64_0_0_256 z
  · exact store_piece 192 (by omega) (stored i (gates i x0 x1 x2 1)) (qOut i x0 x2) (fun p l => qOut_right i x0 x1 x2 1 p l _ rfl) inb_S1x256x1024_S1x256x64_0_0_192 z
  · exact store_piece 128 (by omega) _ (qOut i x0 x2) (fun p l => (qOut_left i x0 x2 1 p l _ rfl).trans (by symm; pointwise [k0_pay25, k0_pay19, k0_pay86, k0_pay3])) inb_S1x256x1024_S1x256x64_0_0_128 z
  · exact store_piece 64 (by omega) (stored i (gates i x0 x1 x2 0)) (qOut i x0 x2) (fun p l => qOut_right i x0 x1 x2 0 p l _ rfl) inb_S1x256x1024_S1x256x64_0_0_64 z
  · exact store_piece 0 (by omega) _ (qOut i x0 x2) (fun p l => (qOut_left i x0 x2 0 p l _ rfl).trans (by symm; pointwise [k0_pay14, k0_pay9, k0_pay3])) inb_S1x256x1024_S1x256x64_0_0_0 z

theorem out4_at (i : grid0.Coords) (x0 x1 : Vec Ideal S1x256x512 .bf16) (x2 : Vec Ideal S1x64x512 .f32) (p : Fin 256) (j : Fin 1024) :
    (out0_4 i x0 x1 x2 : S1x256x1024.Idx → EReal) (ix3 0 p j) = kOut i x1 p j := by
  refine (View.canon_apply_of_pieces (fun y : S1x256x1024.Idx => kOut i x1 (y 1) (y 2)) _ ?_ (ix3 0 p j) (cover0_4 _ _ _ _ _ _ _ _ _ _ _ _ _ _ _ _ _)).trans rfl
  intro pc hpc z
  simp only [List.mem_cons, List.not_mem_nil, or_false] at hpc
  rcases hpc with rfl | rfl | rfl | rfl | rfl | rfl | rfl | rfl | rfl | rfl | rfl | rfl | rfl | rfl | rfl | rfl
  · exact store_piece 960 (by omega) (shapeCast S1x256x64 (k0_pay8 (F := Ideal) i) shapeCasts_S256x64_S1x256x64) (kOut i x1) (fun p l => kOut_right i x1 7 p l _ rfl) inb_S1x256x1024_S1x256x64_0_0_960 z
  · exact store_piece 896 (by omega) _ (kOut i x1) (fun p l => (kOut_left i x1 7 p l _ rfl).trans (by symm; pointwise [k0_pay1, k0_pay87, k0_pay4])) inb_S1x256x1024_S1x256x64_0_0_896 z
  · exact store_piece 832 (by omega) (shapeCast S1x256x64 (k0_pay8 (F := Ideal) i) shapeCasts_S256x64_S1x256x64) (kOut i x1) (fun p l => kOut_right i x1 6 p l _ rfl) inb_S1x256x1024_S1x256x64_0_0_832 z
  · exact store_piece 768 (by omega) _ (kOut i x1) (fun p l => (kOut_left i x1 6 p l _ rfl).trans (by symm; pointwise [k0_pay77, k0_pay87, k0_pay4])) inb_S1x256x1024_S1x256x64_0_0_768 z
  · exact store_piece 704 (by omega) (shapeCast S1x256x64 (k0_pay8 (F := Ideal) i) shapeCasts_S256x64_S1x256x64) (kOut i x1) (fun p l => kOut_right i x1 5 p l _ rfl) inb_S1x256x1024_S1x256x64_0_0_704 z
  · exact store_piece 640 (by omega) _ (kOut i x1) (fun p l => (kOut_left i x1 5 p l _ rfl).trans (by symm; pointwise [k0_pay65, k0_pay87, k0_pay4])) inb_S1x256x1024_S1x256x64_0_0_640 z
  · exact store_piece 576 (by omega) (shapeCast S1x256x64 (k0_pay8 (F := Ideal) i) shapeCasts_S256x64_S1x256x64) (kOut i x1) (fun p l => kOut_right i x1 4 p l _ rfl) inb_S1x256x1024_S1x256x64_0_0_576 z
  · exact store_piece 512 (by omega) _ (kOut i x1) (fun p l => (kOut_left i x1 4 p l _ rfl).trans (by symm; pointwise [k0_pay57, k0_pay87, k0_pay4])) inb_S1x256x1024_S1x256x64_0_0_512 z
  · exact store_piece 448 (by omega) (shapeCast S1x256x64 (k0_pay8 (F := Ideal) i) shapeCasts_S256x64_S1x256x64) (kOut i x1) (fun p l => kOut_right i x1 3 p l _ rfl) inb_S1x256x1024_S1x256x64_0_0_448 z
  · exact store_piece 384 (by omega) _ (kOut i x1) (fun p l => (kOut_left i x1 3 p l _ rfl).trans (by symm; pointwise [k0_pay45, k0_pay87, k0_pay4])) inb_S1x256x1024_S1x256x64_0_0_384 z
  · exact store_piece 320 (by omega) (shapeCast S1x256x64 (k0_pay8 (F := Ideal) i) shapeCasts_S256x64_S1x256x64) (kOut i x1) (fun p l => kOut_right i x1 2 p l _ rfl) inb_S1x256x1024_S1x256x64_0_0_320 z
  · exact store_piece 256 (by omega) _ (kOut i x1) (fun p l => (kOut_left i x1 2 p l _ rfl).trans (by symm; pointwise [k0_pay35, k0_pay87, k0_pay4])) inb_S1x256x1024_S1x256x64_0_0_256 z
  · exact store_piece 192 (by omega) (shapeCast S1x256x64 (k0_pay8 (F := Ideal) i) shapeCasts_S256x64_S1x256x64) (kOut i x1) (fun p l => kOut_right i x1 1 p l _ rfl) inb_S1x256x1024_S1x256x64_0_0_192 z
  · exact store_piece 128 (by omega) _ (kOut i x1) (fun p l => (kOut_left i x1 1 p l _ rfl).trans (by symm; pointwise [k0_pay27, k0_pay87, k0_pay4])) inb_S1x256x1024_S1x256x64_0_0_128 z
  · exact store_piece 64 (by omega) (shapeCast S1x256x64 (k0_pay8 (F := Ideal) i) shapeCasts_S256x64_S1x256x64) (kOut i x1) (fun p l => kOut_right i x1 0 p l _ rfl) inb_S1x256x1024_S1x256x64_0_0_64 z
  · exact store_piece 0 (by omega) _ (kOut i x1) (fun p l => (kOut_left i x1 0 p l _ rfl).trans (by symm; pointwise [k0_pay17, k0_pay16, k0_pay87, k0_pay4])) inb_S1x256x1024_S1x256x64_0_0_0 z

end Cert.Moba
end
-- ==== Proof.MobaBlocks.lean ====
/-
  The choice of blocks: the arrays that the kernel stages, and its two result arrays, entry by entry of the arguments.
-/
module

public import proofs.«01_k».proof.Proof.MobaKernel

@[expose] public section

set_option maxRecDepth 16384

noncomputable section

namespace Cert.Moba

open Idealize.ShloMosaic Idealize.ShloMosaic.TcCoe Idealize.SL.Sem
open Idealize.ShloMosaic.Pipeline (Dat)
open Cert.Kernel5Ideal Cert.Kernel5Ideal.Gen

/-- The first result at a query's lane. -/
def qRes (q : S2x16384x512.Idx → EReal) (km : S2x64x512.Idx → EReal) (b : Fin 2) (s : Fin 16384) (j : Fin 1024) : EReal :=
  if j.val % 128 < 64 then q (ix3 b s ⟨64 * (j.val / 128) + j.val % 64, by omega⟩)
  else mask (s.val / 256) (gateRow (s.val / 256) (fun d => q (ix3 b s ⟨64 * (j.val / 128) + d.val, by omega⟩))
    (fun n d => km (ix3 b n ⟨64 * (j.val / 128) + d.val, by omega⟩))) ⟨j.val % 64, by omega⟩

/-- The second result at a key's lane. -/
def kRes (k : S2x16384x512.Idx → EReal) (b : Fin 2) (s : Fin 16384) (j : Fin 1024) : EReal :=
  if j.val % 128 < 64 then k (ix3 b s ⟨64 * (j.val / 128) + j.val % 64, by omega⟩)
  else if j.val % 64 = s.val / 256 then 1 else 0

variable (m : (ℓ : Loc nD τ sig) → Buf (Elt Ideal) ℓ) (c : Dev nD)

theorem V_arg0 (i : S2x16384x512.Idx) : (V m c main_arg0 : S2x16384x512.Idx → EReal) i = (m ((c : Thread nD τ).loc main_arg0) : S2x16384x512.Idx → EReal) i := by
  unfold V
  after_reads_at

theorem V_arg1 (i : S2x16384x512.Idx) : (V m c main_arg1 : S2x16384x512.Idx → EReal) i = (m ((c : Thread nD τ).loc main_arg1) : S2x16384x512.Idx → EReal) i := by
  unfold V
  after_reads_at

theorem V_v0 (b : Fin 2) (n : Fin 64) (j : Fin 512) : (V m c main_v0 : S2x64x512.Idx → EReal) (ix3 b n j)
    = (m ((c : Thread nD τ).loc main_arg2) : S2x64x512.Idx → EReal) (ix3 b n j) := by
  unfold V
  after_reads_at

theorem blk0 (t : Fin grid0.N) (p : Fin 256) (j : Fin 512) (h : t.val < 128) :
    (iblk m c 0 t : S1x256x512.Idx → EReal) (ix3 0 p j)
      = (m ((c : Thread nD τ).loc main_arg0) : S2x16384x512.Idx → EReal)
          (ix3 ⟨t.val / 64, by omega⟩ ⟨t.val % 64 * 256 + p.val, by omega⟩ j) := by
  have e := (by decide +kernel : ∀ t : Fin grid0.N, win0_0.index t = ![t.val / 64, t.val % 64, 0]) t
  rw [← V_arg0 m c]
  blk_ext [iblk, e]

theorem blk1 (t : Fin grid0.N) (p : Fin 256) (j : Fin 512) (h : t.val < 128) :
    (iblk m c 1 t : S1x256x512.Idx → EReal) (ix3 0 p j)
      = (m ((c : Thread nD τ).loc main_arg1) : S2x16384x512.Idx → EReal)
          (ix3 ⟨t.val / 64, by omega⟩ ⟨t.val % 64 * 256 + p.val, by omega⟩ j) := by
  have e := (by decide +kernel : ∀ t : Fin grid0.N, win0_1.index t = ![t.val / 64, t.val % 64, 0]) t
  rw [← V_arg1 m c]
  blk_ext [iblk, e]

theorem blk2 (t : Fin grid0.N) (n : Fin 64) (j : Fin 512) (h : t.val < 128) :
    (iblk m c 2 t : S1x64x512.Idx → EReal) (ix3 0 n j)
      = (m ((c : Thread nD τ).loc main_arg2) : S2x64x512.Idx → EReal) (ix3 ⟨t.val / 64, by omega⟩ n j) := by
  have e := (by decide +kernel : ∀ t : Fin grid0.N, win0_2.index t = ![t.val / 64, 0, 0]) t
  rw [← V_v0 m c]
  blk_ext [iblk, e]

theorem coord (t : Fin grid0.N) : (grid0.coords t 1).val = t.val % 64 :=
  (by decide +kernel : ∀ t : Fin grid0.N, (grid0.coords t 1).val = t.val % 64) t

theorem tile_q (t : Fin grid0.N) (p : Fin 256) (j : Fin 1024) (h : t.val < 128) :
    qOut (grid0.coords t) (iblk m c 0 t) (iblk m c 2 t) p j
      = qRes (m ((c : Thread nD τ).loc main_arg0)) (m ((c : Thread nD τ).loc main_arg2)) ⟨t.val / 64, by omega⟩ ⟨t.val % 64 * 256 + p.val, by omega⟩ j := by
  have q0 := fun j => blk0 m c t p j h
  have q2 := fun n j => blk2 m c t n j h
  have es : (t.val % 64 * 256 + p.val) / 256 = t.val % 64 := by omega
  unfold qOut qRes headGate
  simp only [q0, q2, coord, es]

theorem tile_k (t : Fin grid0.N) (p : Fin 256) (j : Fin 1024) (h : t.val < 128) :
    kOut (grid0.coords t) (iblk m c 1 t) p j
      = kRes (m ((c : Thread nD τ).loc main_arg1)) ⟨t.val / 64, by omega⟩ ⟨t.val % 64 * 256 + p.val, by omega⟩ j := by
  have q1 := fun j => blk1 m c t p j h
  have es : (t.val % 64 * 256 + p.val) / 256 = t.val % 64 := by omega
  unfold kOut kRes
  simp only [q1, coord, es]

theorem arr3 : ((dats m 0 c).arrAt 3 cfg0.N : S2x16384x1024.Idx → EReal)
    = fun i => qRes (m ((c : Thread nD τ).loc main_arg0)) (m ((c : Thread nD τ).loc main_arg2)) (i 0) (i 1) (i 2) := by
  refine (dats m 0 c).arrAt_eq_of_covers 3 _ (by decide +kernel) fun t hf y => ?_
  have e := (by decide +kernel : ∀ t : Fin grid0.N, win0_3.index t = ![t.val / 64, t.val % 64, 0]) t
  have ht : t.val < 128 := N_0 ▸ t.isLt
  have lb : t.val / 64 < 2 := by omega
  have ls : ∀ p : Fin 256, t.val % 64 * 256 + p.val < 16384 := fun p => by omega
  blk_simp
  rw [after0_3]
  idx_vars y
  obtain rfl : y0 = 0 := Subsingleton.elim _ _
  have hb : (((View.whole main_v1_0).slice (win0_3.rect t)).emb (ix3 0 y1 y2) 0 : Fin 2) = ⟨t.val / 64, lb⟩ := by
    apply Fin.ext
    blk_simp [e]
    rfl
  have hs : (((View.whole main_v1_0).slice (win0_3.rect t)).emb (ix3 0 y1 y2) 1 : Fin 16384) = ⟨t.val % 64 * 256 + y1.val, ls y1⟩ := by
    apply Fin.ext
    blk_simp [e]
  have hj : (((View.whole main_v1_0).slice (win0_3.rect t)).emb (ix3 0 y1 y2) 2 : Fin 1024) = y2 := by
    apply Fin.ext
    blk_simp [e]
  refine Eq.trans ?_ (congr (congrArg₂ (qRes (m ((c : Thread nD τ).loc main_arg0)) (m ((c : Thread nD τ).loc main_arg2))) hb.symm hs.symm) hj.symm)
  exact (out3_at _ _ _ _ y1 y2).trans (tile_q m c t y1 y2 ht)

theorem arr4 : ((dats m 0 c).arrAt 4 cfg0.N : S2x16384x1024.Idx → EReal)
    = fun i => kRes (m ((c : Thread nD τ).loc main_arg1)) (i 0) (i 1) (i 2) := by
  refine (dats m 0 c).arrAt_eq_of_covers 4 _ (by decide +kernel) fun t hf y => ?_
  have e := (by decide +kernel : ∀ t : Fin grid0.N, win0_4.index t = ![t.val / 64, t.val % 64, 0]) t
  have ht : t.val < 128 := N_0 ▸ t.isLt
  have lb : t.val / 64 < 2 := by omega
  have ls : ∀ p : Fin 256, t.val % 64 * 256 + p.val < 16384 := fun p => by omega
  blk_simp
  rw [after0_4]
  idx_vars y
  obtain rfl : y0 = 0 := Subsingleton.elim _ _
  have hb : (((View.whole main_v1_1).slice (win0_4.rect t)).emb (ix3 0 y1 y2) 0 : Fin 2) = ⟨t.val / 64, lb⟩ := by
    apply Fin.ext
    blk_simp [e]
    rfl
  have hs : (((View.whole main_v1_1).slice (win0_4.rect t)).emb (ix3 0 y1 y2) 1 : Fin 16384) = ⟨t.val % 64 * 256 + y1.val, ls y1⟩ := by
    apply Fin.ext
    blk_simp [e]
  have hj : (((View.whole main_v1_1).slice (win0_4.rect t)).emb (ix3 0 y1 y2) 2 : Fin 1024) = y2 := by
    apply Fin.ext
    blk_simp [e]
  refine Eq.trans ?_ (congr (congrArg₂ (kRes (m ((c : Thread nD τ).loc main_arg1))) hb.symm hs.symm) hj.symm)
  exact (out4_at _ _ _ _ y1 y2).trans (tile_k m c t y1 y2 ht)

end Cert.Moba
end
-- ==== Proof.MobaRef.lean ====
/-
  The choice of blocks: the reference's two results, entry by entry of the arguments.
-/
module

public import proofs.«01_k».proof.Proof.MobaBlocks
public import proofs.«01_k».proof.Proof.Gen.Reference5Ideal.Run

@[expose] public section

set_option maxRecDepth 16384

noncomputable section

namespace Cert.Moba

open Idealize.ShloMosaic Idealize.ShloMosaic.TcCoe Idealize.SL.Sem
open Cert.Reference5Ideal Cert.Reference5Ideal.Gen Cert.Reference5Ideal.Value

/-- A query's own block. -/
def rCur : IVec S1x16384x1x1 32 :=
  broadcastInDim S1x16384x1x1 ![1] bcast_S16384_S1x16384x1x1_1
    (Host.divsi (iotaInDim S16384 32 0) (broadcastInDim S16384 ![] bcast_S_S16384 (constantI S_ 32 256#32)))

/-- The block numbers along the last axis. -/
def rIds : IVec S1x1x1x64 32 := broadcastInDim S1x1x1x64 ![3] bcast_S64_S1x1x1x64_3 (iotaInDim S64 32 0)

/-- The masked gates. -/
def rGate (q : FVec Ideal S2x16384x512 .bf16) (km : FVec Ideal S2x64x512 .f32) : FVec Ideal S2x16384x8x64 .f32 :=
  select (broadcastInDim S2x16384x8x64 ![0, 1, 2, 3] bcast_S1x16384x1x64_S2x16384x8x64_0_1_2_3
      (cmpi .slt (broadcastInDim S1x16384x1x64 ![0, 1, 2, 3] bcast_S1x1x1x64_S1x16384x1x64_0_1_2_3 rIds)
        (broadcastInDim S1x16384x1x64 ![0, 1, 2, 3] bcast_S1x16384x1x1_S1x16384x1x64_0_1_2_3 rCur)))
    (transpose S2x16384x8x64 [0, 3, 1, 2] (Host.dotGeneral dot_S2x64x8x64_S2x16384x8x64_S2x8x64x16384_3_3_1_1_02_02 none
      (shapeCast _ km shapeCasts_S2x64x512_S2x64x8x64)
      (Host.divf (shapeCast _ (extf .f32 q bitsLt_bf16_f32) shapeCasts_S2x16384x512_S2x16384x8x64)
        (broadcastInDim S2x16384x8x64 ![] bcast_S_S2x16384x8x64 (constant S_ .f32 0x3E000000#32)))) transposes_S2x8x64x16384_S2x16384x8x64_0_3_1_2)
    (broadcastInDim S2x16384x8x64 ![] bcast_S_S2x16384x8x64 (id (constant S_ .f32 0xF149F2CA#32)))

/-- The three blocks of the greatest gates. -/
def rTop (g : FVec Ideal S2x16384x8x64 .f32) : IVec S2x16384x8x3 32 :=
  (Host.topK S2x16384x8x3 3 (FloatOps.cmpfTotal .gt) g sliceFits_S2x16384x8x64_S2x16384x8x3).2

/-- Whether a lane is a given one of the three blocks and comes before the query's own. -/
def rHit (o : Fin 4 → ℕ) (h : S2x16384x8x3.Slices o S2x16384x8x1) (T : IVec S2x16384x8x3 32) : IVec S2x16384x8x64 1 :=
  andi (cmpi .eq (broadcastInDim S2x16384x8x64 ![0, 1, 2, 3] bcast_S2x16384x8x1_S2x16384x8x64_0_1_2_3 (extractStridedSlice S2x16384x8x1 o T h))
      (broadcastInDim S2x16384x8x64 ![0, 1, 2, 3] bcast_S1x1x1x64_S2x16384x8x64_0_1_2_3 rIds))
    (broadcastInDim S2x16384x8x64 ![0, 1, 2, 3] bcast_S2x16384x8x1_S2x16384x8x64_0_1_2_3
      (cmpi .slt (extractStridedSlice S2x16384x8x1 o T h) (broadcastInDim S2x16384x8x1 ![0, 1, 2, 3] bcast_S1x16384x1x1_S2x16384x8x1_0_1_2_3 rCur)))

/-- Whether a lane is the query's own block. -/
def rOwn : IVec S1x16384x1x64 1 :=
  cmpi .eq (broadcastInDim S1x16384x1x64 ![0, 1, 2, 3] bcast_S1x1x1x64_S1x16384x1x64_0_1_2_3 rIds)
    (broadcastInDim S1x16384x1x64 ![0, 1, 2, 3] bcast_S1x16384x1x1_S1x16384x1x64_0_1_2_3 rCur)

/-- Whether a lane is chosen. -/
def rChosen (T : IVec S2x16384x8x3 32) : IVec S2x16384x8x64 1 :=
  ori (ori (ori (broadcastInDim S2x16384x8x64 ![0, 1, 2, 3] bcast_S1x16384x1x64_S2x16384x8x64_0_1_2_3 rOwn)
    (rHit ![0, 0, 0, 0] slices_S2x16384x8x3_S2x16384x8x1_0_0_0_0 T)) (rHit ![0, 0, 0, 1] slices_S2x16384x8x3_S2x16384x8x1_0_0_0_1 T))
    (rHit ![0, 0, 0, 2] slices_S2x16384x8x3_S2x16384x8x1_0_0_0_2 T)

/-- The masks. -/
def rMask (T : IVec S2x16384x8x3 32) : FVec Ideal S2x16384x8x64 .f32 :=
  select (rChosen T) (broadcastInDim S2x16384x8x64 ![] bcast_S_S2x16384x8x64 (constant S_ .f32 0x00000000#32))
    (broadcastInDim S2x16384x8x64 ![] bcast_S_S2x16384x8x64 (constant S_ .f32 0xF149F2CA#32))

/-- The marks of the own block. -/
def rMark : FVec Ideal S2x16384x8x64 .f32 :=
  broadcastInDim S2x16384x8x64 ![0, 1, 2, 3] bcast_S1x16384x1x64_S2x16384x8x64_0_1_2_3
    (select rOwn (broadcastInDim S1x16384x1x64 ![] bcast_S_S1x16384x1x64 (constant S_ .f32 0x3F800000#32))
      (broadcastInDim S1x16384x1x64 ![] bcast_S_S1x16384x1x64 (constant S_ .f32 0x00000000#32)))

/-- Heads of 64 lanes and 64 further lanes each, side by side. -/
def rJoin (x : FVec Ideal S2x16384x512 .bf16) (e : FVec Ideal S2x16384x8x64 .f32) : FVec Ideal S2x16384x1024 .bf16 :=
  truncf .bf16 (shapeCast _ (concatenate S2x16384x8x128 3
    [⟨S2x16384x8x64, (shapeCast _ (extf .f32 x bitsLt_bf16_f32) shapeCasts_S2x16384x512_S2x16384x8x64)⟩, ⟨S2x16384x8x64, (id e)⟩]
    concatenates_S2x16384x8x64_S2x16384x8x64_S2x16384x8x128_d3) shapeCasts_S2x16384x8x128_S2x16384x1024) bitsLt_bf16_f32

variable (m : (ℓ : Loc nD τ sig) → Buf (Elt Ideal) ℓ) (c : Dev nD)

theorem res_stages : res_main_v63 m c = rJoin (m ((c.tc : Thread nD τ).loc main_arg0))
    (rMask (rTop (rGate (m ((c.tc : Thread nD τ).loc main_arg0)) (m ((c.tc : Thread nD τ).loc main_arg2))))) := rfl

theorem cur_at (s : Fin 16384) : rCur (ix4 0 s 0 0) = BitVec.ofNat 32 (s.val / 256) := by
  pointwise [rCur]
  have hs : (BitVec.ofNat 32 s.val).toNat = s.val := by rw [BitVec.toNat_ofNat]; omega
  have hm : (BitVec.ofNat 32 s.val).msb = false := by rw [BitVec.msb_eq_false_iff_two_mul_lt, hs]; omega
  have hc : ¬ IntOp.SDivCorner (BitVec.ofNat 32 s.val) 256#32 := by
    unfold IntOp.SDivCorner
    simp
  unfold IntOp.divsi
  rw [if_neg hc, BitVec.sdiv_eq, hm, show (256#32 : BitVec 32).msb = false by decide]
  apply BitVec.eq_of_toNat_eq
  show (BitVec.udiv _ _).toNat = _
  rw [BitVec.udiv_eq, BitVec.toNat_udiv, hs, BitVec.toNat_ofNat, BitVec.toNat_ofNat, show 256 % 2 ^ 32 = 256 from rfl]
  omega

/-- The own block's number as a lane. -/
def own (s : Fin 16384) : Fin 64 := ⟨s.val / 256, by omega⟩

/-- The two operands side by side along the last axis. -/
theorem cat_at (x e : FVec Ideal S2x16384x8x64 .f32) (b : Fin 2) (s : Fin 16384) (h : Fin 8) (l : Fin 128) :
    concatenate S2x16384x8x128 3 [⟨S2x16384x8x64, x⟩, ⟨S2x16384x8x64, e⟩] concatenates_S2x16384x8x64_S2x16384x8x64_S2x16384x8x128_d3 (ix4 b s h l)
      = if hl : l.val < 64 then x (ix4 b s h ⟨l.val, hl⟩) else e (ix4 b s h ⟨l.val - 64, by omega⟩) := by
  pointwise

theorem flat_at (y : FVec Ideal S2x16384x8x128 .f32) (b : Fin 2) (s : Fin 16384) (j : Fin 1024) :
    shapeCast S2x16384x1024 y shapeCasts_S2x16384x8x128_S2x16384x1024 (ix3 b s j) = y (ix4 b s ⟨j.val / 128, by omega⟩ ⟨j.val % 128, by omega⟩) := by
  pointwise

theorem heads_at (x : FVec Ideal S2x16384x512 .bf16) (b : Fin 2) (s : Fin 16384) (h : Fin 8) (l : Fin 64) :
    shapeCast S2x16384x8x64 (extf .f32 x bitsLt_bf16_f32) shapeCasts_S2x16384x512_S2x16384x8x64 (ix4 b s h l)
      = x (ix3 b s ⟨h.val * 64 + l.val, by omega⟩) := by
  pointwise

theorem trunc_at (y : FVec Ideal S2x16384x1024 .f32) (i : S2x16384x1024.Idx) : truncf .bf16 y bitsLt_bf16_f32 i = y i := rfl

theorem join_at (x : FVec Ideal S2x16384x512 .bf16) (e : FVec Ideal S2x16384x8x64 .f32) (b : Fin 2) (s : Fin 16384) (j : Fin 1024) :
    rJoin x e (ix3 b s j) = if j.val % 128 < 64 then x (ix3 b s ⟨64 * (j.val / 128) + j.val % 64, by omega⟩)
      else e (ix4 b s ⟨j.val / 128, by omega⟩ ⟨j.val % 64, by omega⟩) := by
  unfold rJoin
  rw [trunc_at, flat_at, cat_at, id_eq]
  by_cases hj : j.val % 128 < 64
  · rw [dif_pos hj, if_pos hj, heads_at]
    have ea : (⟨j.val / 128 * 64 + j.val % 128, by omega⟩ : Fin 512) = ⟨64 * (j.val / 128) + j.val % 64, by omega⟩ := Fin.ext (by simp only; omega)
    rw [ea]
  · rw [dif_neg hj, if_neg hj]
    have ea : (⟨j.val % 128 - 64, by omega⟩ : Fin 64) = ⟨j.val % 64, by omega⟩ := Fin.ext (by simp only; omega)
    rw [ea]

theorem mark_at (b : Fin 2) (s : Fin 16384) (h : Fin 8) (n : Fin 64) : rMark (ix4 b s h n) = if n.val = s.val / 256 then (1 : EReal) else 0 := by
  pointwise [rMark, rOwn, rIds, cur_at]
  exact (congrArg (fun b => Scalar.select b (1 : EReal) 0) (eq_lane n (own s))).trans (select_ite _ _ _)

theorem gate_at (q : FVec Ideal S2x16384x512 .bf16) (km : FVec Ideal S2x64x512 .f32) (b : Fin 2) (s : Fin 16384) (h : Fin 8) (n : Fin 64) :
    rGate q km (ix4 b s h n) = if n.val < s.val / 256 then ∑ d : Fin 64, km (ix3 b n ⟨h.val * 64 + d.val, by omega⟩)
      * Ideal.div (q (ix3 b s ⟨h.val * 64 + d.val, by omega⟩)) (Ideal.ofBits .f32 1040187392#32) else neg := by
  pointwise [rGate, rIds, cur_at]
  exact (congrArg (fun b => Scalar.select b _ neg) (slt_lane n (own s))).trans (select_ite _ _ _)

theorem or_ite (P Q : Prop) [Decidable P] [Decidable Q] :
    IntOp.ori (if P then 1#1 else 0#1) (if Q then 1#1 else 0#1) = if P ∨ Q then 1#1 else 0#1 := by
  by_cases P <;> by_cases Q <;> simp_all <;> rfl

theorem and_ite (P Q : Prop) [Decidable P] [Decidable Q] :
    IntOp.andi (if P then 1#1 else 0#1) (if Q then 1#1 else 0#1) = if P ∧ Q then 1#1 else 0#1 := by
  by_cases P <;> by_cases Q <;> simp_all <;> rfl

theorem mask_at (T : IVec S2x16384x8x3 32) (b : Fin 2) (s : Fin 16384) (h : Fin 8) (n : Fin 64) (p : Fin 3 → Fin 64)
    (hT : ∀ r, T (ix4 b s h r) = BitVec.ofNat 32 (p r).val) :
    rMask T (ix4 b s h n) = if n.val = s.val / 256 ∨ ((n = p 0 ∨ n = p 1 ∨ n = p 2) ∧ n.val < s.val / 256) then (0 : EReal) else neg := by
  pointwise [rMask, rChosen, rHit, rOwn, rIds, cur_at]
  rw [hT 0, hT 1, hT 2, show s.val / 256 = (own s).val from rfl, eq_lane, eq_lane, eq_lane, eq_lane, slt_lane, slt_lane, slt_lane,
    and_ite, and_ite, and_ite, or_ite, or_ite, or_ite, select_ite]
  refine if_congr ?_ rfl rfl
  simp only [Fin.ext_iff]
  omega

theorem top_at (g : FVec Ideal S2x16384x8x64 .f32) (b : Fin 2) (s : Fin 16384) (h : Fin 8) (hg : ∀ n, g (ix4 b s h n) ≠ (⊥ : EReal)) (r : Fin 3) :
    rTop g (ix4 b s h r) = BitVec.ofNat 32 (![pick (fun n => g (ix4 b s h n)), pick (next (fun n => g (ix4 b s h n))),
      pick (next (next (fun n => g (ix4 b s h n))))] r).val := by
  rw [← sorted_picks _ hg r]
  have ea : ∀ (l k : Fin 64), Shape.Idx.along (s := S2x16384x8x64) (ix4 b s h l) 3 k = ix4 b s h k := by
    intro l k
    funext a
    match a with
    | ⟨0, _⟩ => rfl
    | ⟨1, _⟩ => rfl
    | ⟨2, _⟩ => rfl
    | ⟨3, _⟩ => rfl
  pointwise [rTop, Host.topK, Host.sort2]
  refine congrArg (fun a : Fin 64 => BitVec.ofNat 32 a.val) ?_
  refine (Function.update_self (β := fun a => Fin (S2x16384x8x64.size a)) (3 : Fin 4) _ (ix4 b s h (⟨r.val, by omega⟩ : Fin 64))).trans ?_
  refine congrFun (congrArg sortedFrom ?_) (⟨r.val, by omega⟩ : Fin 64)
  funext k k'
  rw [ea, ea]
  show (BitVec.ofBool (decide (g (ix4 b s h k') < g (ix4 b s h k))) == 1#1) = _
  cases decide (g (ix4 b s h k') < g (ix4 b s h k)) <;> rfl

end Cert.Moba
end
-- ==== Proof.MobaTie.lean ====
/-
  The choice of blocks: the call's two results are the reference's when queries and block means are finite.
  Finite operands make the two ways of scaling a gate equal and keep every gate above -∞, which the picks need.
-/
module

public import proofs.«01_k».proof.Pre_finite_queries
public import proofs.«01_k».proof.Proof.MobaBlocks
public import proofs.«01_k».proof.Proof.MobaRef
public import Idealize.ShloMosaic.Lib.ReduceAll

@[expose] public section

set_option maxRecDepth 16384

noncomputable section

namespace Cert.Pre_finite_queries

open Idealize.ShloMosaic

theorem facts : Facts where
  bitsLt_bf16_f32 := by decide
  bcast_S_S2x16384x512 := by decide
  reducesTo_S2x16384x512_S_d0_1_2 := by decide
  h_S_ := by decide
  bcast_S_S2x64x512 := by decide
  reducesTo_S2x64x512_S_d0_1_2 := by decide

end Cert.Pre_finite_queries

namespace Cert.Moba

open Idealize.ShloMosaic Idealize.ShloMosaic.TcCoe Idealize.SL.Sem

/-- A finite extended real. -/
def IsReal (x : EReal) : Prop := ∃ r : ℝ, x = (r : EReal)

theorem inf : Ideal.ofBits .f32 0x7F800000#32 = (⊤ : EReal) := by simp [Ideal.ofBits, Ideal.ieee]

theorem finite_of_lt (x : EReal) (h : Ideal.cmp .olt (max x (-x)) (Ideal.ofBits .f32 0x7F800000#32) = 1#1) : IsReal x := by
  rw [inf] at h
  have h' : max x (-x) < ⊤ := by
    by_contra hn
    simp [Ideal.cmp, hn] at h
  have h1 : x ≠ ⊤ := fun e => by simp [e] at h'
  have h2 : x ≠ ⊥ := fun e => by simp [e] at h'
  exact ⟨x.toReal, (EReal.coe_toReal h1 h2).symm⟩

theorem finite_of_pre [Cert.Pre_finite_queries.Facts] (q k : FVec Ideal Cert.Pre_finite_queries.S2x16384x512 .bf16)
    (km : FVec Ideal Cert.Pre_finite_queries.S2x64x512 .f32) (h : Cert.Pre_finite_queries.fn (F := Ideal) q k km = fun _ => 1#1) :
    (∀ i, IsReal (q i)) ∧ ∀ i, IsReal (km i) := by
  have hs : Subsingleton Cert.Pre_finite_queries.S_.Idx := ⟨fun a b => funext fun i => i.elim0⟩
  have h0 := congrFun h (fun i => i.elim0)
  unfold Cert.Pre_finite_queries.fn at h0
  obtain ⟨ha, hb⟩ := (by decide : ∀ a b : BitVec 1, IntOp.andi a b = 1#1 → a = 1#1 ∧ b = 1#1) _ _ h0
  exact ⟨fun i => finite_of_lt _ (Host.reduce_andi_all _ _ _ _ _ ha i), fun i => finite_of_lt _ (Host.reduce_andi_all _ _ _ _ _ hb i)⟩

theorem eighth : Ideal.ofBits .f32 1040187392#32 = ((1 / 8 : ℝ) : EReal) := by
  simp [Ideal.ofBits, Ideal.ieee, -EReal.coe_mul]
  norm_num

theorem eight : Ideal.ofBits .f32 1090519040#32 = ((8 : ℝ) : EReal) := by
  simp [Ideal.ofBits, Ideal.ieee, -EReal.coe_mul]
  norm_num

theorem neg_ne : neg ≠ (⊥ : EReal) := by
  simp [neg, Ideal.ofBits, Ideal.ieee, -EReal.coe_mul]

theorem sum_coe (f : Fin 64 → ℝ) : ∑ d, ((f d : ℝ) : EReal) = ((∑ d, f d : ℝ) : EReal) := by
  induction (Finset.univ : Finset (Fin 64)) using Finset.induction_on with
  | empty => simp
  | insert a s ha ih => rw [Finset.sum_insert ha, Finset.sum_insert ha, ih, EReal.coe_add]

/-- The two ways of scaling a gate: each query by 1/8, or the whole sum by 8. -/
theorem gate_eq (q km : Fin 64 → EReal) (hq : ∀ d, IsReal (q d)) (hk : ∀ d, IsReal (km d)) :
    (∑ d, km d * Ideal.div (q d) (Ideal.ofBits .f32 1040187392#32) = (∑ d, q d * km d) * Ideal.ofBits .f32 1090519040#32)
      ∧ (∑ d, q d * km d) * Ideal.ofBits .f32 1090519040#32 ≠ ⊥ := by
  choose a ha using hq
  choose b hb using hk
  obtain rfl : q = fun d => (a d : EReal) := funext ha
  obtain rfl : km = fun d => (b d : EReal) := funext hb
  have hd : ∀ x : ℝ, Ideal.div (x : EReal) ((1 / 8 : ℝ) : EReal) = ((x * 8 : ℝ) : EReal) := fun x => by
    rw [Ideal.div, if_neg (by norm_num [EReal.coe_eq_zero]), ← EReal.coe_inv, ← EReal.coe_mul]
    norm_num
  rw [eighth, eight]
  simp only [hd, ← EReal.coe_mul, sum_coe]
  refine ⟨congrArg _ ?_, EReal.coe_ne_bot _⟩
  rw [Finset.sum_mul]
  exact Finset.sum_congr rfl fun d _ => by ring

section Tie
open Cert.Kernel5Ideal

theorem ref_masks (q : S2x16384x512.Idx → EReal) (km : S2x64x512.Idx → EReal) (hq : ∀ i, IsReal (q i)) (hk : ∀ i, IsReal (km i))
    (b : Fin 2) (s : Fin 16384) (h : Fin 8) (n : Fin 64) :
    rMask (rTop (rGate q km)) (ix4 b s h n) = mask (s.val / 256) (gateRow (s.val / 256) (fun d => q (ix3 b s ⟨64 * h.val + d.val, by omega⟩))
      (fun n d => km (ix3 b n ⟨64 * h.val + d.val, by omega⟩))) n := by
  have hg : (fun n => rGate q km (ix4 b s h n)) = gateRow (s.val / 256) (fun d => q (ix3 b s ⟨64 * h.val + d.val, by omega⟩))
      (fun n d => km (ix3 b n ⟨64 * h.val + d.val, by omega⟩)) := by
    funext n
    rw [gate_at]
    simp only [Nat.mul_comm h.val 64]
    exact if_congr Iff.rfl (gate_eq _ _ (fun _ => hq _) (fun _ => hk _)).1 rfl
  have hn : ∀ n, rGate q km (ix4 b s h n) ≠ (⊥ : EReal) := fun n => by
    rw [show rGate q km (ix4 b s h n) = _ from congrFun hg n]
    unfold gateRow
    split
    · exact (gate_eq _ _ (fun _ => hq _) (fun _ => hk _)).2
    · exact neg_ne
  rw [mask_at _ b s h n _ (top_at _ b s h hn), hg]
  rfl

variable (m : (ℓ : Loc nD τ sig) → Buf (Elt Ideal) ℓ) (m' : (ℓ : Loc Reference5Ideal.nD Reference5Ideal.τ Reference5Ideal.sig) → Buf (Elt Ideal) ℓ) (c : Dev nD)

/-- The call's first result array is the reference's first result when the arguments agree and are finite. -/
theorem tie_q [Cert.Pre_finite_queries.Facts]
    (hp : Cert.Pre_finite_queries.fn (F := Ideal) (m ((c.tc : Thread nD τ).loc main_arg0)) (m ((c.tc : Thread nD τ).loc main_arg1))
      (m ((c.tc : Thread nD τ).loc main_arg2)) = fun _ => 1#1)
    (h0 : m' ((c.tc : Thread Reference5Ideal.nD Reference5Ideal.τ).loc Reference5Ideal.main_arg0) = m ((c.tc : Thread nD τ).loc main_arg0))
    (h2 : m' ((c.tc : Thread Reference5Ideal.nD Reference5Ideal.τ).loc Reference5Ideal.main_arg2) = m ((c.tc : Thread nD τ).loc main_arg2)) :
    (Reference5Ideal.Value.res_main_v63 m' c : S2x16384x1024.Idx → EReal) = (Gen.dats m 0 c).arrAt 3 cfg0.N := by
  obtain ⟨hq, hk⟩ := finite_of_pre _ _ _ hp
  refine Eq.trans ?_ (arr3 m c).symm
  rw [res_stages, h0, h2]
  funext i
  idx_vars i
  rw [join_at, ref_masks _ _ hq hk]
  rfl

/-- The call's second result array is the reference's second result when the arguments agree. -/
theorem tie_k (h1 : m' ((c.tc : Thread Reference5Ideal.nD Reference5Ideal.τ).loc Reference5Ideal.main_arg1) = m ((c.tc : Thread nD τ).loc main_arg1)) :
    (rJoin (m' ((c.tc : Thread Reference5Ideal.nD Reference5Ideal.τ).loc Reference5Ideal.main_arg1)) rMark : S2x16384x1024.Idx → EReal)
      = (Gen.dats m 0 c).arrAt 4 cfg0.N := by
  refine Eq.trans ?_ (arr4 m c).symm
  rw [h1]
  funext i
  idx_vars i
  rw [join_at, mark_at]
  rfl

end Tie

end Cert.Moba
end
-- ==== Proof.BiasKernel.lean ====
/-
  The relative-position bias: what the kernel's body leaves in its tile, entry by entry of the table.
-/
module

public import proofs.«01_k».proof.Proof.MobaKernel
public import proofs.«01_k».proof.Proof.Gen.Kernel6Ideal.Value

@[expose] public section

set_option maxRecDepth 16384

noncomputable section

namespace Cert.Bias

open Idealize.ShloMosaic Idealize.ShloMosaic.TcCoe Idealize.SL.Sem
open Idealize.ShloMosaic.Pipeline (Dat)
open Cert.Kernel6Ideal Cert.Kernel6Ideal.Gen

/-- The distance of a query from a key of the tiles at offset w. -/
def dist (w p j : ℕ) : BitVec 32 :=
  256#32 * (BitVec.ofNat 32 w - 1#32) + BitVec.ofNat 32 j - BitVec.ofNat 32 p

/-- The distance's bucket. -/
def bucket (d : BitVec 32) : BitVec 32 :=
  Scalar.select (Scalar.cmpi .slt (IntOp.maxsi d 0#32) 16#32) (IntOp.maxsi d 0#32)
    (IntOp.minsi (16#32 + Ideal.fptosi 32 (Ideal.div (Ideal.log (Ideal.div (((IntOp.maxsi (IntOp.maxsi d 0#32) 1#32).toInt : ℝ) : EReal)
      (Ideal.ofBits .f32 0x41800000#32))) (Ideal.ofBits .f32 0x40051592#32) * Ideal.ofBits .f32 0x41800000#32)) 31#32)

theorem dist_at (i : grid0.Coords) (p : Fin 256) (j : Fin 512) : k0_pay2 i (ix2 p j) = dist (i 0).val p.val j.val := by
  pointwise [k0_pay2]
  rfl

theorem bucket_at (i : grid0.Coords) (y : S256x512.Idx) : k0_pay3 (F := Ideal) i y = bucket (k0_pay2 i y) := rfl

/-- The row's value where the bucket is the row's, else the value before it. -/
def one (b : BitVec 32) (n : ℕ) (t a : EReal) : EReal := Scalar.select (IntOp.cmpi .eq b (BitVec.ofNat 32 n)) t a

/-- The value of the bucket's row, by one selection per row. -/
def chosen (b : BitVec 32) (t : Fin 32 → EReal) : EReal :=
  (List.finRange 32).foldl (fun a n => one b n.val (t n) a) 0

theorem chosen_eq (n : Fin 32) (t : Fin 32 → EReal) : chosen (BitVec.ofNat 32 n.val) t = t n := by
  fin_cases n <;> rfl

theorem pay4_at (i : grid0.Coords) (v : Fin 32 → EReal) (y : S256x512.Idx) :
    k0_pay4 (F := Ideal) i (v 0) (v 1) y = one (k0_pay3 (F := Ideal) i y) 1 (v 1) (one (k0_pay3 (F := Ideal) i y) 0 (v 0) (Ideal.ofBits .f32 0#32)) := rfl

variable (B : IVec S256x512 32) (A : FVec Ideal S256x512 .f32) (M : IVec S256x512 1) (v : Fin 32 → EReal) (y : S256x512.Idx)

theorem pay6_at : k0_pay6 (F := Ideal) B A M (v 2) (v 3) (v 4) (v 5) (v 6) (v 7) (v 8) y
    = one (B y) 8 (v 8) (one (B y) 7 (v 7) (one (B y) 6 (v 6) (one (B y) 5 (v 5) (one (B y) 4 (v 4) (one (B y) 3 (v 3) (Scalar.select (M y) (v 2) (A y))))))) := rfl

theorem pay9_at : k0_pay9 (F := Ideal) B A (k0_pay7 B) (k0_pay8 (v 9)) (v 10) (v 11) (v 12) (v 13) (v 14) (v 15) (v 16) y
    = one (B y) 16 (v 16) (one (B y) 15 (v 15) (one (B y) 14 (v 14) (one (B y) 13 (v 13) (one (B y) 12 (v 12) (one (B y) 11 (v 11) (one (B y) 10 (v 10) (one (B y) 9 (v 9) (A y)))))))) := rfl

theorem pay11_at : k0_pay11 (F := Ideal) B A (k0_pay10 B) (v 17) (v 18) (v 19) (v 20) (v 21) (v 22) (v 23) y
    = one (B y) 23 (v 23) (one (B y) 22 (v 22) (one (B y) 21 (v 21) (one (B y) 20 (v 20) (one (B y) 19 (v 19) (one (B y) 18 (v 18) (one (B y) 17 (v 17) (A y))))))) := rfl

theorem pay14_at : k0_pay14 (F := Ideal) B A (k0_pay12 B) (k0_pay13 (v 24)) (v 25) (v 26) (v 27) (v 28) (v 29) (v 30) (v 31) y
    = one (B y) 31 (v 31) (one (B y) 30 (v 30) (one (B y) 29 (v 29) (one (B y) 28 (v 28) (one (B y) 27 (v 27) (one (B y) 26 (v 26) (one (B y) 25 (v 25) (one (B y) 24 (v 24) (A y)))))))) := rfl

theorem chosen_chain (b : BitVec 32) : chosen b v = one b 31 (v 31) (one b 30 (v 30) (one b 29 (v 29) (one b 28 (v 28) (one b 27 (v 27) (one b 26 (v 26) (one b 25 (v 25) (one b 24 (v 24) (one b 23 (v 23) (one b 22 (v 22) (one b 21 (v 21) (one b 20 (v 20) (one b 19 (v 19) (one b 18 (v 18) (one b 17 (v 17) (one b 16 (v 16) (one b 15 (v 15) (one b 14 (v 14) (one b 13 (v 13) (one b 12 (v 12) (one b 11 (v 11) (one b 10 (v 10) (one b 9 (v 9) (one b 8 (v 8) (one b 7 (v 7) (one b 6 (v 6) (one b 5 (v 5) (one b 4 (v 4) (one b 3 (v 3) (one b 2 (v 2) (one b 1 (v 1) (one b 0 (v 0) (0)))))))))))))))))))))))))))))))) := rfl

theorem chain_at (i : grid0.Coords) :
    k0_pay14 (F := Ideal) (k0_pay3 (F := Ideal) i) (k0_pay11 (F := Ideal) (k0_pay3 (F := Ideal) i) (k0_pay9 (F := Ideal) (k0_pay3 (F := Ideal) i) (k0_pay6 (F := Ideal) (k0_pay3 (F := Ideal) i) (k0_pay4 (F := Ideal) i (v 0) (v 1)) (k0_pay5 (F := Ideal) i) (v 2) (v 3) (v 4) (v 5) (v 6) (v 7) (v 8))
      (k0_pay7 (k0_pay3 (F := Ideal) i)) (k0_pay8 (F := Ideal) (v 9)) (v 10) (v 11) (v 12) (v 13) (v 14) (v 15) (v 16))
      (k0_pay10 (k0_pay3 (F := Ideal) i)) (v 17) (v 18) (v 19) (v 20) (v 21) (v 22) (v 23)) (k0_pay12 (k0_pay3 (F := Ideal) i)) (k0_pay13 (F := Ideal) (v 24)) (v 25) (v 26) (v 27) (v 28) (v 29) (v 30) (v 31) y
      = chosen (bucket (k0_pay2 i y)) v := by
  rw [pay14_at, pay11_at, pay9_at, pay6_at, pay4_at, chosen_chain, Ideal.ofBits_zero_f32, ← bucket_at]
  rfl

theorem pay_at (u : FVec Ideal S256x512 .f32) (b : IVec S256x512 1) (x : EReal) (p : Fin 256) (j : Fin 512) :
    k0_pay1 (F := Ideal) u b x (ix4 0 0 p j) = Scalar.select (b (ix2 p j)) (u (ix2 p j) - x) Moba.neg := by
  pointwise [k0_pay1]
  rfl

variable (x0 : Vec Ideal S32x16 .f32)

/-- The words of one column of the table, as they are read. -/
def word (h : ℕ) (hh : h < 16) (n : Fin 32) : EReal :=
  View.ld x0 (Rect.unit (s := S32x16) ![n.val, h] S1x1.size (fun a => by
    fin_cases a
    · exact n.isLt
    · exact hh)) (Shape.Idx.first (show 0 < S1x1.numel by decide))

theorem word_eq (h : ℕ) (hh : h < 16) (n : Fin 32) : word x0 h hh n = x0 (ix2 n ⟨h, hh⟩) := by
  refine congrArg x0 (funext fun a => Fin.ext ?_)
  fin_cases a <;> rfl

theorem col_lt (i : grid0.Coords) : (BitVec.ofNat 32 (i 1).val).toNat = (i 1).val := by
  rw [BitVec.toNat_ofNat]
  exact Nat.mod_eq_of_lt (lt_trans (i 1).isLt (by decide))

variable (c : Dev nD) (i : grid0.Coords) (arg2 : Memref sig .tc .smem S32x16 .f32) (harg2 : arg2.IsWhole) (arg3 : Memref sig .tc .vmem S1x1x256x512 .f32) (harg3 : arg3.IsWhole)

theorem out_at (p : Fin 256) (j : Fin 512) : out0_A_1 c i arg2 harg2 arg3 harg3 x0 (ix4 0 0 p j)
    = Scalar.select (IntOp.cmpi .sge (dist (i 0).val p.val j.val) 0#32)
        (chosen (bucket (dist (i 0).val p.val j.val)) (fun n => x0 (ix2 n (i 1))) - x0 (ix2 31 (i 1))) Moba.neg := by
  have e := col_lt i
  have hh : (BitVec.ofNat 32 (i 1).val).toNat < 16 := lt_of_eq_of_lt e (i 1).isLt
  frame_out
  rw [pay_at]
  have hw : ∀ n, word x0 _ hh n = x0 (ix2 n (i 1)) := fun n =>
    (word_eq x0 _ hh n).trans (congrArg (fun q => x0 (ix2 n q)) (Fin.ext e))
  have h1 := (chain_at (word x0 _ hh) (ix2 p j) i).trans (congrArg₂ (fun d t => chosen (bucket d) t) (dist_at i p j) (funext hw))
  exact congr (congrArg₂ Scalar.select (congrArg (fun d => IntOp.cmpi .sge d 0#32) (dist_at i p j))
    (congrArg₂ (fun a b : EReal => a - b) h1 (hw 31))) rfl

end Cert.Bias

end
-- ==== Proof.BiasRange.lean ====
/-
  The bucket of a distance is one of the table's thirty-two rows.
-/
module

public import proofs.«01_k».proof.Proof.BiasKernel

@[expose] public section

noncomputable section

open Idealize.ShloMosaic
open Cert.Kernel6Ideal Cert.Kernel6Ideal.Gen

namespace Cert.Bias

theorem lit16 : Ideal.ofBits .f32 0x41800000#32 = ((16 : ℝ) : EReal) := by
  simp [Ideal.ofBits, Ideal.ieee, -EReal.coe_mul]; norm_num

theorem litlog : Ideal.ofBits .f32 0x40051592#32 = ((4360905 / 2097152 : ℝ) : EReal) := by
  simp [Ideal.ofBits, Ideal.ieee, -EReal.coe_mul]; norm_num

/-- The scaled logarithm of an integer from sixteen on is a real from 0 to 2 ^ 30. -/
theorem scaled (n : ℝ) (h16 : 16 ≤ n) (hn : n ≤ 2 ^ 31) : ∃ r : ℝ, 0 ≤ r ∧ r ≤ 2 ^ 30 ∧
    Ideal.div (Ideal.log (Ideal.div ((n : ℝ) : EReal) (Ideal.ofBits .f32 0x41800000#32))) (Ideal.ofBits .f32 0x40051592#32)
      * Ideal.ofBits .f32 0x41800000#32 = ((r : ℝ) : EReal) := by
  have e1 : Ideal.div ((n : ℝ) : EReal) ((16 : ℝ) : EReal) = ((n / 16 : ℝ) : EReal) := by
    rw [Ideal.div_coe (by norm_num), ← EReal.coe_mul]
    congr 1
    ring
  have hp : 0 < n / 16 := by linarith
  have e2 : Ideal.log ((n / 16 : ℝ) : EReal) = ((Real.log (n / 16) : ℝ) : EReal) := if_neg (not_le.mpr hp)
  refine ⟨Real.log (n / 16) / (4360905 / 2097152) * 16, ?_, ?_, ?_⟩
  · have := Real.log_nonneg (show 1 ≤ n / 16 by linarith)
    positivity
  · have := Real.log_le_sub_one_of_pos hp
    have h : Real.log (n / 16) / (4360905 / 2097152) * 16 = Real.log (n / 16) * (16 * 2097152 / 4360905) := by ring
    rw [h]
    nlinarith
  · rw [lit16, litlog, e1, e2]
    have e3 : Ideal.div ((Real.log (n / 16) : ℝ) : EReal) ((4360905 / 2097152 : ℝ) : EReal)
        = ((Real.log (n / 16) / (4360905 / 2097152) : ℝ) : EReal) := by
      rw [Ideal.div_coe (by norm_num), ← EReal.coe_mul]
      congr 1
      ring
    rw [e3, ← EReal.coe_mul]

theorem toInt_maxsi (x y : BitVec 32) : (IntOp.maxsi x y).toInt = max x.toInt y.toInt := by
  unfold IntOp.maxsi
  rcases le_or_gt x.toInt y.toInt with h | h
  · rw [if_neg (by simpa [BitVec.slt_iff_toInt_lt] using h), max_eq_right h]
  · rw [if_pos (by simpa [BitVec.slt_iff_toInt_lt] using h), max_eq_left h.le]

/-- A word from 0 to 31 is a row. -/
theorem row_of (x : BitVec 32) (h0 : 0 ≤ x.toInt) (h : x.toInt < 32) : ∃ n : Fin 32, x = BitVec.ofNat 32 n.val := by
  have e : (x.toInt.toNat : ℤ) = x.toInt := Int.toNat_of_nonneg h0
  refine ⟨⟨x.toInt.toNat, by omega⟩, BitVec.eq_of_toInt_eq ?_⟩
  have : (BitVec.ofNat 32 x.toInt.toNat).toInt = x.toInt := by
    rw [BitVec.toInt_ofNat', e]
    exact Int.bmod_eq_of_le (by omega) (by omega)
  exact this.symm

theorem bucket_row (d : BitVec 32) : ∃ n : Fin 32, bucket d = BitVec.ofNat 32 n.val := by
  unfold bucket
  have hm : (IntOp.maxsi d 0#32).toInt = max d.toInt 0 := toInt_maxsi d 0#32
  generalize IntOp.maxsi d 0#32 = m at hm
  have h0 : 0 ≤ m.toInt := hm ▸ le_max_right _ _
  have h16 : (16#32).toInt = 16 := rfl
  have h31 : (31#32).toInt = 31 := rfl
  by_cases h : m.toInt < 16
  · have e : Scalar.cmpi .slt m 16#32 = 1#1 := by
      show BitVec.ofBool (m.slt 16#32) = 1#1
      rw [BitVec.slt_iff_toInt_lt.mpr (by omega)]
      rfl
    rw [e]
    exact row_of m h0 (by omega)
  · have e : Scalar.cmpi .slt m 16#32 = 0#1 := by
      show BitVec.ofBool (m.slt 16#32) = 0#1
      rw [show m.slt 16#32 = false from Bool.eq_false_iff.mpr fun hs => h (by have := BitVec.slt_iff_toInt_lt.mp hs; omega)]
      rfl
    rw [e]
    have h1 : (IntOp.maxsi m 1#32).toInt = m.toInt := (toInt_maxsi m 1#32).trans (max_eq_left (by show (1 : ℤ) ≤ _; omega))
    have hb : m.toInt < 2 ^ 31 := BitVec.toInt_lt (x := m)
    obtain ⟨r, r0, r1, hr⟩ := scaled (m.toInt : ℝ) (by exact_mod_cast not_lt.mp h) (by exact_mod_cast hb.le)
    rw [h1, hr]
    have f0 : 0 ≤ ⌊r⌋ := Int.floor_nonneg.mpr r0
    have f1 : ⌊r⌋ ≤ 2 ^ 30 := by
      have := (Int.floor_le r).trans r1
      exact_mod_cast this
    have ef : Ideal.fptosi 32 ((r : ℝ) : EReal) = BitVec.ofInt 32 ⌊r⌋ := by
      show BitVec.ofInt 32 (max _ (min _ (if 0 ≤ r then ⌊r⌋ else ⌈r⌉))) = _
      rw [if_pos r0, min_eq_right (by norm_num; omega), max_eq_right (by norm_num; omega)]
    rw [ef]
    have es : (16#32 + BitVec.ofInt 32 ⌊r⌋).toInt = 16 + ⌊r⌋ := by
      rw [BitVec.toInt_add, BitVec.toInt_ofInt, h16, Int.bmod_eq_of_le (n := ⌊r⌋) (by omega) (by omega)]
      exact Int.bmod_eq_of_le (by omega) (by omega)
    generalize 16#32 + BitVec.ofInt 32 ⌊r⌋ = x at es
    show ∃ n : Fin 32, (if x.slt 31#32 then x else 31#32) = _
    by_cases hx : x.slt 31#32
    · rw [if_pos hx]
      have := BitVec.slt_iff_toInt_lt.mp hx
      exact row_of x (by omega) (by omega)
    · rw [if_neg hx]
      exact ⟨31, rfl⟩

end Cert.Bias

end
-- ==== Proof.BiasBlocks.lean ====
/-
  The relative-position bias: the result array, entry by entry of the table.
-/
module

public import proofs.«01_k».proof.Proof.BiasRange

@[expose] public section

set_option maxRecDepth 16384

noncomputable section

namespace Cert.Bias

open Idealize.ShloMosaic Idealize.ShloMosaic.TcCoe Idealize.SL.Sem
open Idealize.ShloMosaic.Pipeline (Dat)
open Cert.Kernel6Ideal Cert.Kernel6Ideal.Gen

/-- The tile at offset w of head h, at a query and a key. -/
def tile (a : S32x16.Idx → EReal) (w : Fin 3) (h : Fin 16) (p : Fin 256) (j : Fin 512) : EReal :=
  Scalar.select (IntOp.cmpi .sge (dist w.val p.val j.val) 0#32)
    (chosen (bucket (dist w.val p.val j.val)) (fun n => a (ix2 n h)) - a (ix2 31 h)) Moba.neg

variable (m : (ℓ : Loc nD τ sig) → Buf (Elt Ideal) ℓ) (c : Dev nD)

theorem V_arg0 (i : S32x16.Idx) : (V m c main_arg0 : S32x16.Idx → EReal) i = (m ((c : Thread nD τ).loc main_arg0) : S32x16.Idx → EReal) i := by
  unfold V
  after_reads_at

theorem blk0 (t : Fin grid0.N) (n : Fin 32) (h : Fin 16) :
    (iblk m c 0 t : S32x16.Idx → EReal) (ix2 n h) = (m ((c : Thread nD τ).loc main_arg0) : S32x16.Idx → EReal) (ix2 n h) := by
  have e := (by decide +kernel : ∀ t : Fin grid0.N, win0_0.index t = ![0, 0]) t
  rw [← V_arg0 m c]
  blk_ext [iblk, e]

theorem coord0 (t : Fin grid0.N) : (grid0.coords t 0).val = t.val / 16 :=
  (by decide +kernel : ∀ t : Fin grid0.N, (grid0.coords t 0).val = t.val / 16) t

theorem coord1 (t : Fin grid0.N) : (grid0.coords t 1).val = t.val % 16 :=
  (by decide +kernel : ∀ t : Fin grid0.N, (grid0.coords t 1).val = t.val % 16) t

theorem arr1 : ((dats m 0 c).arrAt 1 cfg0.N : S3x16x256x512.Idx → EReal)
    = fun i => tile (m ((c : Thread nD τ).loc main_arg0)) (i 0) (i 1) (i 2) (i 3) := by
  refine (dats m 0 c).arrAt_eq_of_covers 1 _ (by decide +kernel) fun t hf y => ?_
  have e := (by decide +kernel : ∀ t : Fin grid0.N, win0_1.index t = ![t.val / 16, t.val % 16, 0, 0]) t
  have ht : t.val < 48 := N_0 ▸ t.isLt
  have lw : t.val / 16 < 3 := by omega
  have lh : t.val % 16 < 16 := by omega
  blk_simp
  rw [after0_1]
  idx_vars y
  obtain rfl : y0 = 0 := Subsingleton.elim _ _
  obtain rfl : y1 = 0 := Subsingleton.elim _ _
  have hw : (((View.whole main_v0).slice (win0_1.rect t)).emb (ix4 0 0 y2 y3) 0 : Fin 3) = ⟨t.val / 16, lw⟩ := by
    apply Fin.ext
    blk_simp [e]
    rfl
  have hh : (((View.whole main_v0).slice (win0_1.rect t)).emb (ix4 0 0 y2 y3) 1 : Fin 16) = ⟨t.val % 16, lh⟩ := by
    apply Fin.ext
    blk_simp [e]
    rfl
  have hp : (((View.whole main_v0).slice (win0_1.rect t)).emb (ix4 0 0 y2 y3) 2 : Fin 256) = y2 := by
    apply Fin.ext
    blk_simp [e]
  have hj : (((View.whole main_v0).slice (win0_1.rect t)).emb (ix4 0 0 y2 y3) 3 : Fin 512) = y3 := by
    apply Fin.ext
    blk_simp [e]
  refine Eq.trans ?_ (congr (congr (congrArg₂ (tile (m ((c : Thread nD τ).loc main_arg0))) hw.symm hh.symm) hp.symm) hj.symm)
  refine (out_at _ _ _ _ _ _ _ y2 y3).trans ?_
  have h1 : (grid0.coords t 1 : Fin 16) = ⟨t.val % 16, lh⟩ := Fin.ext (coord1 t)
  unfold tile
  rw [coord0, h1]
  have hb := fun n => blk0 m c t n ⟨t.val % 16, lh⟩
  exact congrArg₂ (fun (f : Fin 32 → EReal) (x : EReal) => Scalar.select _ (chosen _ f - x) _) (funext hb) (hb 31)

end Cert.Bias

end
-- ==== Proof.BiasRef.lean ====
/-
  The relative-position bias: the reference's result, entry by entry of the table, and its tie to the kernel's.
-/
module

public import proofs.«01_k».proof.Proof.BiasBlocks
public import proofs.«01_k».proof.Proof.Gen.Reference6Ideal.Run

@[expose] public section

set_option maxRecDepth 16384

noncomputable section

namespace Cert.Bias

open Idealize.ShloMosaic Idealize.ShloMosaic.TcCoe Idealize.SL.Sem
open Cert.Reference6Ideal Cert.Reference6Ideal.Gen Cert.Reference6Ideal.Value

/-- The distances. -/
def rDist : IVec S3x256x512 32 :=
  subi (broadcastInDim S3x256x512 ![0, 1, 2] bcast_S3x1x512_S3x256x512_0_1_2
      (addi (broadcastInDim S3x1x512 ![0, 1, 2] bcast_S3x1x1_S3x1x512_0_1_2
          (muli (broadcastInDim S3x1x1 ![] bcast_S_S3x1x1 (constantI S_ 32 256#32))
            (subi (broadcastInDim S3x1x1 ![0] bcast_S3_S3x1x1_0 (iotaInDim S3 32 0)) (broadcastInDim S3x1x1 ![] bcast_S_S3x1x1 (constantI S_ 32 1#32)))))
        (broadcastInDim S3x1x512 ![0, 1, 2] bcast_S1x1x512_S3x1x512_0_1_2 (broadcastInDim S1x1x512 ![2] bcast_S512_S1x1x512_2 (iotaInDim S512 32 0)))))
    (broadcastInDim S3x256x512 ![0, 1, 2] bcast_S1x256x1_S3x256x512_0_1_2 (broadcastInDim S1x256x1 ![1] bcast_S256_S1x256x1_1 (iotaInDim S256 32 0)))

/-- The buckets of distances. -/
def rBucket (d : IVec S3x256x512 32) : IVec S3x256x512 32 :=
  select (cmpi .slt (maxsi d (broadcastInDim S3x256x512 ![] bcast_S_S3x256x512 (constantI S_ 32 0#32))) (broadcastInDim S3x256x512 ![] bcast_S_S3x256x512 (constantI S_ 32 16#32)))
    (maxsi d (broadcastInDim S3x256x512 ![] bcast_S_S3x256x512 (constantI S_ 32 0#32)))
    (minsi (addi (broadcastInDim S3x256x512 ![] bcast_S_S3x256x512 (constantI S_ 32 16#32))
        (fptosi 32 (mulf (Host.divf (Host.log (Host.divf (sitofp (F := Ideal) .f32 (maxsi (maxsi d (broadcastInDim S3x256x512 ![] bcast_S_S3x256x512 (constantI S_ 32 0#32)))
              (broadcastInDim S3x256x512 ![] bcast_S_S3x256x512 (constantI S_ 32 1#32))))
            (broadcastInDim S3x256x512 ![] bcast_S_S3x256x512 (constant S_ .f32 0x41800000#32))))
          (broadcastInDim S3x256x512 ![] bcast_S_S3x256x512 (constant S_ .f32 0x40051592#32)))
          (broadcastInDim S3x256x512 ![] bcast_S_S3x256x512 (constant S_ .f32 0x41800000#32)))))
      (broadcastInDim S3x256x512 ![] bcast_S_S3x256x512 (constantI S_ 32 31#32)))

/-- The rows that buckets select, a negative one counted from the end. -/
def rRow (b : IVec S3x256x512 32) : IVec S3x256x512x1 32 :=
  broadcastInDim S3x256x512x1 ![0, 1, 2] bcast_S3x256x512_S3x256x512x1_0_1_2
    (select (cmpi .slt b (broadcastInDim S3x256x512 ![] bcast_S_S3x256x512 (constantI S_ 32 0#32)))
      (addi b (broadcastInDim S3x256x512 ![] bcast_S_S3x256x512 (constantI S_ 32 32#32))) b)

/-- The tables' tiles from the distances and the selected rows. -/
def rTile (a : FVec Ideal S32x16 .f32) (d : IVec S3x256x512 32) (g : FVec Ideal S3x256x512x16 .f32) : FVec Ideal S3x16x256x512 .f32 :=
  select (broadcastInDim S3x16x256x512 ![0, 1, 2, 3] bcast_S3x1x256x512_S3x16x256x512_0_1_2_3
      (broadcastInDim S3x1x256x512 ![0, 2, 3] bcast_S3x256x512_S3x1x256x512_0_2_3 (cmpi .sge d (broadcastInDim S3x256x512 ![] bcast_S_S3x256x512 (constantI S_ 32 0#32)))))
    (subf (transpose S3x16x256x512 [0, 3, 1, 2] g transposes_S3x256x512x16_S3x16x256x512_0_3_1_2)
      (broadcastInDim S3x16x256x512 ![0, 1, 2, 3] bcast_S1x16x1x1_S3x16x256x512_0_1_2_3 (broadcastInDim S1x16x1x1 ![1] bcast_S16_S1x16x1x1_1
        (shapeCast _ (extractStridedSlice S1x16 ![31, 0] a slices_S32x16_S1x16_31_0) shapeCasts_S1x16_S16))))
    (broadcastInDim S3x16x256x512 ![] bcast_S_S3x16x256x512 (id (constant S_ .f32 0xF149F2CA#32)))

theorem rDist_at (w : Fin 3) (p : Fin 256) (j : Fin 512) : rDist (ix3 w p j) = dist w.val p.val j.val := by
  pointwise [rDist]
  rfl

theorem rBucket_at (d : IVec S3x256x512 32) (w : Fin 3) (p : Fin 256) (j : Fin 512) : rBucket d (ix3 w p j) = bucket (d (ix3 w p j)) := by
  pointwise [rBucket]
  rfl

theorem rRow_at (b : IVec S3x256x512 32) (w : Fin 3) (p : Fin 256) (j : Fin 512) (n : Fin 32) (hn : b (ix3 w p j) = BitVec.ofNat 32 n.val) :
    rRow b (ix4 w p j 0) = BitVec.ofNat 32 n.val := by
  pointwise [rRow]
  rw [hn]
  clear hn
  revert n
  decide

theorem rTile_at (a : FVec Ideal S32x16 .f32) (d : IVec S3x256x512 32) (g : FVec Ideal S3x256x512x16 .f32) (w : Fin 3) (h : Fin 16) (p : Fin 256) (j : Fin 512) :
    rTile a d g (ix4 w h p j) = Scalar.select (IntOp.cmpi .sge (d (ix3 w p j)) 0#32) (g (ix4 w p j h) - a (ix2 31 h)) Moba.neg := by
  pointwise [rTile]
  rfl

/-- A row of the table is read whole. -/
theorem gather_at (a : FVec Ideal S32x16 .f32) (r : IVec S3x256x512x1 32) (w : Fin 3) (h : Fin 16) (p : Fin 256) (j : Fin 512) (n : Fin 32)
    (hn : r (ix4 w p j 0) = BitVec.ofNat 32 n.val) :
    Host.gather gather_S32x16_S3x256x512x1_S3x256x512x16_3_0_n_n_0_3_116 a r (ix4 w p j h) = a (ix2 n h) := by
  unfold Host.gather
  refine congrArg a (funext fun b => Fin.ext ?_)
  show gather_S32x16_S3x256x512x1_S3x256x512x16_3_0_n_n_0_3_116.start _ r b
    + gather_S32x16_S3x256x512x1_S3x256x512x16_3_0_n_n_0_3_116.batchCoord _ b
    + gather_S32x16_S3x256x512x1_S3x256x512x16_3_0_n_n_0_3_116.offCoord _ b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · have hs : gather_S32x16_S3x256x512x1_S3x256x512x16_3_0_n_n_0_3_116.siIdx (ix4 w p j h) ⟨0, by decide⟩ = ix4 w p j 0 := by
      funext b
      refine Fin.ext ?_
      fin_cases b <;> rfl
    rw [GatherDims.offCoord_eq_zero _ _ _ (fun h => ((GatherDims.mem_sKept _ _).mp h).1 (List.mem_singleton.mpr rfl))]
    unfold GatherDims.start
    rw [dif_pos (show (0 : Fin 2) ∈ gather_S32x16_S3x256x512x1_S3x256x512x16_3_0_n_n_0_3_116.startIndexMap from List.mem_singleton.mpr rfl)]
    refine (congrArg (fun q => min (r q).toInt.toNat 31) hs).trans ?_
    show min (r (ix4 w p j 0)).toInt.toNat 31 = n.val
    rw [hn]
    clear hn
    revert n
    decide
  · unfold GatherDims.start
    rw [dif_neg (show (1 : Fin 2) ∉ gather_S32x16_S3x256x512x1_S3x256x512x16_3_0_n_n_0_3_116.startIndexMap from fun h => absurd (List.mem_singleton.mp h) (by decide))]
    unfold GatherDims.offCoord
    rw [dif_pos ((GatherDims.mem_sKept _ _).mpr ⟨fun h => absurd (List.mem_singleton.mp h) (by decide), List.not_mem_nil⟩)]
    exact Nat.zero_add _

variable (m : (ℓ : Loc nD τ sig) → Buf (Elt Ideal) ℓ) (c : Dev nD)

theorem res_stages : (res_main_v52 m c : S3x16x256x512.Idx → EReal)
    = rTile (m ((c.tc : Thread nD τ).loc main_arg0)) rDist
        (Host.gather gather_S32x16_S3x256x512x1_S3x256x512x16_3_0_n_n_0_3_116 (m ((c.tc : Thread nD τ).loc main_arg0)) (rRow (rBucket rDist))) := rfl

theorem res_at (w : Fin 3) (h : Fin 16) (p : Fin 256) (j : Fin 512) :
    (res_main_v52 m c : S3x16x256x512.Idx → EReal) (ix4 w h p j) = tile (m ((c.tc : Thread nD τ).loc main_arg0)) w h p j := by
  obtain ⟨n, hn⟩ := bucket_row (dist w.val p.val j.val)
  have hb : rBucket rDist (ix3 w p j) = BitVec.ofNat 32 n.val := by rw [rBucket_at, rDist_at, hn]
  rw [res_stages, rTile_at, gather_at _ _ w h p j n (rRow_at _ w p j n hb), rDist_at]
  unfold tile
  rw [hn, chosen_eq]

/-- The call's result array is the reference's result when the arguments agree. -/
theorem tie (m : (ℓ : Loc Kernel6Ideal.nD Kernel6Ideal.τ Kernel6Ideal.sig) → Buf (Elt Ideal) ℓ) (m' : (ℓ : Loc nD τ sig) → Buf (Elt Ideal) ℓ) (c : Dev nD)
    (h0 : m' ((c.tc : Thread nD τ).loc main_arg0) = m ((c.tc : Thread Kernel6Ideal.nD Kernel6Ideal.τ).loc Kernel6Ideal.main_arg0)) :
    (res_main_v52 m' c : S3x16x256x512.Idx → EReal) = (Kernel6Ideal.Gen.dats m 0 c).arrAt 1 Kernel6Ideal.cfg0.N := by
  refine Eq.trans ?_ (arr1 m c).symm
  funext i
  idx_vars i
  rw [res_at, h0]

end Cert.Bias

end
-- ==== Proof.lean ====
/-
  The proof of the claim. The frames of the kernels are the generated ones; the references' frames follow from their runs;
  each value claim ties the kernel's result arrays to the reference's results by the lemmas of the modules beside this one.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.RnnTie
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.PostValue
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.InprojValue
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.PostMid
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.MobaTie
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.BiasRef
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8⟩ := hagree c
  rw [(h c).1]
  exact Cert.Rnn.tie m m' c h0 h1 h2 h3 h4 h5 h6 h7 h8

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨fun c => (Cert.Kernel2Ideal.Gen.dats m 0 c).arrAt 13 Cert.Kernel2Ideal.cfg0.N, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6, h7, h8, h9, h10, h11, h12⟩ := hagree c
  rw [(h c).1]
  exact Cert.Post.tie m m' c h0 h1 h2 h3 h4 h5 h6 h7 h8 h9 h10 h11 h12

theorem quiescent_Reference3Ideal : quiescent_Reference3Ideal := fun m ρ _ =>
  (θ_run Cert.Reference3Ideal.defs _ _).mono (fun r h => ⟨fun c => (h c).2.2.2.2.2.2.2.2.2.2.2.2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N, fun c => (Cert.Kernel3Ideal.Gen.dats m 0 c).arrAt 5 Cert.Kernel3Ideal.cfg0.N, fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, fun c => (Cert.Kernel3Ideal.Gen.dats m 0 c).arrAt 11 Cert.Kernel3Ideal.cfg0.N, fun c => (Cert.Kernel3Ideal.Gen.dats m 0 c).arrAt 12 Cert.Kernel3Ideal.cfg0.N, fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N,
    Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2⟩ := hagree c
  obtain ⟨r0, r1, r2, r3, r4, r5, r6, r7, r8, r9, r10, r11, r12, hargs⟩ := h c
  refine ⟨r0.trans (Cert.Inproj.tie0 m m' c h0 h1 h2), r1.trans (Cert.Inproj.tie1 m m' c h0 h1 h2), r2.trans (Cert.Inproj.tie2 m m' c h0 h1 h2), r3.trans (Cert.Inproj.tie3 m m' c h0 h1 h2), r4.trans (Cert.Inproj.tie4 m m' c h0 h1 h2), r5.trans (Cert.Inproj.tie5 m m' c h0 h1 h2), r6.trans (Cert.Inproj.tie6 m m' c h0 h1 h2), r7.trans (Cert.Inproj.tie7 m m' c h0 h1 h2), r8.trans (Cert.Inproj.tie8 m m' c h0 h1 h2), r9.trans (Cert.Inproj.tie9 m m' c h0 h1 h2), r10.trans (Cert.Inproj.tie10 m m' c h0 h1 h2), r11.trans (Cert.Inproj.tie11 m m' c h0 h1 h2), r12.trans (Cert.Inproj.tie12 m m' c h0 h1 h2), hargs⟩

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨fun c => (Cert.Kernel4Ideal.Gen.dats m 0 c).arrAt 13 Cert.Kernel4Ideal.cfg0.N, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨h0, h1, h2, h3, h4, h5, h6, h7, h8, h9, h10, h11, h12⟩ := hagree c
  rw [(h c).1]
  exact Cert.PostMid.tie m m' c h0 h1 h2 h3 h4 h5 h6 h7 h8 h9 h10 h11

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic_Kernel5Ideal_Reference5Ideal : algebraic_Kernel5Ideal_Reference5Ideal_pre_finite_queries (hPre_finite_queries := Cert.Pre_finite_queries.facts) := by
  intro m ρ m' ρ' hp hagree
  refine ⟨fun c => (Cert.Kernel5Ideal.Gen.dats m 0 c).arrAt 3 Cert.Kernel5Ideal.cfg0.N, fun c => (Cert.Kernel5Ideal.Gen.dats m 0 c).arrAt 4 Cert.Kernel5Ideal.cfg0.N,
    Cert.Kernel5Ideal.Value.run_blocks (F := Ideal) m ρ, ?_⟩
  refine (θ_run Cert.Reference5Ideal.defs _ _).mono (fun _ h c => ?_) (Cert.Reference5Ideal.Value.run (F := Ideal) m' ρ')
  obtain ⟨h0, h1, h2⟩ := hagree c
  obtain ⟨r0, r1, hargs⟩ := h c
  exact ⟨r0.trans (@Cert.Moba.tie_q m m' c Cert.Pre_finite_queries.facts (hp c) h0 h2), r1.trans (Cert.Moba.tie_k m m' c h1), hargs⟩

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨fun c => (Cert.Kernel6Ideal.Gen.dats m 0 c).arrAt 1 Cert.Kernel6Ideal.cfg0.N, Cert.Kernel6Ideal.Value.run_blocks (F := Ideal) m ρ, ?_⟩
  refine (θ_run Cert.Reference6Ideal.defs _ _).mono (fun _ h c => ?_) (Cert.Reference6Ideal.Value.run (F := Ideal) m' ρ')
  exact ⟨(h c).1.trans (Cert.Bias.tie m m' c (hagree c)), (h c).2⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_queries.facts,
    fun m ρ _ => Cert.Kernel.Gen.frame m ρ,
    fun m ρ _ => Cert.KernelIdeal.Gen.frame m ρ,
    quiescent_ReferenceIdeal,
    fun m ρ _ => Cert.Kernel2.Gen.frame m ρ,
    fun m ρ _ => Cert.Kernel2Ideal.Gen.frame m ρ,
    quiescent_Reference2Ideal,
    fun m ρ _ => Cert.Kernel3.Gen.frame m ρ,
    fun m ρ _ => Cert.Kernel3Ideal.Gen.frame m ρ,
    quiescent_Reference3Ideal,
    fun m ρ _ => Cert.Kernel4.Gen.frame m ρ,
    fun m ρ _ => Cert.Kernel4Ideal.Gen.frame m ρ,
    quiescent_Reference4Ideal,
    fun m ρ _ => Cert.Kernel5.Gen.frame m ρ,
    fun m ρ _ => Cert.Kernel5Ideal.Gen.frame m ρ,
    fun m ρ _ => Cert.Kernel5Ideal.Gen.frame m ρ,
    quiescent_Reference5Ideal,
    fun m ρ _ => quiescent_Reference5Ideal m ρ trivial,
    fun m ρ _ => Cert.Kernel6.Gen.frame m ρ,
    fun m ρ _ => Cert.Kernel6Ideal.Gen.frame m ρ,
    quiescent_Reference6Ideal,
    (trivial : preserves_Kernel_KernelIdeal), algebraic_KernelIdeal_ReferenceIdeal,
    (trivial : preserves_Kernel2_Kernel2Ideal), algebraic_Kernel2Ideal_Reference2Ideal,
    (trivial : preserves_Kernel3_Kernel3Ideal), algebraic_Kernel3Ideal_Reference3Ideal,
    (trivial : preserves_Kernel4_Kernel4Ideal), algebraic_Kernel4Ideal_Reference4Ideal,
    (trivial : preserves_Kernel5_Kernel5Ideal), algebraic_Kernel5Ideal_Reference5Ideal,
    (trivial : preserves_Kernel6_Kernel6Ideal), algebraic_Kernel6Ideal_Reference6Ideal⟩

end Cert.Proof
